-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v42) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v38) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_scores.lean ====
abbrev S32768x3072 : Shape := ⟨2, ![32768, 3072]⟩
abbrev S4x8x513 : Shape := ⟨3, ![4, 8, 513]⟩
abbrev S32768x2048 : Shape := ⟨2, ![32768, 2048]⟩
abbrev S_ : Shape := ⟨0, ![]⟩
abbrev S1x8x513 : Shape := ⟨3, ![1, 8, 513]⟩
abbrev S8x513 : Shape := ⟨2, ![8, 513]⟩

class Facts : Prop where
  slices_S32768x3072_S32768x2048_0_0 : S32768x3072.Slices ![0, 0] S32768x2048
  bcast_S_S32768x2048 : S_.BroadcastsInDim S32768x2048 (![] : Fin 0 → Fin S32768x2048.rank)
  slices_S4x8x513_S1x8x513_0_0_0 : S4x8x513.Slices ![0, 0, 0] S1x8x513
  shapeCasts_S1x8x513_S8x513 : S1x8x513.ShapeCasts S8x513
  bcast_S_S8x513 : S_.BroadcastsInDim S8x513 (![] : Fin 0 → Fin S8x513.rank)

variable [Facts]

def fn {F : FTy → Type} [FloatOps F] (main_arg0 : FVec F S32768x3072 .bf16) (main_arg1 : FVec F S4x8x513 .f32) : IVec S32768x2048 1 × IVec S8x513 1 :=
  let main_v0 : FVec F S32768x2048 .bf16 := (extractStridedSlice S32768x2048 ![0, 0] · slices_S32768x3072_S32768x2048_0_0) main_arg0
  let main_v1 : FVec F S32768x2048 .bf16 := Host.absf main_v0
  let main_cst : FVec F S_ .bf16 := constant S_ .bf16 0x7F80#16
  let main_v2 : FVec F S32768x2048 .bf16 := broadcastInDim S32768x2048 ![] bcast_S_S32768x2048 main_cst
  let main_v3 : IVec S32768x2048 1 := cmpf .olt main_v1 main_v2
  let main_v4 : FVec F S1x8x513 .f32 := (extractStridedSlice S1x8x513 ![0, 0, 0] · slices_S4x8x513_S1x8x513_0_0_0) main_arg1
  let main_v5 : FVec F S8x513 .f32 := shapeCast S8x513 main_v4 shapeCasts_S1x8x513_S8x513
  let main_v6 : FVec F S8x513 .f32 := Host.absf main_v5
  let main_cst_0 : FVec F S_ .f32 := constant S_ .f32 0x7F800000#32
  let main_v7 : FVec F S8x513 .f32 := broadcastInDim S8x513 ![] bcast_S_S8x513 main_cst_0
  let main_v8 : IVec S8x513 1 := cmpf .olt main_v6 main_v7
  (main_v3, main_v8)
-- ==== Kernel.lean ====
abbrev S32768x3072 : Shape := ⟨2, ![32768, 3072]⟩
abbrev S4x8x513 : Shape := ⟨3, ![4, 8, 513]⟩
abbrev S1536 : Shape := ⟨1, ![1536]⟩
abbrev S_ : Shape := ⟨0, ![]⟩
abbrev S1536x1 : Shape := ⟨2, ![1536, 1]⟩
abbrev S1 : Shape := ⟨1, ![1]⟩
abbrev S1x1 : Shape := ⟨2, ![1, 1]⟩
abbrev S4x8x1536 : Shape := ⟨3, ![4, 8, 1536]⟩
abbrev S4x8x1x1536 : Shape := ⟨4, ![4, 8, 1, 1536]⟩
abbrev S4x8x256x1536 : Shape := ⟨4, ![4, 8, 256, 1536]⟩
abbrev S4x8x393216 : Shape := ⟨3, ![4, 8, 393216]⟩
abbrev S4x8x392960 : Shape := ⟨3, ![4, 8, 392960]⟩
abbrev S4x8x256x1535 : Shape := ⟨4, ![4, 8, 256, 1535]⟩
abbrev S4x8x256x1280 : Shape := ⟨4, ![4, 8, 256, 1280]⟩
abbrev S256 : Shape := ⟨1, ![256]⟩
abbrev S256x1 : Shape := ⟨2, ![256, 1]⟩
abbrev S1280 : Shape := ⟨1, ![1280]⟩
abbrev S1x1280 : Shape := ⟨2, ![1, 1280]⟩
abbrev S256x1280 : Shape := ⟨2, ![256, 1280]⟩
abbrev S4x8x256x5x256 : Shape := ⟨5, ![4, 8, 256, 5, 256]⟩
abbrev S4x8x5x256x256 : Shape := ⟨5, ![4, 8, 5, 256, 256]⟩
abbrev S32768x1024 : Shape := ⟨2, ![32768, 1024]⟩
abbrev S256x1024 : Shape := ⟨2, ![256, 1024]⟩
abbrev S2048x1024 : Shape := ⟨2, ![2048, 1024]⟩
abbrev S1x8x5x256x256 : Shape := ⟨5, ![1, 8, 5, 256, 256]⟩
abbrev S256x128 : Shape := ⟨2, ![256, 128]⟩
abbrev S256x256 : Shape := ⟨2, ![256, 256]⟩
abbrev S1x1x1x256x256 : Shape := ⟨5, ![1, 1, 1, 256, 256]⟩

abbrev nBuf : Space → Nat
  | .hbm => 115
  | .vmem => 9
  | .smem => 0
  | _ => 0

abbrev bufTy : (tb : Table) → Fin (tcTables nBuf tb) → BufTy
  | .hbm, ⟨0, _⟩ => ⟨S32768x3072, .bf16⟩
  | .hbm, ⟨1, _⟩ => ⟨S4x8x513, .f32⟩
  | .hbm, ⟨2, _⟩ => ⟨S1536, .i32⟩
  | .hbm, ⟨3, _⟩ => ⟨S_, .i32⟩
  | .hbm, ⟨4, _⟩ => ⟨S1536, .i32⟩
  | .hbm, ⟨5, _⟩ => ⟨S1536, .i1⟩
  | .hbm, ⟨6, _⟩ => ⟨S1536, .i32⟩
  | .hbm, ⟨7, _⟩ => ⟨S_, .i32⟩
  | .hbm, ⟨8, _⟩ => ⟨S1536, .i32⟩
  | .hbm, ⟨9, _⟩ => ⟨S1536, .i32⟩
  | .hbm, ⟨10, _⟩ => ⟨S1536, .i32⟩
  | .hbm, ⟨11, _⟩ => ⟨S_, .i32⟩
  | .hbm, ⟨12, _⟩ => ⟨S1536, .i32⟩
  | .hbm, ⟨13, _⟩ => ⟨S1536, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1536, .i32⟩
  | .hbm, ⟨18, _⟩ => ⟨S1536, .i32⟩
  | .hbm, ⟨19, _⟩ => ⟨S_, .i32⟩
  | .hbm, ⟨20, _⟩ => ⟨S1536, .i32⟩
  | .hbm, ⟨21, _⟩ => ⟨S1536, .i32⟩
  | .hbm, ⟨22, _⟩ => ⟨S_, .i32⟩
  | .hbm, ⟨23, _⟩ => ⟨S1536, .i32⟩
  | .hbm, ⟨24, _⟩ => ⟨S1536, .i32⟩
  | .hbm, ⟨25, _⟩ => ⟨S_, .i32⟩
  | .hbm, ⟨26, _⟩ => ⟨S1536, .i32⟩
  | .hbm, ⟨27, _⟩ => ⟨S1536, .i1⟩
  | .hbm, ⟨28, _⟩ => ⟨S_, .i32⟩
  | .hbm, ⟨29, _⟩ => ⟨S1536, .i32⟩
  | .hbm, ⟨30, _⟩ => ⟨S1536, .i32⟩
  | .hbm, ⟨31, _⟩ => ⟨S1536, .i32⟩
  | .hbm, ⟨32, _⟩ => ⟨S1536x1, .i32⟩
  | .hbm, ⟨33, _⟩ => ⟨S1, .i32⟩
  | .hbm, ⟨34, _⟩ => ⟨S_, .i32⟩
  | .hbm, ⟨35, _⟩ => ⟨S1536x1, .i32⟩
  | .hbm, ⟨36, _⟩ => ⟨S1536x1, .i1⟩
  | .hbm, ⟨37, _⟩ => ⟨S1x1, .i32⟩
  | .hbm, ⟨38, _⟩ => ⟨S1536x1, .i32⟩
  | .hbm, ⟨39, _⟩ => ⟨S1536x1, .i1⟩
  | .hbm, ⟨40, _⟩ => ⟨S1536x1, .i1⟩
  | .hbm, ⟨41, _⟩ => ⟨S_, .i1⟩
  | .hbm, ⟨42, _⟩ => ⟨S1536, .i1⟩
  | .hbm, ⟨43, _⟩ => ⟨S4x8x1536, .f32⟩
  | .hbm, ⟨44, _⟩ => ⟨S4x8x1536, .i1⟩
  | .hbm, ⟨45, _⟩ => ⟨S_, .f32⟩
  | .hbm, ⟨46, _⟩ => ⟨S4x8x1536, .f32⟩
  | .hbm, ⟨47, _⟩ => ⟨S4x8x1536, .f32⟩
  | .hbm, ⟨48, _⟩ => ⟨S4x8x1x1536, .f32⟩
  | .hbm, ⟨49, _⟩ => ⟨S4x8x256x1536, .f32⟩
  | .hbm, ⟨50, _⟩ => ⟨S4x8x393216, .f32⟩
  | .hbm, ⟨51, _⟩ => ⟨S4x8x392960, .f32⟩
  | .hbm, ⟨52, _⟩ => ⟨S4x8x256x1535, .f32⟩
  | .hbm, ⟨53, _⟩ => ⟨S4x8x256x1280, .f32⟩
  | .hbm, ⟨54, _⟩ => ⟨S256, .i32⟩
  | .hbm, ⟨55, _⟩ => ⟨S256x1, .i32⟩
  | .hbm, ⟨56, _⟩ => ⟨S1280, .i32⟩
  | .hbm, ⟨57, _⟩ => ⟨S1x1280, .i32⟩
  | .hbm, ⟨58, _⟩ => ⟨S_, .i32⟩
  | .hbm, ⟨59, _⟩ => ⟨S_, .i32⟩
  | .hbm, ⟨60, _⟩ => ⟨S256x1, .i32⟩
  | .hbm, ⟨61, _⟩ => ⟨S256x1, .i32⟩
  | .hbm, ⟨62, _⟩ => ⟨S256x1, .i32⟩
  | .hbm, ⟨63, _⟩ => ⟨S_, .i32⟩
  | .hbm, ⟨64, _⟩ => ⟨S256x1, .i32⟩
  | .hbm, ⟨65, _⟩ => ⟨S256x1, .i1⟩
  | .hbm, ⟨66, _⟩ => ⟨S256x1, .i32⟩
  | .hbm, ⟨67, _⟩ => ⟨S256x1, .i32⟩
  | .hbm, ⟨68, _⟩ => ⟨S_, .i32⟩
  | .hbm, ⟨69, _⟩ => ⟨S256x1, .i32⟩
  | .hbm, ⟨70, _⟩ => ⟨S256x1, .i1⟩
  | .hbm, ⟨71, _⟩ => ⟨S256x1, .i1⟩
  | .hbm, ⟨72, _⟩ => ⟨S_, .i32⟩
  | .hbm, ⟨73, _⟩ => ⟨S256x1, .i32⟩
  | .hbm, ⟨74, _⟩ => ⟨S256x1, .i32⟩
  | .hbm, ⟨75, _⟩ => ⟨S256x1, .i32⟩
  | .hbm, ⟨76, _⟩ => ⟨S_, .i32⟩
  | .hbm, ⟨77, _⟩ => ⟨S256x1, .i32⟩
  | .hbm, ⟨78, _⟩ => ⟨S256x1, .i32⟩
  | .hbm, ⟨79, _⟩ => ⟨S_, .i32⟩
  | .hbm, ⟨80, _⟩ => ⟨S_, .i32⟩
  | .hbm, ⟨81, _⟩ => ⟨S1x1280, .i32⟩
  | .hbm, ⟨82, _⟩ => ⟨S1x1280, .i32⟩
  | .hbm, ⟨83, _⟩ => ⟨S1x1280, .i32⟩
  | .hbm, ⟨84, _⟩ => ⟨S_, .i32⟩
  | .hbm, ⟨85, _⟩ => ⟨S1x1280, .i32⟩
  | .hbm, ⟨86, _⟩ => ⟨S1x1280, .i1⟩
  | .hbm, ⟨87, _⟩ => ⟨S1x1280, .i32⟩
  | .hbm, ⟨88, _⟩ => ⟨S1x1280, .i32⟩
  | .hbm, ⟨89, _⟩ => ⟨S_, .i32⟩
  | .hbm, ⟨90, _⟩ => ⟨S1x1280, .i32⟩
  | .hbm, ⟨91, _⟩ => ⟨S1x1280, .i1⟩
  | .hbm, ⟨92, _⟩ => ⟨S1x1280, .i1⟩
  | .hbm, ⟨93, _⟩ => ⟨S_, .i32⟩
  | .hbm, ⟨94, _⟩ => ⟨S1x1280, .i32⟩
  | .hbm, ⟨95, _⟩ => ⟨S1x1280, .i32⟩
  | .hbm, ⟨96, _⟩ => ⟨S1x1280, .i32⟩
  | .hbm, ⟨97, _⟩ => ⟨S256x1280, .i32⟩
  | .hbm, ⟨98, _⟩ => ⟨S256x1280, .i32⟩
  | .hbm, ⟨99, _⟩ => ⟨S256x1280, .i32⟩
  | .hbm, ⟨100, _⟩ => ⟨S_, .i32⟩
  | .hbm, ⟨101, _⟩ => ⟨S256x1280, .i32⟩
  | .hbm, ⟨102, _⟩ => ⟨S256x1280, .i1⟩
  | .hbm, ⟨103, _⟩ => ⟨S_, .i32⟩
  | .hbm, ⟨104, _⟩ => ⟨S256x1280, .i32⟩
  | .hbm, ⟨105, _⟩ => ⟨S256x1280, .i1⟩
  | .hbm, ⟨106, _⟩ => ⟨S256x1280, .i1⟩
  | .hbm, ⟨107, _⟩ => ⟨S_, .f32⟩
  | .hbm, ⟨108, _⟩ => ⟨S_, .f32⟩
  | .hbm, ⟨109, _⟩ => ⟨S4x8x256x1280, .i1⟩
  | .hbm, ⟨110, _⟩ => ⟨S4x8x256x1280, .f32⟩
  | .hbm, ⟨111, _⟩ => ⟨S4x8x256x1280, .f32⟩
  | .hbm, ⟨112, _⟩ => ⟨S4x8x256x5x256, .f32⟩
  | .hbm, ⟨113, _⟩ => ⟨S4x8x5x256x256, .f32⟩
  | .hbm, ⟨114, _⟩ => ⟨S32768x1024, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x8x5x256x256, .f32⟩
  | .local _ .vmem, ⟨7, _⟩ => ⟨S256x1024, .bf16⟩
  | .local _ .vmem, ⟨8, _⟩ => ⟨S256x1024, .bf16⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_c_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_v11 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_cst : Ref sig .tc := ⟨.hbm, 45, rfl⟩
abbrev main_call2_v15 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_5 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_c : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_0 : Ref sig .tc := ⟨.hbm, 72, rfl⟩
abbrev main_call3_v12 : Ref sig .tc := ⟨.hbm, 73, rfl⟩
abbrev main_call3_v13 : Ref sig .tc := ⟨.hbm, 74, rfl⟩
abbrev main_v23 : Ref sig .tc := ⟨.hbm, 75, rfl⟩
abbrev main_c_6 : Ref sig .tc := ⟨.hbm, 76, rfl⟩
abbrev main_v24 : Ref sig .tc := ⟨.hbm, 77, rfl⟩
abbrev main_v25 : Ref sig .tc := ⟨.hbm, 78, rfl⟩
abbrev main_c_7 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_c : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_0 : Ref sig .tc := ⟨.hbm, 93, rfl⟩
abbrev main_call4_v12 : Ref sig .tc := ⟨.hbm, 94, rfl⟩
abbrev main_call4_v13 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_c_8 : Ref sig .tc := ⟨.hbm, 100, rfl⟩
abbrev main_v30 : Ref sig .tc := ⟨.hbm, 101, rfl⟩
abbrev main_v31 : Ref sig .tc := ⟨.hbm, 102, rfl⟩
abbrev main_c_9 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_cst : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_3 : BitVec 32 := 0#32
  let v5 : BitVec 32 := Scalar.addi v1 c0_i32_3
  let c256_i32 : BitVec 32 := 256#32
  let v6 : BitVec 32 := Scalar.muli v5 c256_i32
  v6
def k0_off1 (i : grid0.Coords) (c0_i32_3 : BitVec 32) : Fin 2 → Nat :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let v5 : BitVec 32 := Scalar.addi v1 c0_i32_3
  let c256_i32 : BitVec 32 := 256#32
  let v6 : BitVec 32 := Scalar.muli v5 c256_i32
  let v7 : BitVec 32 := v6
  let v8 : Index := Scalar.indexCast v7
  let c0_4 : Index := 0#32
  ![v8.toNat, 0]
def k0_off2 (i : grid0.Coords) (c0_i32_6 : BitVec 32) : Fin 5 → Nat :=
  let c0_7 : Index := 0#32
  let c0_8 : Index := 0#32
  let c2_i32_1 : BitVec 32 := 2#32
  let arg1 : BitVec 32 := BitVec.ofNat 32 (i 1).val
  let c2_i32_0 : BitVec 32 := 2#32
  let v2 : BitVec 32 := Scalar.minsi arg1 c2_i32_0
  let v3 : BitVec 32 := Scalar.subi c2_i32_1 v2
  let v13 : BitVec 32 := Scalar.addi v3 c0_i32_6
  let v14 : Index := Scalar.indexCast v13
  let c0_9 : Index := 0#32
  let c0_10 : Index := 0#32
  ![0, 0, v14.toNat, 0, 0]
def k0_mult2 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32 : BitVec 32 := 1#32
  let v18 : BitVec 32 := Scalar.addi v1 c1_i32
  let c256_i32_11 : BitVec 32 := 256#32
  let v19 : BitVec 32 := Scalar.muli v18 c256_i32_11
  v19
def k0_mult3 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_20 : BitVec 32 := 2#32
  let v31 : BitVec 32 := Scalar.addi v1 c2_i32_20
  let c256_i32_21 : BitVec 32 := 256#32
  let v32 : BitVec 32 := Scalar.muli v31 c256_i32_21
  v32
def k0_mult4 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_31 : BitVec 32 := 0#32
  let v45 : BitVec 32 := Scalar.addi v1 c0_i32_31
  let c256_i32_32 : BitVec 32 := 256#32
  let v46 : BitVec 32 := Scalar.muli v45 c256_i32_32
  v46
def k0_off3 (i : grid0.Coords) (c0_i32_31 : BitVec 32) : Fin 2 → Nat :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let v45 : BitVec 32 := Scalar.addi v1 c0_i32_31
  let c256_i32_32 : BitVec 32 := 256#32
  let v46 : BitVec 32 := Scalar.muli v45 c256_i32_32
  let v47 : BitVec 32 := v46
  let v48 : Index := Scalar.indexCast v47
  let c128_33 : Index := 128#32
  ![v48.toNat, 128]
def k0_off4 (i : grid0.Coords) (c0_i32_36 : BitVec 32) : Fin 5 → Nat :=
  let c0_37 : Index := 0#32
  let c1 : Index := 1#32
  let c2_i32_1 : BitVec 32 := 2#32
  let arg1 : BitVec 32 := BitVec.ofNat 32 (i 1).val
  let c2_i32_0 : BitVec 32 := 2#32
  let v2 : BitVec 32 := Scalar.minsi arg1 c2_i32_0
  let v3 : BitVec 32 := Scalar.subi c2_i32_1 v2
  let v53 : BitVec 32 := Scalar.addi v3 c0_i32_36
  let v54 : Index := Scalar.indexCast v53
  let c0_38 : Index := 0#32
  let c0_39 : Index := 0#32
  ![0, 1, v54.toNat, 0, 0]
def k0_mult5 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_40 : BitVec 32 := 1#32
  let v58 : BitVec 32 := Scalar.addi v1 c1_i32_40
  let c256_i32_41 : BitVec 32 := 256#32
  let v59 : BitVec 32 := Scalar.muli v58 c256_i32_41
  v59
def k0_mult6 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_50 : BitVec 32 := 2#32
  let v71 : BitVec 32 := Scalar.addi v1 c2_i32_50
  let c256_i32_51 : BitVec 32 := 256#32
  let v72 : BitVec 32 := Scalar.muli v71 c256_i32_51
  v72
def k0_mult7 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_62 : BitVec 32 := 0#32
  let v101 : BitVec 32 := Scalar.addi v1 c0_i32_62
  let c256_i32_63 : BitVec 32 := 256#32
  let v102 : BitVec 32 := Scalar.muli v101 c256_i32_63
  v102
def k0_mult8 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_66 : BitVec 32 := 1#32
  let v108 : BitVec 32 := Scalar.addi v1 c1_i32_66
  let c256_i32_67 : BitVec 32 := 256#32
  let v109 : BitVec 32 := Scalar.muli v108 c256_i32_67
  v109
def k0_mult9 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_70 : BitVec 32 := 2#32
  let v116 : BitVec 32 := Scalar.addi v1 c2_i32_70
  let c256_i32_71 : BitVec 32 := 256#32
  let v117 : BitVec 32 := Scalar.muli v116 c256_i32_71
  v117
def k0_mult10 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_78 : BitVec 32 := 0#32
  let v131 : BitVec 32 := Scalar.addi v1 c0_i32_78
  let c256_i32_79 : BitVec 32 := 256#32
  let v132 : BitVec 32 := Scalar.muli v131 c256_i32_79
  v132
def k0_off5 (i : grid0.Coords) (c0_i32_78 : BitVec 32) : Fin 2 → Nat :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let v131 : BitVec 32 := Scalar.addi v1 c0_i32_78
  let c256_i32_79 : BitVec 32 := 256#32
  let v132 : BitVec 32 := Scalar.muli v131 c256_i32_79
  let v133 : BitVec 32 := v132
  let v134 : Index := Scalar.indexCast v133
  let c256_80 : Index := 256#32
  ![v134.toNat, 256]
def k0_off6 (i : grid0.Coords) (c0_i32_83 : BitVec 32) : Fin 5 → Nat :=
  let c0_84 : Index := 0#32
  let c2 : Index := 2#32
  let c2_i32_1 : BitVec 32 := 2#32
  let arg1 : BitVec 32 := BitVec.ofNat 32 (i 1).val
  let c2_i32_0 : BitVec 32 := 2#32
  let v2 : BitVec 32 := Scalar.minsi arg1 c2_i32_0
  let v3 : BitVec 32 := Scalar.subi c2_i32_1 v2
  let v139 : BitVec 32 := Scalar.addi v3 c0_i32_83
  let v140 : Index := Scalar.indexCast v139
  let c0_85 : Index := 0#32
  let c0_86 : Index := 0#32
  ![0, 2, v140.toNat, 0, 0]
def k0_mult11 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_87 : BitVec 32 := 1#32
  let v144 : BitVec 32 := Scalar.addi v1 c1_i32_87
  let c256_i32_88 : BitVec 32 := 256#32
  let v145 : BitVec 32 := Scalar.muli v144 c256_i32_88
  v145
def k0_mult12 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_97 : BitVec 32 := 2#32
  let v157 : BitVec 32 := Scalar.addi v1 c2_i32_97
  let c256_i32_98 : BitVec 32 := 256#32
  let v158 : BitVec 32 := Scalar.muli v157 c256_i32_98
  v158
def k0_mult13 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_109 : BitVec 32 := 0#32
  let v187 : BitVec 32 := Scalar.addi v1 c0_i32_109
  let c256_i32_110 : BitVec 32 := 256#32
  let v188 : BitVec 32 := Scalar.muli v187 c256_i32_110
  v188
def k0_mult14 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_113 : BitVec 32 := 1#32
  let v194 : BitVec 32 := Scalar.addi v1 c1_i32_113
  let c256_i32_114 : BitVec 32 := 256#32
  let v195 : BitVec 32 := Scalar.muli v194 c256_i32_114
  v195
def k0_mult15 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_117 : BitVec 32 := 2#32
  let v202 : BitVec 32 := Scalar.addi v1 c2_i32_117
  let c256_i32_118 : BitVec 32 := 256#32
  let v203 : BitVec 32 := Scalar.muli v202 c256_i32_118
  v203
def k0_mult16 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_125 : BitVec 32 := 0#32
  let v217 : BitVec 32 := Scalar.addi v1 c0_i32_125
  let c256_i32_126 : BitVec 32 := 256#32
  let v218 : BitVec 32 := Scalar.muli v217 c256_i32_126
  v218
def k0_off7 (i : grid0.Coords) (c0_i32_125 : BitVec 32) : Fin 2 → Nat :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let v217 : BitVec 32 := Scalar.addi v1 c0_i32_125
  let c256_i32_126 : BitVec 32 := 256#32
  let v218 : BitVec 32 := Scalar.muli v217 c256_i32_126
  let v219 : BitVec 32 := v218
  let v220 : Index := Scalar.indexCast v219
  let c384_127 : Index := 384#32
  ![v220.toNat, 384]
def k0_off8 (i : grid0.Coords) (c0_i32_130 : BitVec 32) : Fin 5 → Nat :=
  let c0_131 : Index := 0#32
  let c3 : Index := 3#32
  let c2_i32_1 : BitVec 32 := 2#32
  let arg1 : BitVec 32 := BitVec.ofNat 32 (i 1).val
  let c2_i32_0 : BitVec 32 := 2#32
  let v2 : BitVec 32 := Scalar.minsi arg1 c2_i32_0
  let v3 : BitVec 32 := Scalar.subi c2_i32_1 v2
  let v225 : BitVec 32 := Scalar.addi v3 c0_i32_130
  let v226 : Index := Scalar.indexCast v225
  let c0_132 : Index := 0#32
  let c0_133 : Index := 0#32
  ![0, 3, v226.toNat, 0, 0]
def k0_mult17 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_134 : BitVec 32 := 1#32
  let v230 : BitVec 32 := Scalar.addi v1 c1_i32_134
  let c256_i32_135 : BitVec 32 := 256#32
  let v231 : BitVec 32 := Scalar.muli v230 c256_i32_135
  v231
def k0_mult18 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_144 : BitVec 32 := 2#32
  let v243 : BitVec 32 := Scalar.addi v1 c2_i32_144
  let c256_i32_145 : BitVec 32 := 256#32
  let v244 : BitVec 32 := Scalar.muli v243 c256_i32_145
  v244
def k0_mult19 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_156 : BitVec 32 := 0#32
  let v273 : BitVec 32 := Scalar.addi v1 c0_i32_156
  let c256_i32_157 : BitVec 32 := 256#32
  let v274 : BitVec 32 := Scalar.muli v273 c256_i32_157
  v274
def k0_mult20 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_160 : BitVec 32 := 1#32
  let v280 : BitVec 32 := Scalar.addi v1 c1_i32_160
  let c256_i32_161 : BitVec 32 := 256#32
  let v281 : BitVec 32 := Scalar.muli v280 c256_i32_161
  v281
def k0_mult21 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_164 : BitVec 32 := 2#32
  let v288 : BitVec 32 := Scalar.addi v1 c2_i32_164
  let c256_i32_165 : BitVec 32 := 256#32
  let v289 : BitVec 32 := Scalar.muli v288 c256_i32_165
  v289
def k0_mult22 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_172 : BitVec 32 := 0#32
  let v303 : BitVec 32 := Scalar.addi v1 c0_i32_172
  let c256_i32_173 : BitVec 32 := 256#32
  let v304 : BitVec 32 := Scalar.muli v303 c256_i32_173
  v304
def k0_off9 (i : grid0.Coords) (c0_i32_172 : BitVec 32) : Fin 2 → Nat :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let v303 : BitVec 32 := Scalar.addi v1 c0_i32_172
  let c256_i32_173 : BitVec 32 := 256#32
  let v304 : BitVec 32 := Scalar.muli v303 c256_i32_173
  let v305 : BitVec 32 := v304
  let v306 : Index := Scalar.indexCast v305
  let c512_174 : Index := 512#32
  ![v306.toNat, 512]
def k0_off10 (i : grid0.Coords) (c0_i32_177 : BitVec 32) : Fin 5 → Nat :=
  let c0_178 : Index := 0#32
  let c4 : Index := 4#32
  let c2_i32_1 : BitVec 32 := 2#32
  let arg1 : BitVec 32 := BitVec.ofNat 32 (i 1).val
  let c2_i32_0 : BitVec 32 := 2#32
  let v2 : BitVec 32 := Scalar.minsi arg1 c2_i32_0
  let v3 : BitVec 32 := Scalar.subi c2_i32_1 v2
  let v311 : BitVec 32 := Scalar.addi v3 c0_i32_177
  let v312 : Index := Scalar.indexCast v311
  let c0_179 : Index := 0#32
  let c0_180 : Index := 0#32
  ![0, 4, v312.toNat, 0, 0]
def k0_mult23 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_181 : BitVec 32 := 1#32
  let v316 : BitVec 32 := Scalar.addi v1 c1_i32_181
  let c256_i32_182 : BitVec 32 := 256#32
  let v317 : BitVec 32 := Scalar.muli v316 c256_i32_182
  v317
def k0_mult24 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_191 : BitVec 32 := 2#32
  let v329 : BitVec 32 := Scalar.addi v1 c2_i32_191
  let c256_i32_192 : BitVec 32 := 256#32
  let v330 : BitVec 32 := Scalar.muli v329 c256_i32_192
  v330
def k0_mult25 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_203 : BitVec 32 := 0#32
  let v359 : BitVec 32 := Scalar.addi v1 c0_i32_203
  let c256_i32_204 : BitVec 32 := 256#32
  let v360 : BitVec 32 := Scalar.muli v359 c256_i32_204
  v360
def k0_mult26 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_207 : BitVec 32 := 1#32
  let v366 : BitVec 32 := Scalar.addi v1 c1_i32_207
  let c256_i32_208 : BitVec 32 := 256#32
  let v367 : BitVec 32 := Scalar.muli v366 c256_i32_208
  v367
def k0_mult27 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_211 : BitVec 32 := 2#32
  let v374 : BitVec 32 := Scalar.addi v1 c2_i32_211
  let c256_i32_212 : BitVec 32 := 256#32
  let v375 : BitVec 32 := Scalar.muli v374 c256_i32_212
  v375
def k0_mult28 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_219 : BitVec 32 := 0#32
  let v389 : BitVec 32 := Scalar.addi v1 c0_i32_219
  let c256_i32_220 : BitVec 32 := 256#32
  let v390 : BitVec 32 := Scalar.muli v389 c256_i32_220
  v390
def k0_off11 (i : grid0.Coords) (c0_i32_219 : BitVec 32) : Fin 2 → Nat :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let v389 : BitVec 32 := Scalar.addi v1 c0_i32_219
  let c256_i32_220 : BitVec 32 := 256#32
  let v390 : BitVec 32 := Scalar.muli v389 c256_i32_220
  let v391 : BitVec 32 := v390
  let v392 : Index := Scalar.indexCast v391
  let c640_221 : Index := 640#32
  ![v392.toNat, 640]
def k0_off12 (i : grid0.Coords) (c0_i32_224 : BitVec 32) : Fin 5 → Nat :=
  let c0_225 : Index := 0#32
  let c5 : Index := 5#32
  let c2_i32_1 : BitVec 32 := 2#32
  let arg1 : BitVec 32 := BitVec.ofNat 32 (i 1).val
  let c2_i32_0 : BitVec 32 := 2#32
  let v2 : BitVec 32 := Scalar.minsi arg1 c2_i32_0
  let v3 : BitVec 32 := Scalar.subi c2_i32_1 v2
  let v397 : BitVec 32 := Scalar.addi v3 c0_i32_224
  let v398 : Index := Scalar.indexCast v397
  let c0_226 : Index := 0#32
  let c0_227 : Index := 0#32
  ![0, 5, v398.toNat, 0, 0]
def k0_mult29 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_228 : BitVec 32 := 1#32
  let v402 : BitVec 32 := Scalar.addi v1 c1_i32_228
  let c256_i32_229 : BitVec 32 := 256#32
  let v403 : BitVec 32 := Scalar.muli v402 c256_i32_229
  v403
def k0_mult30 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_238 : BitVec 32 := 2#32
  let v415 : BitVec 32 := Scalar.addi v1 c2_i32_238
  let c256_i32_239 : BitVec 32 := 256#32
  let v416 : BitVec 32 := Scalar.muli v415 c256_i32_239
  v416
def k0_mult31 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_250 : BitVec 32 := 0#32
  let v445 : BitVec 32 := Scalar.addi v1 c0_i32_250
  let c256_i32_251 : BitVec 32 := 256#32
  let v446 : BitVec 32 := Scalar.muli v445 c256_i32_251
  v446
def k0_mult32 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_254 : BitVec 32 := 1#32
  let v452 : BitVec 32 := Scalar.addi v1 c1_i32_254
  let c256_i32_255 : BitVec 32 := 256#32
  let v453 : BitVec 32 := Scalar.muli v452 c256_i32_255
  v453
def k0_mult33 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_258 : BitVec 32 := 2#32
  let v460 : BitVec 32 := Scalar.addi v1 c2_i32_258
  let c256_i32_259 : BitVec 32 := 256#32
  let v461 : BitVec 32 := Scalar.muli v460 c256_i32_259
  v461
def k0_mult34 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_266 : BitVec 32 := 0#32
  let v475 : BitVec 32 := Scalar.addi v1 c0_i32_266
  let c256_i32_267 : BitVec 32 := 256#32
  let v476 : BitVec 32 := Scalar.muli v475 c256_i32_267
  v476
def k0_off13 (i : grid0.Coords) (c0_i32_266 : BitVec 32) : Fin 2 → Nat :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let v475 : BitVec 32 := Scalar.addi v1 c0_i32_266
  let c256_i32_267 : BitVec 32 := 256#32
  let v476 : BitVec 32 := Scalar.muli v475 c256_i32_267
  let v477 : BitVec 32 := v476
  let v478 : Index := Scalar.indexCast v477
  let c768_268 : Index := 768#32
  ![v478.toNat, 768]
def k0_off14 (i : grid0.Coords) (c0_i32_271 : BitVec 32) : Fin 5 → Nat :=
  let c0_272 : Index := 0#32
  let c6 : Index := 6#32
  let c2_i32_1 : BitVec 32 := 2#32
  let arg1 : BitVec 32 := BitVec.ofNat 32 (i 1).val
  let c2_i32_0 : BitVec 32 := 2#32
  let v2 : BitVec 32 := Scalar.minsi arg1 c2_i32_0
  let v3 : BitVec 32 := Scalar.subi c2_i32_1 v2
  let v483 : BitVec 32 := Scalar.addi v3 c0_i32_271
  let v484 : Index := Scalar.indexCast v483
  let c0_273 : Index := 0#32
  let c0_274 : Index := 0#32
  ![0, 6, v484.toNat, 0, 0]
def k0_mult35 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_275 : BitVec 32 := 1#32
  let v488 : BitVec 32 := Scalar.addi v1 c1_i32_275
  let c256_i32_276 : BitVec 32 := 256#32
  let v489 : BitVec 32 := Scalar.muli v488 c256_i32_276
  v489
def k0_mult36 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_285 : BitVec 32 := 2#32
  let v501 : BitVec 32 := Scalar.addi v1 c2_i32_285
  let c256_i32_286 : BitVec 32 := 256#32
  let v502 : BitVec 32 := Scalar.muli v501 c256_i32_286
  v502
def k0_mult37 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_297 : BitVec 32 := 0#32
  let v531 : BitVec 32 := Scalar.addi v1 c0_i32_297
  let c256_i32_298 : BitVec 32 := 256#32
  let v532 : BitVec 32 := Scalar.muli v531 c256_i32_298
  v532
def k0_mult38 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_301 : BitVec 32 := 1#32
  let v538 : BitVec 32 := Scalar.addi v1 c1_i32_301
  let c256_i32_302 : BitVec 32 := 256#32
  let v539 : BitVec 32 := Scalar.muli v538 c256_i32_302
  v539
def k0_mult39 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_305 : BitVec 32 := 2#32
  let v546 : BitVec 32 := Scalar.addi v1 c2_i32_305
  let c256_i32_306 : BitVec 32 := 256#32
  let v547 : BitVec 32 := Scalar.muli v546 c256_i32_306
  v547
def k0_mult40 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_313 : BitVec 32 := 0#32
  let v561 : BitVec 32 := Scalar.addi v1 c0_i32_313
  let c256_i32_314 : BitVec 32 := 256#32
  let v562 : BitVec 32 := Scalar.muli v561 c256_i32_314
  v562
def k0_off15 (i : grid0.Coords) (c0_i32_313 : BitVec 32) : Fin 2 → Nat :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let v561 : BitVec 32 := Scalar.addi v1 c0_i32_313
  let c256_i32_314 : BitVec 32 := 256#32
  let v562 : BitVec 32 := Scalar.muli v561 c256_i32_314
  let v563 : BitVec 32 := v562
  let v564 : Index := Scalar.indexCast v563
  let c896_315 : Index := 896#32
  ![v564.toNat, 896]
def k0_off16 (i : grid0.Coords) (c0_i32_318 : BitVec 32) : Fin 5 → Nat :=
  let c0_319 : Index := 0#32
  let c7 : Index := 7#32
  let c2_i32_1 : BitVec 32 := 2#32
  let arg1 : BitVec 32 := BitVec.ofNat 32 (i 1).val
  let c2_i32_0 : BitVec 32 := 2#32
  let v2 : BitVec 32 := Scalar.minsi arg1 c2_i32_0
  let v3 : BitVec 32 := Scalar.subi c2_i32_1 v2
  let v569 : BitVec 32 := Scalar.addi v3 c0_i32_318
  let v570 : Index := Scalar.indexCast v569
  let c0_320 : Index := 0#32
  let c0_321 : Index := 0#32
  ![0, 7, v570.toNat, 0, 0]
def k0_mult41 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_322 : BitVec 32 := 1#32
  let v574 : BitVec 32 := Scalar.addi v1 c1_i32_322
  let c256_i32_323 : BitVec 32 := 256#32
  let v575 : BitVec 32 := Scalar.muli v574 c256_i32_323
  v575
def k0_mult42 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_332 : BitVec 32 := 2#32
  let v587 : BitVec 32 := Scalar.addi v1 c2_i32_332
  let c256_i32_333 : BitVec 32 := 256#32
  let v588 : BitVec 32 := Scalar.muli v587 c256_i32_333
  v588
def k0_mult43 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_344 : BitVec 32 := 0#32
  let v617 : BitVec 32 := Scalar.addi v1 c0_i32_344
  let c256_i32_345 : BitVec 32 := 256#32
  let v618 : BitVec 32 := Scalar.muli v617 c256_i32_345
  v618
def k0_mult44 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_348 : BitVec 32 := 1#32
  let v624 : BitVec 32 := Scalar.addi v1 c1_i32_348
  let c256_i32_349 : BitVec 32 := 256#32
  let v625 : BitVec 32 := Scalar.muli v624 c256_i32_349
  v625
def k0_mult45 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_352 : BitVec 32 := 2#32
  let v632 : BitVec 32 := Scalar.addi v1 c2_i32_352
  let c256_i32_353 : BitVec 32 := 256#32
  let v633 : BitVec 32 := Scalar.muli v632 c256_i32_353
  v633
def k0_mult46 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_361 : BitVec 32 := 0#32
  let v663 : BitVec 32 := Scalar.addi v1 c0_i32_361
  let c256_i32_362 : BitVec 32 := 256#32
  let v664 : BitVec 32 := Scalar.muli v663 c256_i32_362
  v664
def k0_mult47 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32_365 : BitVec 32 := 1#32
  let v670 : BitVec 32 := Scalar.addi v1 c1_i32_365
  let c256_i32_366 : BitVec 32 := 256#32
  let v671 : BitVec 32 := Scalar.muli v670 c256_i32_366
  v671
def k0_mult48 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_369 : BitVec 32 := 2#32
  let v678 : BitVec 32 := Scalar.addi v1 c2_i32_369
  let c256_i32_370 : BitVec 32 := 256#32
  let v679 : BitVec 32 := Scalar.muli v678 c256_i32_370
  v679
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8x5x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32768x3072 : Shape := ⟨2, ![32768, 3072]⟩
abbrev S4x8x513 : Shape := ⟨3, ![4, 8, 513]⟩
abbrev S16x2048x3072 : Shape := ⟨3, ![16, 2048, 3072]⟩
abbrev S16x2048x1024 : Shape := ⟨3, ![16, 2048, 1024]⟩
abbrev S16x2048x8x128 : Shape := ⟨4, ![16, 2048, 8, 128]⟩
abbrev S1x8x513 : Shape := ⟨3, ![1, 8, 513]⟩
abbrev S8x513 : Shape := ⟨2, ![8, 513]⟩
abbrev S_ : Shape := ⟨0, ![]⟩
abbrev S16x2560x8x128 : Shape := ⟨4, ![16, 2560, 8, 128]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S16x32x64x8x128 : Shape := ⟨5, ![16, 32, 64, 8, 128]⟩
abbrev S32x16x64x8x128 : Shape := ⟨5, ![32, 16, 64, 8, 128]⟩
abbrev S32 : Shape := ⟨1, ![32]⟩
abbrev S1 : Shape := ⟨1, ![1]⟩
abbrev S1x16x64x8x128 : Shape := ⟨5, ![1, 16, 64, 8, 128]⟩
abbrev S16x64x8x128 : Shape := ⟨4, ![16, 64, 8, 128]⟩
abbrev S16x576x8x128 : Shape := ⟨4, ![16, 576, 8, 128]⟩
abbrev S16x8x64x576 : Shape := ⟨4, ![16, 8, 64, 576]⟩
abbrev S1x8x64x576 : Shape := ⟨4, ![1, 8, 64, 576]⟩
abbrev S16x8x64 : Shape := ⟨3, ![16, 8, 64]⟩
abbrev S16x8x64x1 : Shape := ⟨4, ![16, 8, 64, 1]⟩
abbrev S16x8x128x64 : Shape := ⟨4, ![16, 8, 128, 64]⟩
abbrev S32768x1024 : Shape := ⟨2, ![32768, 1024]⟩

abbrev nBuf : Space → Nat
  | .hbm => 139
  | .vmem => 0
  | .smem => 0
  | _ => 0

abbrev hbmTy0_0 (i : Nat) : BufTy := match i % 128 with
  | 0 => ⟨S32768x3072, .bf16⟩
  | 1 => ⟨S4x8x513, .f32⟩
  | 2 => ⟨S32768x3072, .f32⟩
  | 3 => ⟨S16x2048x3072, .f32⟩
  | 4 => ⟨S16x2048x1024, .f32⟩
  | 5 => ⟨S16x2048x1024, .f32⟩
  | 6 => ⟨S16x2048x1024, .f32⟩
  | 7 => ⟨S16x2048x8x128, .f32⟩
  | 8 => ⟨S16x2048x8x128, .f32⟩
  | 9 => ⟨S16x2048x8x128, .f32⟩
  | 10 => ⟨S1x8x513, .f32⟩
  | 11 => ⟨S8x513, .f32⟩
  | 12 => ⟨S_, .i32⟩
  | 13 => ⟨S_, .f32⟩
  | 14 => ⟨S16x2560x8x128, .f32⟩
  | 15 => ⟨S_, .i32⟩
  | 16 => ⟨S_, .f32⟩
  | 17 => ⟨S16x2560x8x128, .f32⟩
  | 18 => ⟨S64, .i32⟩
  | 19 => ⟨S576, .i32⟩
  | 20 => ⟨S64x1, .i32⟩
  | 21 => ⟨S_, .i32⟩
  | 22 => ⟨S64x1, .i32⟩
  | 23 => ⟨S64x1, .i32⟩
  | 24 => ⟨S1x576, .i32⟩
  | 25 => ⟨S64x576, .i32⟩
  | 26 => ⟨S64x576, .i32⟩
  | 27 => ⟨S64x576, .i32⟩
  | 28 => ⟨S_, .i32⟩
  | 29 => ⟨S_, .i32⟩
  | 30 => ⟨S_, .i32⟩
  | 31 => ⟨S64x576, .i32⟩
  | 32 => ⟨S64x576, .i32⟩
  | 33 => ⟨S_, .i32⟩
  | 34 => ⟨S64x576, .i32⟩
  | 35 => ⟨S64x576, .i32⟩
  | 36 => ⟨S_, .i32⟩
  | 37 => ⟨S64x576, .i32⟩
  | 38 => ⟨S64x576, .i32⟩
  | 39 => ⟨S_, .i32⟩
  | 40 => ⟨S64x576, .i32⟩
  | 41 => ⟨S64x576, .i1⟩
  | 42 => ⟨S_, .i32⟩
  | 43 => ⟨S64x576, .i32⟩
  | 44 => ⟨S64x576, .i32⟩
  | 45 => ⟨S64x576, .i32⟩
  | 46 => ⟨S64x576x1, .i32⟩
  | 47 => ⟨S8x64x576, .f32⟩
  | 48 => ⟨S16x32x64x8x128, .f32⟩
  | 49 => ⟨S32x16x64x8x128, .f32⟩
  | 50 => ⟨S32, .i32⟩
  | 51 => ⟨S_, .f32⟩
  | 52 => ⟨S32x16x64x8x128, .f32⟩
  | 53 => ⟨S_, .i32⟩
  | 54 => ⟨S32, .i32⟩
  | 55 => ⟨S32x16x64x8x128, .f32⟩
  | 56 => ⟨S16x2560x8x128, .f32⟩
  | 57 => ⟨S16x2560x8x128, .f32⟩
  | 58 => ⟨S8x64x576, .f32⟩
  | 59 => ⟨S576, .i32⟩
  | 60 => ⟨S_, .i32⟩
  | 61 => ⟨S32x16x64x8x128, .f32⟩
  | 62 => ⟨S_, .i32⟩
  | 63 => ⟨S_, .i1⟩
  | 64 => ⟨S1, .i32⟩
  | 65 => ⟨S_, .i32⟩
  | 66 => ⟨S_, .i32⟩
  | 67 => ⟨S_, .i32⟩
  | 68 => ⟨S_, .i32⟩
  | 69 => ⟨S_, .i32⟩
  | 70 => ⟨S1x16x64x8x128, .f32⟩
  | 71 => ⟨S16x64x8x128, .f32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S16x576x8x128, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S16x576x8x128, .f32⟩
  | 92 => ⟨S16x8x64x576, .f32⟩
  | 93 => ⟨S_, .f32⟩
  | 94 => ⟨S16x8x64x576, .f32⟩
  | 95 => ⟨S16x8x64x576, .f32⟩
  | 96 => ⟨S1x8x64x576, .f32⟩
  | 97 => ⟨S16x8x64x576, .f32⟩
  | 98 => ⟨S16x8x64x576, .f32⟩
  | 99 => ⟨S_, .i32⟩
  | 100 => ⟨S_, .i32⟩
  | 101 => ⟨S576, .i32⟩
  | 102 => ⟨S576, .i32⟩
  | 103 => ⟨S_, .i32⟩
  | 104 => ⟨S576, .i32⟩
  | 105 => ⟨S576, .i1⟩
  | 106 => ⟨S_, .f32⟩
  | 107 => ⟨S_, .f32⟩
  | 108 => ⟨S16x8x64x576, .i1⟩
  | 109 => ⟨S16x8x64x576, .f32⟩
  | 110 => ⟨S16x8x64x576, .f32⟩
  | 111 => ⟨S_, .f32⟩
  | 112 => ⟨S16x8x64, .f32⟩
  | 113 => ⟨S_, .f32⟩
  | 114 => ⟨S16x8x64, .f32⟩
  | 115 => ⟨S16x8x64, .f32⟩
  | 116 => ⟨S16x8x64x1, .f32⟩
  | 117 => ⟨S16x8x64x576, .f32⟩
  | 118 => ⟨S16x8x64x576, .f32⟩
  | 119 => ⟨S16x8x64x576, .f32⟩
  | 120 => ⟨S_, .f32⟩
  | 121 => ⟨S16x8x64, .f32⟩
  | 122 => ⟨S16x8x64x1, .f32⟩
  | 123 => ⟨S16x8x64x576, .f32⟩
  | 124 => ⟨S16x8x64x576, .f32⟩
  | 125 => ⟨S16x8x128x64, .f32⟩
  | 126 => ⟨S16x64x8x128, .f32⟩
  | 127 => ⟨S1x16x64x8x128, .f32⟩
  | _ => ⟨S32768x3072, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S32x16x64x8x128, .f32⟩
  | 5 => ⟨S_, .i32⟩
  | 6 => ⟨S_, .i32⟩
  | 7 => ⟨S16x32x64x8x128, .f32⟩
  | 8 => ⟨S16x2048x1024, .f32⟩
  | 9 => ⟨S32768x1024, .f32⟩
  | 10 => ⟨S32768x1024, .bf16⟩
  | _ => ⟨S32768x3072, .bf16⟩

abbrev hbmTy (i : Nat) : BufTy := match i / 128 with
  | 0 => hbmTy0_0 i
  | 1 => hbmTy0_1 i
  | _ => ⟨S32768x3072, .bf16⟩

abbrev bufTy : (tb : Table) → Fin (tcTables nBuf tb) → BufTy
  | .hbm, ⟨i, _⟩ => hbmTy i
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_c_3 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_v34 : Ref sig .tc := ⟨.hbm, 52, rfl⟩
abbrev main_c_7 : Ref sig .tc := ⟨.hbm, 53, rfl⟩
abbrev main_v35_0 : Ref sig .tc := ⟨.hbm, 54, rfl⟩
abbrev main_v35_1 : Ref sig .tc := ⟨.hbm, 55, rfl⟩
abbrev main_v35_2 : Ref sig .tc := ⟨.hbm, 56, rfl⟩
abbrev main_v35_3 : Ref sig .tc := ⟨.hbm, 57, rfl⟩
abbrev main_v35_4 : Ref sig .tc := ⟨.hbm, 58, rfl⟩
abbrev main_v35_5 : Ref sig .tc := ⟨.hbm, 59, rfl⟩
abbrev main_v35_6 : Ref sig .tc := ⟨.hbm, 60, rfl⟩
abbrev main_v35_7 : Ref sig .tc := ⟨.hbm, 61, rfl⟩
abbrev main_while0c_c_15 : Ref sig .tc := ⟨.hbm, 62, rfl⟩
abbrev main_while0c_v40 : Ref sig .tc := ⟨.hbm, 63, rfl⟩
abbrev main_while0b_call3_v0 : Ref sig .tc := ⟨.hbm, 64, rfl⟩
abbrev main_while0b_v40 : Ref sig .tc := ⟨.hbm, 65, rfl⟩
abbrev main_while0b_call4_c : Ref sig .tc := ⟨.hbm, 66, rfl⟩
abbrev main_while0b_call4_c_0 : Ref sig .tc := ⟨.hbm, 67, rfl⟩
abbrev main_while0b_call4_c_1 : Ref sig .tc := ⟨.hbm, 68, rfl⟩
abbrev main_while0b_call4_c_2 : Ref sig .tc := ⟨.hbm, 69, rfl⟩
abbrev main_while0b_call4_v0 : Ref sig .tc := ⟨.hbm, 70, rfl⟩
abbrev main_while0b_v41 : Ref sig .tc := ⟨.hbm, 71, rfl⟩
abbrev main_while0b_c_15 : Ref sig .tc := ⟨.hbm, 72, rfl⟩
abbrev main_while0b_v42 : Ref sig .tc := ⟨.hbm, 73, rfl⟩
abbrev main_while0b_c_16 : Ref sig .tc := ⟨.hbm, 74, rfl⟩
abbrev main_while0b_v43 : Ref sig .tc := ⟨.hbm, 75, rfl⟩
abbrev main_while0b_c_17 : Ref sig .tc := ⟨.hbm, 76, rfl⟩
abbrev main_while0b_v44 : Ref sig .tc := ⟨.hbm, 77, rfl⟩
abbrev main_while0b_v45 : Ref sig .tc := ⟨.hbm, 78, rfl⟩
abbrev main_while0b_c_18 : Ref sig .tc := ⟨.hbm, 79, rfl⟩
abbrev main_while0b_c_19 : Ref sig .tc := ⟨.hbm, 80, rfl⟩
abbrev main_while0b_c_20 : Ref sig .tc := ⟨.hbm, 81, rfl⟩
abbrev main_while0b_v46 : Ref sig .tc := ⟨.hbm, 82, rfl⟩
abbrev main_while0b_c_21 : Ref sig .tc := ⟨.hbm, 83, rfl⟩
abbrev main_while0b_v47 : Ref sig .tc := ⟨.hbm, 84, rfl⟩
abbrev main_while0b_c_22 : Ref sig .tc := ⟨.hbm, 85, rfl⟩
abbrev main_while0b_v48 : Ref sig .tc := ⟨.hbm, 86, rfl⟩
abbrev main_while0b_v49 : Ref sig .tc := ⟨.hbm, 87, rfl⟩
abbrev main_while0b_c_23 : Ref sig .tc := ⟨.hbm, 88, rfl⟩
abbrev main_while0b_c_24 : Ref sig .tc := ⟨.hbm, 89, rfl⟩
abbrev main_while0b_c_25 : Ref sig .tc := ⟨.hbm, 90, rfl⟩
abbrev main_while0b_v50 : Ref sig .tc := ⟨.hbm, 91, rfl⟩
abbrev main_while0b_v51 : Ref sig .tc := ⟨.hbm, 92, rfl⟩
abbrev main_while0b_cst_26 : Ref sig .tc := ⟨.hbm, 93, rfl⟩
abbrev main_while0b_v52 : Ref sig .tc := ⟨.hbm, 94, rfl⟩
abbrev main_while0b_v53 : Ref sig .tc := ⟨.hbm, 95, rfl⟩
abbrev main_while0b_v54 : Ref sig .tc := ⟨.hbm, 96, rfl⟩
abbrev main_while0b_v55 : Ref sig .tc := ⟨.hbm, 97, rfl⟩
abbrev main_while0b_v56 : Ref sig .tc := ⟨.hbm, 98, rfl⟩
abbrev main_while0b_c_27 : Ref sig .tc := ⟨.hbm, 99, rfl⟩
abbrev main_while0b_v57 : Ref sig .tc := ⟨.hbm, 100, rfl⟩
abbrev main_while0b_v58 : Ref sig .tc := ⟨.hbm, 101, rfl⟩
abbrev main_while0b_v59 : Ref sig .tc := ⟨.hbm, 102, rfl⟩
abbrev main_while0b_c_28 : Ref sig .tc := ⟨.hbm, 103, rfl⟩
abbrev main_while0b_v60 : Ref sig .tc := ⟨.hbm, 104, rfl⟩
abbrev main_while0b_v61 : Ref sig .tc := ⟨.hbm, 105, rfl⟩
abbrev main_while0b_cst_29 : Ref sig .tc := ⟨.hbm, 106, rfl⟩
abbrev main_while0b_call5_v0 : Ref sig .tc := ⟨.hbm, 107, rfl⟩
abbrev main_while0b_call5_v1 : Ref sig .tc := ⟨.hbm, 108, rfl⟩
abbrev main_while0b_call5_v2 : Ref sig .tc := ⟨.hbm, 109, rfl⟩
abbrev main_while0b_v62 : Ref sig .tc := ⟨.hbm, 110, rfl⟩
abbrev main_while0b_cst_30 : Ref sig .tc := ⟨.hbm, 111, rfl⟩
abbrev main_while0b_v63 : Ref sig .tc := ⟨.hbm, 112, rfl⟩
abbrev main_while0b_cst_31 : Ref sig .tc := ⟨.hbm, 113, rfl⟩
abbrev main_while0b_v64 : Ref sig .tc := ⟨.hbm, 114, rfl⟩
abbrev main_while0b_v65 : Ref sig .tc := ⟨.hbm, 115, rfl⟩
abbrev main_while0b_v66 : Ref sig .tc := ⟨.hbm, 116, rfl⟩
abbrev main_while0b_v67 : Ref sig .tc := ⟨.hbm, 117, rfl⟩
abbrev main_while0b_v68 : Ref sig .tc := ⟨.hbm, 118, rfl⟩
abbrev main_while0b_v69 : Ref sig .tc := ⟨.hbm, 119, rfl⟩
abbrev main_while0b_cst_32 : Ref sig .tc := ⟨.hbm, 120, rfl⟩
abbrev main_while0b_v70 : Ref sig .tc := ⟨.hbm, 121, rfl⟩
abbrev main_while0b_v71 : Ref sig .tc := ⟨.hbm, 122, rfl⟩
abbrev main_while0b_v72 : Ref sig .tc := ⟨.hbm, 123, rfl⟩
abbrev main_while0b_v73 : Ref sig .tc := ⟨.hbm, 124, rfl⟩
abbrev main_while0b_v74 : Ref sig .tc := ⟨.hbm, 125, rfl⟩
abbrev main_while0b_v75 : Ref sig .tc := ⟨.hbm, 126, rfl⟩
abbrev main_while0b_call6_v0 : Ref sig .tc := ⟨.hbm, 127, rfl⟩
abbrev main_while0b_call6_c : Ref sig .tc := ⟨.hbm, 128, rfl⟩
abbrev main_while0b_call6_c_0 : Ref sig .tc := ⟨.hbm, 129, rfl⟩
abbrev main_while0b_call6_c_1 : Ref sig .tc := ⟨.hbm, 130, rfl⟩
abbrev main_while0b_call6_c_2 : Ref sig .tc := ⟨.hbm, 131, rfl⟩
abbrev main_while0b_v76 : Ref sig .tc := ⟨.hbm, 132, rfl⟩
abbrev main_while0b_c_33 : Ref sig .tc := ⟨.hbm, 133, rfl⟩
abbrev main_while0b_v77 : Ref sig .tc := ⟨.hbm, 134, rfl⟩
abbrev main_v36 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S32768x2048 : Shape := ⟨2, ![32768, 2048]⟩
abbrev S4x2048x11264 : Shape := ⟨3, ![4, 2048, 11264]⟩
abbrev S4x3x5632 : Shape := ⟨3, ![4, 3, 5632]⟩
abbrev S4x5632 : Shape := ⟨2, ![4, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S32768x5632 : Shape := ⟨2, ![32768, 5632]⟩
abbrev S1024x2048 : Shape := ⟨2, ![1024, 2048]⟩
abbrev S1x2048x512 : Shape := ⟨3, ![1, 2048, 512]⟩
abbrev S3x512 : Shape := ⟨2, ![3, 512]⟩
abbrev S1x512 : Shape := ⟨2, ![1, 512]⟩
abbrev S1024x512 : Shape := ⟨2, ![1024, 512]⟩
abbrev S1032x512 : Shape := ⟨2, ![1032, 512]⟩
abbrev S8x512 : Shape := ⟨2, ![8, 512]⟩
abbrev S2048x512 : Shape := ⟨2, ![2048, 512]⟩
abbrev S32x512 : Shape := ⟨2, ![32, 512]⟩

abbrev nBuf : Space → Nat
  | .hbm => 11
  | .vmem => 14
  | .smem => 0
  | _ => 0

abbrev bufTy : (tb : Table) → Fin (tcTables nBuf tb) → BufTy
  | .hbm, ⟨0, _⟩ => ⟨S32768x2048, .bf16⟩
  | .hbm, ⟨1, _⟩ => ⟨S4x2048x11264, .f32⟩
  | .hbm, ⟨2, _⟩ => ⟨S4x3x5632, .f32⟩
  | .hbm, ⟨3, _⟩ => ⟨S4x5632, .f32⟩
  | .hbm, ⟨4, _⟩ => ⟨S4x2048x11264, .bf16⟩
  | .hbm, ⟨5, _⟩ => ⟨S1x3x5632, .f32⟩
  | .hbm, ⟨6, _⟩ => ⟨S3x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S32768x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1032x512, .f32⟩
  | .local _ .vmem, ⟨13, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S32768x2048 : Shape := ⟨2, ![32768, 2048]⟩
abbrev S4x2048x11264 : Shape := ⟨3, ![4, 2048, 11264]⟩
abbrev S4x3x5632 : Shape := ⟨3, ![4, 3, 5632]⟩
abbrev S4x5632 : Shape := ⟨2, ![4, 5632]⟩
abbrev S16x2048x2048 : Shape := ⟨3, ![16, 2048, 2048]⟩
abbrev S1x2048x11264 : Shape := ⟨3, ![1, 2048, 11264]⟩
abbrev S2048x11264 : Shape := ⟨2, ![2048, 11264]⟩
abbrev S16x2048x11264 : Shape := ⟨3, ![16, 2048, 11264]⟩
abbrev S16x2048x5632 : Shape := ⟨3, ![16, 2048, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S_ : Shape := ⟨0, ![]⟩
abbrev S16x2050x5632 : Shape := ⟨3, ![16, 2050, 5632]⟩
abbrev S1x1x5632 : Shape := ⟨3, ![1, 1, 5632]⟩
abbrev S32768x5632 : Shape := ⟨2, ![32768, 5632]⟩

abbrev nBuf : Space → Nat
  | .hbm => 53
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x11264, .f32⟩
  | .hbm, ⟨2, _⟩ => ⟨S4x3x5632, .f32⟩
  | .hbm, ⟨3, _⟩ => ⟨S4x5632, .f32⟩
  | .hbm, ⟨4, _⟩ => ⟨S32768x2048, .f32⟩
  | .hbm, ⟨5, _⟩ => ⟨S16x2048x2048, .f32⟩
  | .hbm, ⟨6, _⟩ => ⟨S1x2048x11264, .f32⟩
  | .hbm, ⟨7, _⟩ => ⟨S2048x11264, .f32⟩
  | .hbm, ⟨8, _⟩ => ⟨S16x2048x11264, .f32⟩
  | .hbm, ⟨9, _⟩ => ⟨S16x2048x5632, .f32⟩
  | .hbm, ⟨10, _⟩ => ⟨S16x2048x5632, .f32⟩
  | .hbm, ⟨11, _⟩ => ⟨S1x3x5632, .f32⟩
  | .hbm, ⟨12, _⟩ => ⟨S3x5632, .f32⟩
  | .hbm, ⟨13, _⟩ => ⟨S1x5632, .f32⟩
  | .hbm, ⟨14, _⟩ => ⟨S5632, .f32⟩
  | .hbm, ⟨15, _⟩ => ⟨S_, .i32⟩
  | .hbm, ⟨16, _⟩ => ⟨S_, .f32⟩
  | .hbm, ⟨17, _⟩ => ⟨S16x2050x5632, .f32⟩
  | .hbm, ⟨18, _⟩ => ⟨S16x2048x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S16x2048x5632, .f32⟩
  | .hbm, ⟨23, _⟩ => ⟨S16x2048x5632, .f32⟩
  | .hbm, ⟨24, _⟩ => ⟨S16x2048x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S16x2048x5632, .f32⟩
  | .hbm, ⟨29, _⟩ => ⟨S16x2048x5632, .f32⟩
  | .hbm, ⟨30, _⟩ => ⟨S16x2048x5632, .f32⟩
  | .hbm, ⟨31, _⟩ => ⟨S16x2048x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S16x2048x5632, .f32⟩
  | .hbm, ⟨36, _⟩ => ⟨S16x2048x5632, .f32⟩
  | .hbm, ⟨37, _⟩ => ⟨S16x2048x5632, .f32⟩
  | .hbm, ⟨38, _⟩ => ⟨S1x1x5632, .f32⟩
  | .hbm, ⟨39, _⟩ => ⟨S16x2048x5632, .f32⟩
  | .hbm, ⟨40, _⟩ => ⟨S16x2048x5632, .f32⟩
  | .hbm, ⟨41, _⟩ => ⟨S_, .f32⟩
  | .hbm, ⟨42, _⟩ => ⟨S16x2048x5632, .f32⟩
  | .hbm, ⟨43, _⟩ => ⟨S16x2048x5632, .f32⟩
  | .hbm, ⟨44, _⟩ => ⟨S16x2048x5632, .f32⟩
  | .hbm, ⟨45, _⟩ => ⟨S_, .f32⟩
  | .hbm, ⟨46, _⟩ => ⟨S16x2048x5632, .f32⟩
  | .hbm, ⟨47, _⟩ => ⟨S16x2048x5632, .f32⟩
  | .hbm, ⟨48, _⟩ => ⟨S16x2048x5632, .f32⟩
  | .hbm, ⟨49, _⟩ => ⟨S16x2048x5632, .f32⟩
  | .hbm, ⟨50, _⟩ => ⟨S16x2048x5632, .f32⟩
  | .hbm, ⟨51, _⟩ => ⟨S32768x5632, .f32⟩
  | .hbm, ⟨52, _⟩ => ⟨S32768x5632, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_0 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== Kernel3.lean ====
abbrev S32768x2048 : Shape := ⟨2, ![32768, 2048]⟩
abbrev S4x2048x6152 : Shape := ⟨3, ![4, 2048, 6152]⟩
abbrev S32768x2176 : Shape := ⟨2, ![32768, 2176]⟩
abbrev S1024x2048 : Shape := ⟨2, ![1024, 2048]⟩
abbrev S1x2048x2176 : Shape := ⟨3, ![1, 2048, 2176]⟩
abbrev S1024x2176 : Shape := ⟨2, ![1024, 2176]⟩
abbrev S2048x2176 : Shape := ⟨2, ![2048, 2176]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S4x2048x6152, .f32⟩
  | .hbm, ⟨2, _⟩ => ⟨S4x2048x6152, .bf16⟩
  | .hbm, ⟨3, _⟩ => ⟨S32768x2176, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x2176, .bf16⟩
  | .local _ .vmem, ⟨3, _⟩ => ⟨S1024x2176, .f32⟩
  | .local _ .vmem, ⟨4, _⟩ => ⟨S1024x2176, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x2048 : Shape := ⟨2, ![32768, 2048]⟩
abbrev S4x2048x6152 : Shape := ⟨3, ![4, 2048, 6152]⟩
abbrev S16x2048x2048 : Shape := ⟨3, ![16, 2048, 2048]⟩
abbrev S1x2048x6152 : Shape := ⟨3, ![1, 2048, 6152]⟩
abbrev S2048x6152 : Shape := ⟨2, ![2048, 6152]⟩
abbrev S16x2048x6152 : Shape := ⟨3, ![16, 2048, 6152]⟩
abbrev S32768x6152 : Shape := ⟨2, ![32768, 6152]⟩
abbrev S32768x2176 : Shape := ⟨2, ![32768, 2176]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x6152, .f32⟩
  | .hbm, ⟨2, _⟩ => ⟨S32768x2048, .f32⟩
  | .hbm, ⟨3, _⟩ => ⟨S16x2048x2048, .f32⟩
  | .hbm, ⟨4, _⟩ => ⟨S1x2048x6152, .f32⟩
  | .hbm, ⟨5, _⟩ => ⟨S2048x6152, .f32⟩
  | .hbm, ⟨6, _⟩ => ⟨S16x2048x6152, .f32⟩
  | .hbm, ⟨7, _⟩ => ⟨S32768x6152, .f32⟩
  | .hbm, ⟨8, _⟩ => ⟨S32768x2176, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S32768x2048 : Shape := ⟨2, ![32768, 2048]⟩
abbrev S4x2048x6152 : Shape := ⟨3, ![4, 2048, 6152]⟩
abbrev S4x2048x6144 : Shape := ⟨3, ![4, 2048, 6144]⟩
abbrev S32768x1024 : Shape := ⟨2, ![32768, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S4x2048x6152, .f32⟩
  | .hbm, ⟨2, _⟩ => ⟨S4x2048x6144, .f32⟩
  | .hbm, ⟨3, _⟩ => ⟨S4x2048x6144, .bf16⟩
  | .hbm, ⟨4, _⟩ => ⟨S32768x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x2048 : Shape := ⟨2, ![32768, 2048]⟩
abbrev S4x2048x6152 : Shape := ⟨3, ![4, 2048, 6152]⟩
abbrev S16x2048x2048 : Shape := ⟨3, ![16, 2048, 2048]⟩
abbrev S1x2048x6152 : Shape := ⟨3, ![1, 2048, 6152]⟩
abbrev S2048x6152 : Shape := ⟨2, ![2048, 6152]⟩
abbrev S16x2048x6152 : Shape := ⟨3, ![16, 2048, 6152]⟩
abbrev S32768x6152 : Shape := ⟨2, ![32768, 6152]⟩
abbrev S32768x1024 : Shape := ⟨2, ![32768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x6152, .f32⟩
  | .hbm, ⟨2, _⟩ => ⟨S32768x2048, .f32⟩
  | .hbm, ⟨3, _⟩ => ⟨S16x2048x2048, .f32⟩
  | .hbm, ⟨4, _⟩ => ⟨S1x2048x6152, .f32⟩
  | .hbm, ⟨5, _⟩ => ⟨S2048x6152, .f32⟩
  | .hbm, ⟨6, _⟩ => ⟨S16x2048x6152, .f32⟩
  | .hbm, ⟨7, _⟩ => ⟨S32768x6152, .f32⟩
  | .hbm, ⟨8, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel5.lean ====
abbrev S32768x2048 : Shape := ⟨2, ![32768, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S4x2048x2048, .f32⟩
  | .hbm, ⟨2, _⟩ => ⟨S4x2048x2048, .bf16⟩
  | .hbm, ⟨3, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x2048 : Shape := ⟨2, ![32768, 2048]⟩
abbrev S4x2048x2048 : Shape := ⟨3, ![4, 2048, 2048]⟩
abbrev S16x2048x2048 : Shape := ⟨3, ![16, 2048, 2048]⟩
abbrev S1x2048x2048 : Shape := ⟨3, ![1, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x2048, .f32⟩
  | .hbm, ⟨2, _⟩ => ⟨S32768x2048, .f32⟩
  | .hbm, ⟨3, _⟩ => ⟨S16x2048x2048, .f32⟩
  | .hbm, ⟨4, _⟩ => ⟨S1x2048x2048, .f32⟩
  | .hbm, ⟨5, _⟩ => ⟨S2048x2048, .f32⟩
  | .hbm, ⟨6, _⟩ => ⟨S16x2048x2048, .f32⟩
  | .hbm, ⟨7, _⟩ => ⟨S32768x2048, .f32⟩
  | .hbm, ⟨8, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel6.lean ====
abbrev S16x256x2048 : Shape := ⟨3, ![16, 256, 2048]⟩
abbrev S4x2048x4096 : Shape := ⟨3, ![4, 2048, 4096]⟩
abbrev S4096x2048 : Shape := ⟨2, ![4096, 2048]⟩
abbrev S4096x4096 : Shape := ⟨2, ![4096, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16x256x2048, .f32⟩
  | .hbm, ⟨1, _⟩ => ⟨S4x2048x4096, .f32⟩
  | .hbm, ⟨2, _⟩ => ⟨S4096x2048, .f32⟩
  | .hbm, ⟨3, _⟩ => ⟨S4096x2048, .bf16⟩
  | .hbm, ⟨4, _⟩ => ⟨S4x2048x4096, .bf16⟩
  | .hbm, ⟨5, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16x256x2048 : Shape := ⟨3, ![16, 256, 2048]⟩
abbrev S4x2048x4096 : Shape := ⟨3, ![4, 2048, 4096]⟩
abbrev S1x2048x4096 : Shape := ⟨3, ![1, 2048, 4096]⟩
abbrev S2048x4096 : Shape := ⟨2, ![2048, 4096]⟩
abbrev S16x256x4096 : Shape := ⟨3, ![16, 256, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S4x2048x4096, .f32⟩
  | .hbm, ⟨2, _⟩ => ⟨S1x2048x4096, .f32⟩
  | .hbm, ⟨3, _⟩ => ⟨S2048x4096, .f32⟩
  | .hbm, ⟨4, _⟩ => ⟨S16x256x4096, .f32⟩
  | .hbm, ⟨5, _⟩ => ⟨S4096x4096, .f32⟩
  | .hbm, ⟨6, _⟩ => ⟨S4096x4096, .bf16⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S32768x2048 : Shape := ⟨2, ![32768, 2048]⟩
abbrev S4x2048x2048 : Shape := ⟨3, ![4, 2048, 2048]⟩
abbrev S4x2048 : Shape := ⟨2, ![4, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S8x2048 : Shape := ⟨2, ![8, 2048]⟩
abbrev S8 : Shape := ⟨1, ![8]⟩
abbrev S8x1 : Shape := ⟨2, ![8, 1]⟩
abbrev S1x2048x512 : Shape := ⟨3, ![1, 2048, 512]⟩
abbrev S2048x512 : Shape := ⟨2, ![2048, 512]⟩
abbrev S512x512 : Shape := ⟨2, ![512, 512]⟩

abbrev nBuf : Space → Nat
  | .hbm => 14
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S4x2048x2048, .f32⟩
  | .hbm, ⟨3, _⟩ => ⟨S4x2048, .f32⟩
  | .hbm, ⟨4, _⟩ => ⟨S4x2048, .f32⟩
  | .hbm, ⟨5, _⟩ => ⟨S4x2048x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S32768x2048, .f32⟩
  | .hbm, ⟨13, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![65, 1], ![false, false]⟩

def k0_cond2 (i : grid0.Coords) : BitVec 1 :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v16 : BitVec 32 := Scalar.extui v15
  let c0_i32_7 : BitVec 32 := 0#32
  let v17 : BitVec 1 := Scalar.cmpi .ne v16 c0_i32_7
  v17

def k0_cond3 (i : grid0.Coords) : BitVec 1 :=
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_14 : BitVec 32 := 1#32
  let v28 : BitVec 1 := Scalar.cmpi .eq v27 c1_i32_14
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c1_i32_0 : BitVec 32 := 1#32
  let v2 : BitVec 32 := Scalar.muli v1 c1_i32_0
  let v3 : BitVec 32 := Scalar.addi v2 arg1
  let c0_i32_1 : BitVec 32 := 0#32
  let v4 : BitVec 32 := Scalar.select v0 c0_i32_1 v3
  let c0_i32_2 : BitVec 32 := 0#32
  let c0_i32_3 : BitVec 32 := 0#32
  ![v4.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c1_i32_0 : BitVec 32 := 1#32
  let v2 : BitVec 32 := Scalar.muli v1 c1_i32_0
  let v3 : BitVec 32 := Scalar.addi v2 arg1
  let c0_i32_1 : BitVec 32 := 0#32
  let v4 : BitVec 32 := Scalar.select v0 c0_i32_1 v3
  let c0_i32_2 : BitVec 32 := 0#32
  let c0_i32_3 : BitVec 32 := 0#32
  ![v4.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c1_i32_0 : BitVec 32 := 1#32
  let v2 : BitVec 32 := Scalar.muli v1 c1_i32_0
  let v3 : BitVec 32 := Scalar.addi v2 arg1
  let c0_i32_1 : BitVec 32 := 0#32
  let v4 : BitVec 32 := Scalar.select v0 c0_i32_1 v3
  let c0_i32_2 : BitVec 32 := 0#32
  let c0_i32_3 : BitVec 32 := 0#32
  ![v4.toNat, c0_i32_2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S32768x2048 : Shape := ⟨2, ![32768, 2048]⟩
abbrev S4x2048x2048 : Shape := ⟨3, ![4, 2048, 2048]⟩
abbrev S4x2048 : Shape := ⟨2, ![4, 2048]⟩
abbrev S16x2048x2048 : Shape := ⟨3, ![16, 2048, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S4x2048x2048, .f32⟩
  | .hbm, ⟨3, _⟩ => ⟨S4x2048, .f32⟩
  | .hbm, ⟨4, _⟩ => ⟨S4x2048, .f32⟩
  | .hbm, ⟨5, _⟩ => ⟨S32768x2048, .f32⟩
  | .hbm, ⟨6, _⟩ => ⟨S16x2048x2048, .f32⟩
  | .hbm, ⟨7, _⟩ => ⟨S1x2048x2048, .f32⟩
  | .hbm, ⟨8, _⟩ => ⟨S2048x2048, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x2048, .f32⟩
  | .hbm, ⟨41, _⟩ => ⟨S16x2048x2048, .f32⟩
  | .hbm, ⟨42, _⟩ => ⟨S1x1x2048, .f32⟩
  | .hbm, ⟨43, _⟩ => ⟨S16x2048x2048, .f32⟩
  | .hbm, ⟨44, _⟩ => ⟨S16x2048x2048, .f32⟩
  | .hbm, ⟨45, _⟩ => ⟨S1x1x2048, .f32⟩
  | .hbm, ⟨46, _⟩ => ⟨S16x2048x2048, .f32⟩
  | .hbm, ⟨47, _⟩ => ⟨S16x2048x2048, .f32⟩
  | .hbm, ⟨48, _⟩ => ⟨S32768x2048, .f32⟩
  | .hbm, ⟨49, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel8.lean ====
abbrev S32768x512 : Shape := ⟨2, ![32768, 512]⟩
abbrev S32768x1024 : Shape := ⟨2, ![32768, 1024]⟩
abbrev S32768x2048 : Shape := ⟨2, ![32768, 2048]⟩
abbrev S4x2048x2048 : Shape := ⟨3, ![4, 2048, 2048]⟩
abbrev S4x2048 : Shape := ⟨2, ![4, 2048]⟩
abbrev S1x2048 : Shape := ⟨2, ![1, 2048]⟩
abbrev S2048 : Shape := ⟨1, ![2048]⟩
abbrev S512x512 : Shape := ⟨2, ![512, 512]⟩
abbrev S512x1024 : Shape := ⟨2, ![512, 1024]⟩
abbrev S1x2048x2048 : Shape := ⟨3, ![1, 2048, 2048]⟩
abbrev S512x2048 : Shape := ⟨2, ![512, 2048]⟩
abbrev S8x2048 : Shape := ⟨2, ![8, 2048]⟩
abbrev S8 : Shape := ⟨1, ![8]⟩
abbrev S8x1 : Shape := ⟨2, ![8, 1]⟩
abbrev S1x2048x512 : Shape := ⟨3, ![1, 2048, 512]⟩
abbrev S2048x512 : Shape := ⟨2, ![2048, 512]⟩

abbrev nBuf : Space → Nat
  | .hbm => 16
  | .vmem => 17
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .bf16⟩
  | .hbm, ⟨3, _⟩ => ⟨S32768x2048, .f32⟩
  | .hbm, ⟨4, _⟩ => ⟨S4x2048x2048, .f32⟩
  | .hbm, ⟨5, _⟩ => ⟨S4x2048, .f32⟩
  | .hbm, ⟨6, _⟩ => ⟨S4x2048, .f32⟩
  | .hbm, ⟨7, _⟩ => ⟨S4x2048x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S32768x2048, .f32⟩
  | .hbm, ⟨15, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | .local _ .vmem, ⟨16, _⟩ => ⟨S512x2048, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![65, 1], ![false, false]⟩

def k0_cond2 (i : grid0.Coords) : BitVec 1 :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v16 : BitVec 32 := Scalar.extui v15
  let c0_i32_7 : BitVec 32 := 0#32
  let v17 : BitVec 1 := Scalar.cmpi .ne v16 c0_i32_7
  v17

def k0_cond3 (i : grid0.Coords) : BitVec 1 :=
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_14 : BitVec 32 := 1#32
  let v28 : BitVec 1 := Scalar.cmpi .eq v27 c1_i32_14
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c1_i32_0 : BitVec 32 := 1#32
  let v2 : BitVec 32 := Scalar.muli v1 c1_i32_0
  let v3 : BitVec 32 := Scalar.addi v2 arg1
  let c0_i32_1 : BitVec 32 := 0#32
  let v4 : BitVec 32 := Scalar.select v0 c0_i32_1 v3
  let c0_i32_2 : BitVec 32 := 0#32
  let c0_i32_3 : BitVec 32 := 0#32
  ![v4.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c1_i32_0 : BitVec 32 := 1#32
  let v2 : BitVec 32 := Scalar.muli v1 c1_i32_0
  let v3 : BitVec 32 := Scalar.addi v2 arg1
  let c0_i32_1 : BitVec 32 := 0#32
  let v4 : BitVec 32 := Scalar.select v0 c0_i32_1 v3
  let c0_i32_2 : BitVec 32 := 0#32
  let c0_i32_3 : BitVec 32 := 0#32
  ![v4.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c1_i32_0 : BitVec 32 := 1#32
  let v2 : BitVec 32 := Scalar.muli v1 c1_i32_0
  let v3 : BitVec 32 := Scalar.addi v2 arg1
  let c0_i32_1 : BitVec 32 := 0#32
  let v4 : BitVec 32 := Scalar.select v0 c0_i32_1 v3
  let c0_i32_2 : BitVec 32 := 0#32
  let c0_i32_3 : BitVec 32 := 0#32
  ![v4.toNat, c0_i32_2.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S32768x512 : Shape := ⟨2, ![32768, 512]⟩
abbrev S32768x1024 : Shape := ⟨2, ![32768, 1024]⟩
abbrev S32768x2048 : Shape := ⟨2, ![32768, 2048]⟩
abbrev S4x2048x2048 : Shape := ⟨3, ![4, 2048, 2048]⟩
abbrev S4x2048 : Shape := ⟨2, ![4, 2048]⟩
abbrev S16x2048x512 : Shape := ⟨3, ![16, 2048, 512]⟩
abbrev S16x2048x1024 : Shape := ⟨3, ![16, 2048, 1024]⟩
abbrev S16x2048x2048 : Shape := ⟨3, ![16, 2048, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .bf16⟩
  | .hbm, ⟨3, _⟩ => ⟨S32768x2048, .f32⟩
  | .hbm, ⟨4, _⟩ => ⟨S4x2048x2048, .f32⟩
  | .hbm, ⟨5, _⟩ => ⟨S4x2048, .f32⟩
  | .hbm, ⟨6, _⟩ => ⟨S4x2048, .f32⟩
  | .hbm, ⟨7, _⟩ => ⟨S32768x512, .f32⟩
  | .hbm, ⟨8, _⟩ => ⟨S16x2048x512, .f32⟩
  | .hbm, ⟨9, _⟩ => ⟨S32768x512, .f32⟩
  | .hbm, ⟨10, _⟩ => ⟨S16x2048x512, .f32⟩
  | .hbm, ⟨11, _⟩ => ⟨S32768x1024, .f32⟩
  | .hbm, ⟨12, _⟩ => ⟨S16x2048x1024, .f32⟩
  | .hbm, ⟨13, _⟩ => ⟨S16x2048x2048, .f32⟩
  | .hbm, ⟨14, _⟩ => ⟨S1x2048x2048, .f32⟩
  | .hbm, ⟨15, _⟩ => ⟨S2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x2048, .f32⟩
  | .hbm, ⟨42, _⟩ => ⟨S16x2048x2048, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S16x2048x1, .f32⟩
  | .hbm, ⟨47, _⟩ => ⟨S16x2048x2048, .f32⟩
  | .hbm, ⟨48, _⟩ => ⟨S16x2048x2048, .f32⟩
  | .hbm, ⟨49, _⟩ => ⟨S1x1x2048, .f32⟩
  | .hbm, ⟨50, _⟩ => ⟨S16x2048x2048, .f32⟩
  | .hbm, ⟨51, _⟩ => ⟨S16x2048x2048, .f32⟩
  | .hbm, ⟨52, _⟩ => ⟨S1x1x2048, .f32⟩
  | .hbm, ⟨53, _⟩ => ⟨S16x2048x2048, .f32⟩
  | .hbm, ⟨54, _⟩ => ⟨S16x2048x2048, .f32⟩
  | .hbm, ⟨55, _⟩ => ⟨S32768x2048, .f32⟩
  | .hbm, ⟨56, _⟩ => ⟨S32768x2048, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel9.lean ====
abbrev S32768x5632 : Shape := ⟨2, ![32768, 5632]⟩
abbrev S32768x2048 : Shape := ⟨2, ![32768, 2048]⟩
abbrev S4x5632x2048 : Shape := ⟨3, ![4, 5632, 2048]⟩
abbrev S4x2048 : Shape := ⟨2, ![4, 2048]⟩
abbrev S1x2048 : Shape := ⟨2, ![1, 2048]⟩
abbrev S2048 : Shape := ⟨1, ![2048]⟩
abbrev S1024x1408 : Shape := ⟨2, ![1024, 1408]⟩
abbrev S1x1408x2048 : Shape := ⟨3, ![1, 1408, 2048]⟩
abbrev S256x2048 : Shape := ⟨2, ![256, 2048]⟩
abbrev S1024x2048 : Shape := ⟨2, ![1024, 2048]⟩
abbrev S8x2048 : Shape := ⟨2, ![8, 2048]⟩
abbrev S8 : Shape := ⟨1, ![8]⟩
abbrev S8x1 : Shape := ⟨2, ![8, 1]⟩
abbrev S1x1408x512 : Shape := ⟨3, ![1, 1408, 512]⟩
abbrev S1408x512 : Shape := ⟨2, ![1408, 512]⟩
abbrev S1024x512 : Shape := ⟨2, ![1024, 512]⟩

abbrev nBuf : Space → Nat
  | .hbm => 14
  | .vmem => 14
  | .smem => 0
  | _ => 0

abbrev bufTy : (tb : Table) → Fin (tcTables nBuf tb) → BufTy
  | .hbm, ⟨0, _⟩ => ⟨S32768x5632, .bf16⟩
  | .hbm, ⟨1, _⟩ => ⟨S32768x2048, .f32⟩
  | .hbm, ⟨2, _⟩ => ⟨S4x5632x2048, .f32⟩
  | .hbm, ⟨3, _⟩ => ⟨S4x2048, .f32⟩
  | .hbm, ⟨4, _⟩ => ⟨S4x2048, .f32⟩
  | .hbm, ⟨5, _⟩ => ⟨S4x5632x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S32768x2048, .f32⟩
  | .hbm, ⟨13, _⟩ => ⟨S32768x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1024x2048, .f32⟩
  | .local _ .vmem, ⟨13, _⟩ => ⟨S1024x2048, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![33, 4], ![false, false]⟩

def k0_cond2 (i : grid0.Coords) : BitVec 1 :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v16 : BitVec 32 := Scalar.extui v15
  let c0_i32_7 : BitVec 32 := 0#32
  let v17 : BitVec 1 := Scalar.cmpi .ne v16 c0_i32_7
  v17

def k0_mult1 (i : grid0.Coords) : BitVec 32 :=
  let arg1 : BitVec 32 := BitVec.ofNat 32 (i 1).val
  let c256_i32 : BitVec 32 := 256#32
  let v31 : BitVec 32 := Scalar.muli arg1 c256_i32
  v31
def k0_off1 (i : grid0.Coords) (c0_i32_17 : BitVec 32) : Fin 2 → Nat :=
  let arg1 : BitVec 32 := BitVec.ofNat 32 (i 1).val
  let c256_i32 : BitVec 32 := 256#32
  let v31 : BitVec 32 := Scalar.muli arg1 c256_i32
  let v32 : BitVec 32 := v31
  let v34 : BitVec 32 := Scalar.addi v32 c0_i32_17
  let v35 : Index := Scalar.indexCast v34
  let c0_18 : Index := 0#32
  ![v35.toNat, 0]
def k0_cond3 (i : grid0.Coords) : BitVec 1 :=
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_14 : BitVec 32 := 1#32
  let v28 : BitVec 1 := Scalar.cmpi .eq v27 c1_i32_14
  let v29 : BitVec 32 := Scalar.extui v28
  let c0_i32_15 : BitVec 32 := 0#32
  let v30 : BitVec 1 := Scalar.cmpi .ne v29 c0_i32_15
  v30

def k0_mult2 (i : grid0.Coords) : BitVec 32 :=
  let arg1 : BitVec 32 := BitVec.ofNat 32 (i 1).val
  let c256_i32 : BitVec 32 := 256#32
  let v31 : BitVec 32 := Scalar.muli arg1 c256_i32
  v31
def k0_off2 (i : grid0.Coords) (c0_i32_17 : BitVec 32) : Fin 2 → Nat :=
  let arg1 : BitVec 32 := BitVec.ofNat 32 (i 1).val
  let c256_i32 : BitVec 32 := 256#32
  let v31 : BitVec 32 := Scalar.muli arg1 c256_i32
  let v32 : BitVec 32 := v31
  let v34 : BitVec 32 := Scalar.addi v32 c0_i32_17
  let v35 : Index := Scalar.indexCast v34
  let c0_18 : Index := 0#32
  ![v35.toNat, 0]
def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S32768x5632 : Shape := ⟨2, ![32768, 5632]⟩
abbrev S32768x2048 : Shape := ⟨2, ![32768, 2048]⟩
abbrev S4x5632x2048 : Shape := ⟨3, ![4, 5632, 2048]⟩
abbrev S4x2048 : Shape := ⟨2, ![4, 2048]⟩
abbrev S16x2048x5632 : Shape := ⟨3, ![16, 2048, 5632]⟩
abbrev S1x5632x2048 : Shape := ⟨3, ![1, 5632, 2048]⟩
abbrev S5632x2048 : Shape := ⟨2, ![5632, 2048]⟩
abbrev S16x2048x2048 : Shape := ⟨3, ![16, 2048, 2048]⟩
abbrev S_ : Shape := ⟨0, ![]⟩
abbrev S1x2048 : Shape := ⟨2, ![1, 2048]⟩
abbrev S2048 : Shape := ⟨1, ![2048]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S32768x2048, .f32⟩
  | .hbm, ⟨2, _⟩ => ⟨S4x5632x2048, .f32⟩
  | .hbm, ⟨3, _⟩ => ⟨S4x2048, .f32⟩
  | .hbm, ⟨4, _⟩ => ⟨S4x2048, .f32⟩
  | .hbm, ⟨5, _⟩ => ⟨S32768x5632, .f32⟩
  | .hbm, ⟨6, _⟩ => ⟨S16x2048x5632, .f32⟩
  | .hbm, ⟨7, _⟩ => ⟨S1x5632x2048, .f32⟩
  | .hbm, ⟨8, _⟩ => ⟨S5632x2048, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x2048, .f32⟩
  | .hbm, ⟨41, _⟩ => ⟨S16x2048x2048, .f32⟩
  | .hbm, ⟨42, _⟩ => ⟨S1x1x2048, .f32⟩
  | .hbm, ⟨43, _⟩ => ⟨S16x2048x2048, .f32⟩
  | .hbm, ⟨44, _⟩ => ⟨S16x2048x2048, .f32⟩
  | .hbm, ⟨45, _⟩ => ⟨S1x1x2048, .f32⟩
  | .hbm, ⟨46, _⟩ => ⟨S16x2048x2048, .f32⟩
  | .hbm, ⟨47, _⟩ => ⟨S16x2048x2048, .f32⟩
  | .hbm, ⟨48, _⟩ => ⟨S32768x2048, .f32⟩
  | .hbm, ⟨49, _⟩ => ⟨S32768x2048, .bf16⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Softmax.lean ====
/- Softmax sums over extended reals: one row of scores, indexed by a natural number, read through two windows. -/
module

public import Idealize.ShloMosaic.Lib.Pointwise

@[expose] public section

noncomputable section

namespace Cert.Softmax

open Idealize.ShloMosaic

/-- Multiplying by a non-negative real distributes over a finite sum of extended reals. -/
theorem sum_mul_real {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- A sum along a window of the naturals that holds every place where the summand is not zero is the sum up to `N`. -/
theorem sum_window (f : ℕ → EReal) (a n N : ℕ) (hN : a + n ≤ N) (h : ∀ m, f m ≠ 0 → a ≤ m ∧ m < a + n) :
    ∑ k ∈ Finset.range n, f (a + k) = ∑ m ∈ Finset.range N, f m := by
  rw [Finset.range_eq_Ico, Finset.sum_Ico_add f 0 n a, Finset.range_eq_Ico]
  refine Finset.sum_subset (fun m hm => ?_) (fun m _ hm => ?_)
  · simp only [Finset.mem_Ico] at hm ⊢; omega
  · by_contra hf
    have := h m hf
    simp only [Finset.mem_Ico] at hm
    omega

/-- A maximum along a window of the naturals that holds every place where the value is not `⊥` is the maximum up to `N`. -/
theorem sup_window (f : ℕ → EReal) (a n N : ℕ) (hN : a + n ≤ N) (h : ∀ m, f m ≠ ⊥ → a ≤ m ∧ m < a + n) :
    (Finset.range n).sup (fun k => f (a + k)) = (Finset.range N).sup f := by
  refine le_antisymm (Finset.sup_le fun k hk => ?_) (Finset.sup_le fun m _ => ?_)
  · refine Finset.le_sup (f := f) ?_
    simp only [Finset.mem_range] at hk ⊢; omega
  · by_cases hf : f m = ⊥
    · rw [hf]; exact bot_le
    · obtain ⟨h1, h2⟩ := h m hf
      have e : m = a + (m - a) := by omega
      rw [e]
      exact Finset.le_sup (f := fun k => f (a + k)) (Finset.mem_range.2 (by omega))

/-- A maximum over a range of naturals is the one over the finite type. -/
theorem sup_fin (n : ℕ) (f : ℕ → EReal) : (Finset.univ.sup fun k : Fin n => f k) = (Finset.range n).sup f := by
  refine le_antisymm (Finset.sup_le fun k _ => ?_) (Finset.sup_le fun m hm => ?_)
  · exact Finset.le_sup (f := f) (Finset.mem_range.2 k.isLt)
  · exact Finset.le_sup (f := fun k : Fin n => f k) (Finset.mem_univ ⟨m, Finset.mem_range.1 hm⟩)

/-- Three neighbouring windows of 256 are one of 768, for a sum. -/
theorem sum_three (f : ℕ → EReal) (b : ℕ) :
    ∑ k ∈ Finset.range 256, f (b + k) + ∑ k ∈ Finset.range 256, f (b + 256 + k) + ∑ k ∈ Finset.range 256, f (b + 512 + k)
      = ∑ k ∈ Finset.range 768, f (b + k) := by
  rw [show (768 : ℕ) = 256 + 256 + 256 from rfl, Finset.sum_range_add, Finset.sum_range_add]
  simp only [Nat.add_assoc, show (512 : ℕ) = 256 + 256 from rfl]

/-- Three neighbouring windows of 256 are one of 768, for a maximum taken place by place first. -/
theorem sup_three (f : ℕ → EReal) (b : ℕ) :
    (Finset.range 256).sup (fun k => max (max (f (b + k)) (f (b + 256 + k))) (f (b + 512 + k)))
      = (Finset.range 768).sup (fun k => f (b + k)) := by
  refine le_antisymm (Finset.sup_le fun k hk => ?_) (Finset.sup_le fun k hk => ?_)
  · have hk := Finset.mem_range.1 hk
    refine max_le (max_le ?_ ?_) ?_
    · exact Finset.le_sup (f := fun k => f (b + k)) (Finset.mem_range.2 (by omega))
    · rw [Nat.add_assoc]; exact Finset.le_sup (f := fun k => f (b + k)) (Finset.mem_range.2 (by omega))
    · rw [Nat.add_assoc]; exact Finset.le_sup (f := fun k => f (b + k)) (Finset.mem_range.2 (by omega))
  · have hk := Finset.mem_range.1 hk
    have key : ∀ j, j < 256 → max (max (f (b + j)) (f (b + 256 + j))) (f (b + 512 + j))
        ≤ (Finset.range 256).sup (fun k => max (max (f (b + k)) (f (b + 256 + k))) (f (b + 512 + k))) := fun j hj =>
      Finset.le_sup (f := fun k => max (max (f (b + k)) (f (b + 256 + k))) (f (b + 512 + k))) (Finset.mem_range.2 hj)
    rcases Nat.lt_or_ge k 256 with h | h
    · exact ((le_max_left _ _).trans (le_max_left _ _)).trans (key k h)
    · rcases Nat.lt_or_ge k 512 with h' | h'
      · have := key (k - 256) (by omega)
        rw [show b + 256 + (k - 256) = b + k by omega] at this
        exact ((le_max_right _ _).trans (le_max_left _ _)).trans this
      · have := key (k - 512) (by omega)
        rw [show b + 512 + (k - 512) = b + k by omega] at this
        exact (le_max_right _ _).trans this

/-- A row of scores, none `⊤` and one not `⊥`: every weight `exp (S m − max)` is a non-negative real, a weight at `⊥` is
    zero, and the weights' sum is a positive real. -/
theorem weights (S : ℕ → EReal) (N : ℕ) (htop : ∀ m, S m ≠ ⊤) (hne : ∃ m < N, S m ≠ ⊥) :
    ∃ d : ℝ, 0 < d ∧ ∑ m ∈ Finset.range N, Ideal.exp (S m - (Finset.range N).sup S) = (d : EReal) := by
  obtain ⟨m0, hm0, h0⟩ := hne
  have hnonempty : (Finset.range N).Nonempty := ⟨m0, Finset.mem_range.2 hm0⟩
  obtain ⟨mx, hmx, hM⟩ := Finset.exists_mem_eq_sup (Finset.range N) hnonempty S
  have hMbot : (Finset.range N).sup S ≠ ⊥ := fun e =>
    h0 (le_bot_iff.1 (e ▸ Finset.le_sup (f := S) (Finset.mem_range.2 hm0)))
  have hMtop : (Finset.range N).sup S ≠ ⊤ := by rw [hM]; exact htop mx
  have hw : ∀ m, ∃ x : ℝ, 0 ≤ x ∧ Ideal.exp (S m - (Finset.range N).sup S) = (x : EReal) := by
    intro m
    lift (Finset.range N).sup S to ℝ using ⟨hMtop, hMbot⟩ with M
    by_cases hb : S m = ⊥
    · exact ⟨0, le_rfl, by rw [hb, EReal.bot_sub, Ideal.exp_bot, EReal.coe_zero]⟩
    · have ht := htop m
      lift S m to ℝ using ⟨ht, hb⟩ with s
      exact ⟨Real.exp (s - M), (Real.exp_pos _).le, by rw [← EReal.coe_sub, Ideal.exp_coe]⟩
  choose x hx0 hx using hw
  have hone : x mx = 1 := by
    have := hx mx
    rw [← hM] at this
    lift (Finset.range N).sup S to ℝ using ⟨hMtop, hMbot⟩ with M
    rw [← EReal.coe_sub, Ideal.exp_coe, sub_self, Real.exp_zero] at this
    exact_mod_cast this.symm
  refine ⟨∑ m ∈ Finset.range N, x m, ?_, ?_⟩
  · refine lt_of_lt_of_le (by rw [hone]; norm_num : (0 : ℝ) < x mx) ?_
    exact Finset.single_le_sum (f := x) (fun i _ => hx0 i) hmx
  · have coeSum : ∀ s : Finset ℕ, ((∑ m ∈ s, x m : ℝ) : EReal) = ∑ m ∈ s, (x m : EReal) := by
      intro s
      induction s using Finset.induction_on with
      | empty => simp
      | insert a s ha ih => rw [Finset.sum_insert ha, Finset.sum_insert ha, EReal.coe_add, ih]
    rw [coeSum]
    exact Finset.sum_congr rfl fun m _ => hx m

/-- One row of attention two ways. `S` is the row of scores and `V` the column of values by place; the kernel walks three
    tiles of 256 places from `b` on and divides once at the end, the plain form walks 576 places from `r` on and divides
    every weight. The scores are `⊥` outside the two windows' common part, so both give the same number. -/
theorem attention (S V Vr : ℕ → EReal) (b r N : ℕ) (hb : b + 768 ≤ N) (hr : r + 576 ≤ N)
    (hsupp : ∀ m, S m ≠ ⊥ → (b ≤ m ∧ m < b + 768) ∧ (r ≤ m ∧ m < r + 576))
    (hV : ∀ m, S m ≠ ⊥ → Vr m = V m) (htop : ∀ m, S m ≠ ⊤) (hne : ∃ m < N, S m ≠ ⊥)
    (M : EReal) (hM : M = (Finset.range 256).sup (fun k => max (max (S (b + k)) (S (b + 256 + k))) (S (b + 512 + k))))
    (M' : EReal) (hM' : M' = (Finset.range 576).sup (fun k => S (r + k))) :
    (∑ k ∈ Finset.range 256, Ideal.exp (S (b + k) - M) * V (b + k)
        + ∑ k ∈ Finset.range 256, Ideal.exp (S (b + 256 + k) - M) * V (b + 256 + k)
        + ∑ k ∈ Finset.range 256, Ideal.exp (S (b + 512 + k) - M) * V (b + 512 + k))
      * Ideal.div 1 (∑ k ∈ Finset.range 256, (Ideal.exp (S (b + k) - M) + Ideal.exp (S (b + 256 + k) - M)
          + Ideal.exp (S (b + 512 + k) - M)))
    = ∑ k ∈ Finset.range 576, Vr (r + k) * Ideal.div (Ideal.exp (S (r + k) - M'))
        (∑ l ∈ Finset.range 576, Ideal.exp (S (r + l) - M')) := by
  rw [sup_three, sup_window S b 768 N hb fun m hm => (hsupp m hm).1] at hM
  rw [sup_window S r 576 N hr fun m hm => (hsupp m hm).2] at hM'
  have hMM : M' = M := hM'.trans hM.symm
  subst hMM
  obtain ⟨d, hd, hsum⟩ := weights S N htop hne
  rw [← hM'] at hsum
  have hz : ∀ m, S m = ⊥ → Ideal.exp (S m - M') = 0 := fun m h => by rw [h, EReal.bot_sub, Ideal.exp_bot]
  have hE : ∀ m, Ideal.exp (S m - M') ≠ 0 → S m ≠ ⊥ := fun m h e => h (hz m e)
  have hden : ∑ k ∈ Finset.range 256, (Ideal.exp (S (b + k) - M') + Ideal.exp (S (b + 256 + k) - M')
          + Ideal.exp (S (b + 512 + k) - M')) = (d : EReal) := by
    rw [Finset.sum_add_distrib, Finset.sum_add_distrib, sum_three (fun m => Ideal.exp (S m - M')) b,
      sum_window (fun m => Ideal.exp (S m - M')) b 768 N hb fun m hm => (hsupp m (hE m hm)).1, hsum]
  have hden' : ∑ l ∈ Finset.range 576, Ideal.exp (S (r + l) - M') = (d : EReal) := by
    rw [sum_window (fun m => Ideal.exp (S m - M')) r 576 N hr fun m hm => (hsupp m (hE m hm)).2, hsum]
  have hP : ∀ m, Ideal.exp (S m - M') * V m ≠ 0 → S m ≠ ⊥ := fun m h e => h (by rw [hz m e, zero_mul])
  rw [hden, hden', sum_three (fun m => Ideal.exp (S m - M') * V m) b,
    sum_window (fun m => Ideal.exp (S m - M') * V m) b 768 N hb fun m hm => (hsupp m (hP m hm)).1,
    Ideal.div_coe hd.ne', one_mul]
  rw [← sum_window (fun m => Ideal.exp (S m - M') * V m) r 576 N hr fun m hm => (hsupp m (hP m hm)).2,
    sum_mul_real _ _ _ (by positivity)]
  refine Finset.sum_congr rfl fun k _ => ?_
  rw [Ideal.div_coe hd.ne']
  by_cases h : S (r + k) = ⊥
  · rw [hz _ h]; simp
  · rw [hV _ h, ← mul_assoc, mul_comm (V _)]

end Cert.Softmax

end
-- ==== Proof.RefTrip.lean ====
/- One trip of the reference's loop over the chunks, read entry by entry. -/
module

public import proofs.«01_k».proof.Proof.Gen.ReferenceIdeal.Step
public import proofs.«01_k».proof.Proof.Softmax

@[expose] public section

set_option maxRecDepth 16384

noncomputable section

namespace Cert.RefTrip

open Idealize.ShloMosaic Cert.ReferenceIdeal Cert.ReferenceIdeal.Gen Cert.ReferenceIdeal.Step

/-- A small natural number's 32-bit word, read signed, is that number. -/
theorem toInt_small (n : ℕ) (hn : n < 2147483648) : (BitVec.ofNat 32 n).toInt = (n : ℤ) := by
  rw [BitVec.toInt_eq_toNat_cond, BitVec.toNat_ofNat, Nat.mod_eq_of_lt (by omega)]
  rw [if_pos (by omega)]

/-- A start inside the bounds is not clamped, the two extents given as numbers. -/
theorem start_at {s t : Shape} (ht : t.rank = s.rank) (st : Fin s.rank → ℤ) (a : Fin s.rank) (k u w : ℕ) (hk : st a = k)
    (eu : t.size (a.cast ht.symm) = u) (ew : s.size a = w) (hle : k + u ≤ w) : Host.clampedStart s t ht st a = k :=
  Host.clampedStart_of_le ht st a k hk (by rw [eu, ew]; exact hle)

/-- The first chunk-wide position a trip works from: 64 times its number. -/
theorem b9_val (j : ℕ) (hj : j < 32) (s : State Ideal) (i : S_.Idx) : b9 j s i = BitVec.ofNat 32 (j * 64) := by
  pointwise [b9, b1, b0, b8, K_main_v33]
  rw [Host.clampedStart_of_le _ _ 0 j (toInt_small j (by omega)) (show j + 1 ≤ 32 by omega)]
  show BitVec.ofNat 32 j * BitVec.ofNat 32 64 = _
  rw [BitVec.ofNat_mul]

/-- The start after jnp's wrap of negative indices: the position is not negative, so it stays. -/
theorem b14_val (j : ℕ) (hj : j < 32) (s : State Ideal) (i : S_.Idx) : b14 j s i = BitVec.ofNat 32 (j * 64) := by
  pointwise [b14, b11, b10, b13, b12]
  rw [b9_val j hj]
  clear s i
  interval_cases j <;> rfl

theorem b23_val (j : ℕ) (hj : j < 32) (s : State Ideal) (i : S_.Idx) : b23 j s i = BitVec.ofNat 32 (j * 64) :=
  b14_val j hj s i

/-- A band of 576 rows sliced at a start given by its words, read at an entry. -/
theorem band_at (x : FVec Ideal S16x2560x8x128 .f32) (w0 w1 w2 w3 : IVec S_ 32) (n : ℕ) (hn : n + 576 ≤ 2560)
    (h0 : ∀ i, w0 i = 0#32) (h1 : ∀ i, w1 i = BitVec.ofNat 32 n) (h2 : ∀ i, w2 i = 0#32) (h3 : ∀ i, w3 i = 0#32)
    (hf : S16x2560x8x128.Slices (fun _ => 0) S16x576x8x128)
    (b : Fin 16) (k : Fin 576) (h : Fin 8) (d : Fin 128) :
    Host.dynamicSlice S16x576x8x128 x (fun a => ((![w0, w1, w2, w3] : Fin 4 → IVec S_ 32) a (Shape.Idx.first h_S_)).toInt) hf
      (ix4 b k h d) = x (ix4 b ⟨n + k, by omega⟩ h d) := by
  generalize hst : (fun a => ((![w0, w1, w2, w3] : Fin 4 → IVec S_ 32) a (Shape.Idx.first h_S_)).toInt) = st
  have e0 : st 0 = ((0 : ℕ) : ℤ) := by subst hst; exact congrArg BitVec.toInt (h0 _)
  have e1 : st 1 = (n : ℤ) := by subst hst; exact (congrArg BitVec.toInt (h1 _)).trans (toInt_small n (by omega))
  have e2 : st 2 = ((0 : ℕ) : ℤ) := by subst hst; exact congrArg BitVec.toInt (h2 _)
  have e3 : st 3 = ((0 : ℕ) : ℤ) := by subst hst; exact congrArg BitVec.toInt (h3 _)
  clear hst
  pointwise []
  congr 1
  rw [ix4_inj]
  refine ⟨Fin.ext ?_, Fin.ext ?_, Fin.ext ?_, Fin.ext ?_⟩
  · exact (congrArg (· + b.val) (start_at _ _ 0 0 16 16 e0 rfl rfl (by omega))).trans (Nat.zero_add _)
  · exact congrArg (· + k.val) (start_at _ _ 1 n 576 2560 e1 rfl rfl hn)
  · exact (congrArg (· + h.val) (start_at _ _ 2 0 8 8 e2 rfl rfl (by omega))).trans (Nat.zero_add _)
  · exact (congrArg (· + d.val) (start_at _ _ 3 0 128 128 e3 rfl rfl (by omega))).trans (Nat.zero_add _)

/-- The band of keys of a trip, read in the padded keys. -/
theorem b18_at (j : ℕ) (hj : j < 32) (s : State Ideal) (b : Fin 16) (k : Fin 576) (h : Fin 8) (d : Fin 128) :
    b18 j s (ix4 b k h d) = s.main_v35_2 (ix4 b ⟨j * 64 + k, by omega⟩ h d) := by
  unfold b18
  exact band_at _ _ _ _ _ (j * 64) (by omega) (fun _ => rfl) (b14_val j hj s) (fun _ => rfl) (fun _ => rfl) _ b k h d

/-- The band of values of a trip, read in the padded values. -/
theorem b27_at (j : ℕ) (hj : j < 32) (s : State Ideal) (b : Fin 16) (k : Fin 576) (h : Fin 8) (d : Fin 128) :
    b27 j s (ix4 b k h d) = s.main_v35_3 (ix4 b ⟨j * 64 + k, by omega⟩ h d) := by
  unfold b27
  exact band_at _ _ _ _ _ (j * 64) (by omega) (fun _ => rfl) (b23_val j hj s) (fun _ => rfl) (fun _ => rfl) _ b k h d

/-- One chunk sliced at a start given by its words, read at an entry. -/
theorem chunk_at (x : FVec Ideal S32x16x64x8x128 .f32) (w0 w1 w2 w3 w4 : IVec S_ 32) (n : ℕ) (hn : n < 32)
    (h0 : ∀ i, w0 i = BitVec.ofNat 32 n) (h1 : ∀ i, w1 i = 0#32) (h2 : ∀ i, w2 i = 0#32) (h3 : ∀ i, w3 i = 0#32)
    (h4 : ∀ i, w4 i = 0#32)
    (hf : S32x16x64x8x128.Slices (fun _ => 0) S1x16x64x8x128)
    (z : Fin 1) (b : Fin 16) (k : Fin 64) (h : Fin 8) (d : Fin 128) :
    Host.dynamicSlice S1x16x64x8x128 x
      (fun a => ((![w0, w1, w2, w3, w4] : Fin 5 → IVec S_ 32) a (Shape.Idx.first h_S_)).toInt) hf
      (ix5 z b k h d) = x (ix5 ⟨n, hn⟩ b k h d) := by
  generalize hst : (fun a => ((![w0, w1, w2, w3, w4] : Fin 5 → IVec S_ 32) a (Shape.Idx.first h_S_)).toInt) = st
  have e0 : st 0 = (n : ℤ) := by subst hst; exact (congrArg BitVec.toInt (h0 _)).trans (toInt_small n (by omega))
  have e1 : st 1 = ((0 : ℕ) : ℤ) := by subst hst; exact congrArg BitVec.toInt (h1 _)
  have e2 : st 2 = ((0 : ℕ) : ℤ) := by subst hst; exact congrArg BitVec.toInt (h2 _)
  have e3 : st 3 = ((0 : ℕ) : ℤ) := by subst hst; exact congrArg BitVec.toInt (h3 _)
  have e4 : st 4 = ((0 : ℕ) : ℤ) := by subst hst; exact congrArg BitVec.toInt (h4 _)
  clear hst
  have hz : z = 0 := Subsingleton.elim _ _
  subst hz
  pointwise []
  congr 1
  rw [ix5_inj]
  refine ⟨Fin.ext ?_, Fin.ext ?_, Fin.ext ?_, Fin.ext ?_, Fin.ext ?_⟩
  · exact start_at (by rfl) _ 0 n 1 32 e0 (by rfl) (by rfl) (by omega)
  · exact (congrArg (· + b.val) (start_at _ _ 1 0 16 16 e1 rfl rfl (by omega))).trans (Nat.zero_add _)
  · exact (congrArg (· + k.val) (start_at _ _ 2 0 64 64 e2 rfl rfl (by omega))).trans (Nat.zero_add _)
  · exact (congrArg (· + h.val) (start_at _ _ 3 0 8 8 e3 rfl rfl (by omega))).trans (Nat.zero_add _)
  · exact (congrArg (· + d.val) (start_at _ _ 4 0 128 128 e4 rfl rfl (by omega))).trans (Nat.zero_add _)

/-- The queries of a trip's chunk. -/
theorem b7_at (j : ℕ) (hj : j < 32) (s : State Ideal) (b : Fin 16) (q : Fin 64) (h : Fin 8) (d : Fin 128) :
    b7 j s (ix4 b q h d) = s.main_v35_1 (ix5 ⟨j, hj⟩ b q h d) := by
  pointwise [b7]
  unfold b6
  exact chunk_at _ _ _ _ _ _ j hj (fun _ => rfl) (fun _ => rfl) (fun _ => rfl) (fun _ => rfl) (fun _ => rfl) _ _ b q h d

/-- The mask: a key is before the sequence exactly when its padded place is below 512. -/
theorem mask_at (j : ℕ) (hj : j < 32) (s : State Ideal) (k : Fin 576) :
    b41 j s (ix1 k) = if 512 ≤ j * 64 + k.val then 1#1 else 0#1 := by
  pointwise [b41, b40, b39, b38, b37, b36, b35, K_main_v13]
  rw [b9_val j hj]
  obtain ⟨k, hk⟩ := k
  have e : IntOp.addi (IntOp.subi (BitVec.ofNat 32 (j * 64)) 512#32) (BitVec.ofNat 32 k)
      = BitVec.ofInt 32 ((j * 64 + k : ℕ) - 512 : ℤ) := by
    apply BitVec.eq_of_toInt_eq
    simp only [IntOp.addi, IntOp.subi, BitVec.toInt_add, BitVec.toInt_sub, BitVec.toInt_ofInt, toInt_small _ (show j * 64 < 2147483648 by omega), toInt_small _ (show k < 2147483648 by omega)]
    simp only [show (512#32).toInt = 512 from rfl, Int.bmod_def]
    push_cast
    omega
  rw [e]
  show BitVec.ofBool (BitVec.sle 0#32 _) = _
  have e2 : (BitVec.ofInt 32 ((j * 64 + k : ℕ) - 512 : ℤ)).toInt = ((j * 64 + k : ℕ) - 512 : ℤ) := by
    rw [BitVec.toInt_ofInt, Int.bmod_def]
    push_cast
    omega
  rw [BitVec.sle_eq_decide, e2]
  show BitVec.ofBool (decide ((0 : ℤ) ≤ _)) = _
  by_cases hh : 512 ≤ j * 64 + k
  · rw [if_pos hh, decide_eq_true (by omega)]; rfl
  · rw [if_neg hh, decide_eq_false (by omega)]; rfl

/-- A score of a trip: the scaled product of query and key plus the bias, `⊥` before the sequence. -/
theorem score_at (j : ℕ) (hj : j < 32) (s : State Ideal) (b : Fin 16) (h : Fin 8) (q : Fin 64) (k : Fin 576) :
    b46 j s (ix4 b h q k) = if 512 ≤ j * 64 + k.val then
      (∑ d : Fin 128, s.main_v35_1 (ix5 ⟨j, hj⟩ b q h d) * s.main_v35_2 (ix4 b ⟨j * 64 + k, by omega⟩ h d))
        * Ideal.ofBits .f32 0x3DB504F3#32 + s.main_v35_4 (ix3 h q k) else ⊥ := by
  pointwise [b46, b45, b44, b43, b42, b34, b33, b32, b31, b30, b29, b28]
  simp only [b7_at j hj, b18_at j hj, mask_at j hj]
  by_cases hh : 512 ≤ j * 64 + k.val
  · simp only [if_pos hh]; rfl
  · simp only [if_neg hh]
    show Ideal.ofBits .f32 0xFF800000#32 = ⊥
    simp [Ideal.ofBits, Ideal.ieee]

end Cert.RefTrip

end
-- ==== Proof.RefTripOut.lean ====
/- What one trip of the reference's loop leaves in the result, from its scores. -/
module

public import proofs.«01_k».proof.Proof.RefTrip

@[expose] public section

set_option maxRecDepth 16384

noncomputable section

namespace Cert.RefTrip

open Idealize.ShloMosaic Cert.ReferenceIdeal Cert.ReferenceIdeal.Gen Cert.ReferenceIdeal.Step

/-- The word of minus infinity denotes `⊥`. -/
theorem neg_inf : Ideal.ofBits .f32 0xFF800000#32 = ⊥ := by simp [Ideal.ofBits, Ideal.ieee]

/-- A running maximum from `⊥` is the supremum. -/
theorem fold_max {ι : Type} (s : Finset ι) (f : ι → EReal) : s.fold max ⊥ f = s.sup f := by
  classical
  induction s using Finset.induction_on with
  | empty => rw [Finset.fold_empty, Finset.sup_empty]
  | insert a s ha ih => rw [Finset.fold_insert ha, Finset.sup_insert, ih]

/-- The maximum over a row of scores as the reduction leaves it. -/
theorem b48_at (j : ℕ) (s : State Ideal) (b : Fin 16) (h : Fin 8) (q : Fin 64) :
    b48 j s (ix3 b h q) = Finset.univ.fold max (b47 j s (Shape.Idx.first h_S_)) fun x => b46 j s (ix4 b h q x) := by
  pointwise [b48]

/-- The row maximum against minus infinity, entry by entry. -/
theorem b51_at (j : ℕ) (s : State Ideal) (i : S16x8x64.Idx) : b51 j s i = max (b50 j s i : EReal) (b48 j s i) := by
  unfold b51
  rw [maximumf_apply]
  rfl

theorem b50_at (j : ℕ) (s : State Ideal) (b : Fin 16) (h : Fin 8) (q : Fin 64) : b50 j s (ix3 b h q) = (⊥ : EReal) := by
  pointwise [b50, b49]
  exact neg_inf

theorem b47_at (j : ℕ) (s : State Ideal) (i : S_.Idx) : b47 j s i = (⊥ : EReal) := by
  unfold b47
  rw [constant_apply]
  exact neg_inf

/-- The largest score of a row of a trip. -/
theorem max_at (j : ℕ) (s : State Ideal) (b : Fin 16) (h : Fin 8) (q : Fin 64) :
    b51 j s (ix3 b h q) = Finset.univ.sup fun x : Fin 576 => (b46 j s (ix4 b h q x) : EReal) := by
  rw [b51_at, b50_at, b48_at, b47_at]
  exact (max_eq_right bot_le).trans (fold_max _ _)

/-- One entry of a trip's output: the values weighted by the softmax of the scores. -/
theorem out_at (j : ℕ) (s : State Ideal) (b : Fin 16) (h : Fin 8) (q : Fin 64) (d : Fin 128) :
    b62 j s (ix4 b q h d) = ∑ x : Fin 576, b27 j s (ix4 b x h d) *
        Ideal.div (Ideal.exp (b46 j s (ix4 b h q x) - b51 j s (ix3 b h q)))
          (∑ y : Fin 576, Ideal.exp (b46 j s (ix4 b h q y) - b51 j s (ix3 b h q))) := by
  pointwise [b62, b61, b60, b59, b58, b57, b56, b55, b54, b53, b52]

/-- One chunk written at a start given by its words: the entries of that chunk are the update's, the others stay. -/
theorem written_at (x : FVec Ideal S32x16x64x8x128 .f32) (u : FVec Ideal S1x16x64x8x128 .f32)
    (w0 w1 w2 w3 w4 : IVec S_ 32) (n : ℕ) (hn : n < 32)
    (h0 : ∀ i, w0 i = BitVec.ofNat 32 n) (h1 : ∀ i, w1 i = 0#32) (h2 : ∀ i, w2 i = 0#32) (h3 : ∀ i, w3 i = 0#32)
    (h4 : ∀ i, w4 i = 0#32)
    (hf : S32x16x64x8x128.Slices (fun _ => 0) S1x16x64x8x128)
    (c : Fin 32) (b : Fin 16) (k : Fin 64) (h : Fin 8) (d : Fin 128) :
    Host.dynamicUpdateSlice x u
      (fun a => ((![w0, w1, w2, w3, w4] : Fin 5 → IVec S_ 32) a (Shape.Idx.first h_S_)).toInt) hf
      (ix5 c b k h d) = if c.val = n then u (ix5 0 b k h d) else x (ix5 c b k h d) := by
  generalize hst : (fun a => ((![w0, w1, w2, w3, w4] : Fin 5 → IVec S_ 32) a (Shape.Idx.first h_S_)).toInt) = st
  have e0 : st 0 = (n : ℤ) := by subst hst; exact (congrArg BitVec.toInt (h0 _)).trans (toInt_small n (by omega))
  have e1 : st 1 = ((0 : ℕ) : ℤ) := by subst hst; exact congrArg BitVec.toInt (h1 _)
  have e2 : st 2 = ((0 : ℕ) : ℤ) := by subst hst; exact congrArg BitVec.toInt (h2 _)
  have e3 : st 3 = ((0 : ℕ) : ℤ) := by subst hst; exact congrArg BitVec.toInt (h3 _)
  have e4 : st 4 = ((0 : ℕ) : ℤ) := by subst hst; exact congrArg BitVec.toInt (h4 _)
  clear hst
  have c0 : Host.clampedStart S32x16x64x8x128 S1x16x64x8x128 hf.1 st 0 = n :=
    start_at (by rfl) _ 0 n 1 32 e0 (by rfl) (by rfl) (by omega)
  have c1 : Host.clampedStart S32x16x64x8x128 S1x16x64x8x128 hf.1 st 1 = 0 :=
    start_at (by rfl) _ 1 0 16 16 e1 (by rfl) (by rfl) (by omega)
  have c2 : Host.clampedStart S32x16x64x8x128 S1x16x64x8x128 hf.1 st 2 = 0 :=
    start_at (by rfl) _ 2 0 64 64 e2 (by rfl) (by rfl) (by omega)
  have c3 : Host.clampedStart S32x16x64x8x128 S1x16x64x8x128 hf.1 st 3 = 0 :=
    start_at (by rfl) _ 3 0 8 8 e3 (by rfl) (by rfl) (by omega)
  have c4 : Host.clampedStart S32x16x64x8x128 S1x16x64x8x128 hf.1 st 4 = 0 :=
    start_at (by rfl) _ 4 0 128 128 e4 (by rfl) (by rfl) (by omega)
  pointwise []
  by_cases hc : c.val = n
  · rw [if_pos hc, dif_pos ⟨⟨by rw [c0]; omega, by rw [c0]; omega⟩, by rw [c1]; omega, by rw [c2]; omega, by rw [c3]; omega,
      by rw [c4]; omega⟩]
    congr 1
    rw [ix5_inj]
    exact ⟨Subsingleton.elim _ _, Fin.ext (congrArg (b.val - ·) c1), Fin.ext (congrArg (k.val - ·) c2), Fin.ext (congrArg (h.val - ·) c3),
      Fin.ext (congrArg (d.val - ·) c4)⟩
  · rw [if_neg hc, dif_neg]
    rintro ⟨⟨h1, h2⟩, -⟩
    rw [c0] at h1 h2
    omega

/-- What a trip leaves in the carried result: its own chunk's entries new, the others as they were. -/
theorem carried_at (j : ℕ) (hj : j < 32) (s : State Ideal) (c : Fin 32) (b : Fin 16) (q : Fin 64) (h : Fin 8) (d : Fin 128) :
    b68 j s (ix5 c b q h d) = if c.val = j then b62 j s (ix4 b q h d) else s.main_v35_7 (ix5 c b q h d) := by
  unfold b68
  refine (written_at _ _ _ _ _ _ _ j hj (fun _ => rfl) (fun _ => rfl) (fun _ => rfl) (fun _ => rfl) (fun _ => rfl) _
    c b q h d).trans ?_
  have e : b63 j s (ix5 0 b q h d) = b62 j s (ix4 b q h d) := by pointwise [b63]
  rw [e]

end Cert.RefTrip

end
-- ==== Proof.KernelHead.lean ====
/- One head of one block of queries: the kernel's three tiles of scores, their softmax and its output. -/
module

public import proofs.«01_k».proof.Proof.Gen.KernelIdeal.Value
public import proofs.«01_k».proof.Proof.RefTripOut

@[expose] public section

set_option maxRecDepth 16384

noncomputable section

namespace Cert.KernelHead

open Idealize.ShloMosaic Idealize.ShloMosaic.TcCoe Idealize.SL.Sem
open Cert.KernelIdeal Cert.KernelIdeal.Gen

/-- A tile of scores: the scaled products of queries and keys, the bias added. -/
def scores (q k : FVec Ideal S256x128 .bf16) (b : FVec Ideal S1x1x1x256x256 .f32) : FVec Ideal S256x256 .f32 := k0_pay2 q k b

/-- A head's output from its queries, its three tiles of keys, biases and values. -/
def head (q k0 k1 k2 : FVec Ideal S256x128 .bf16) (b0 b1 b2 : FVec Ideal S1x1x1x256x256 .f32)
    (v0 v1 v2 : FVec Ideal S256x128 .bf16) : FVec Ideal S256x128 .bf16 :=
  let s0 := scores q k0 b0
  let s1 := scores q k1 b1
  let s2 := scores q k2 b2
  k0_pay15 (k0_pay11 s0 s1 s2) (k0_pay12 s0 s1 s2) (k0_pay13 s0 s1 s2) (k0_pay14 s0 s1 s2) v0 v1 v2

theorem scores_at (q k : FVec Ideal S256x128 .bf16) (b : FVec Ideal S1x1x1x256x256 .f32) (i j : Fin 256) :
    scores q k b (ix2 i j)
      = (((∑ d : Fin 128, q (ix2 i d) * k (ix2 j d)) * Ideal.ofBits .f32 0x3DB504F3#32 + b (ix5 0 0 0 i j) : EReal)) := by
  pointwise [scores, k0_pay2]

/-- The largest of a query's scores. -/
def top (s0 s1 s2 : FVec Ideal S256x256 .f32) (i : Fin 256) : EReal :=
  Finset.univ.sup fun k : Fin 256 => max (max (s0 (ix2 i k)) (s1 (ix2 i k))) (s2 (ix2 i k))

theorem top_at (s0 s1 s2 : FVec Ideal S256x256 .f32) (i : Fin 256) : k0_pay10 s0 s1 s2 (ix2 i 0) = top s0 s1 s2 i := by
  pointwise [k0_pay10]
  rw [RefTrip.neg_inf]
  exact RefTrip.fold_max _ _

theorem exp0_at (s0 s1 s2 : FVec Ideal S256x256 .f32) (i k : Fin 256) :
    k0_pay11 s0 s1 s2 (ix2 i k) = Ideal.exp (s0 (ix2 i k) - top s0 s1 s2 i) := by
  pointwise [k0_pay11]
  rw [top_at]
theorem exp1_at (s0 s1 s2 : FVec Ideal S256x256 .f32) (i k : Fin 256) :
    k0_pay12 s0 s1 s2 (ix2 i k) = Ideal.exp (s1 (ix2 i k) - top s0 s1 s2 i) := by
  pointwise [k0_pay12]
  rw [top_at]
theorem exp2_at (s0 s1 s2 : FVec Ideal S256x256 .f32) (i k : Fin 256) :
    k0_pay13 s0 s1 s2 (ix2 i k) = Ideal.exp (s2 (ix2 i k) - top s0 s1 s2 i) := by
  pointwise [k0_pay13]
  rw [top_at]

theorem den_at (s0 s1 s2 : FVec Ideal S256x256 .f32) (i : Fin 256) :
    k0_pay14 s0 s1 s2 (ix2 i 0) = (∑ k : Fin 256, (Ideal.exp (s0 (ix2 i k) - top s0 s1 s2 i)
      + Ideal.exp (s1 (ix2 i k) - top s0 s1 s2 i) + Ideal.exp (s2 (ix2 i k) - top s0 s1 s2 i)) : EReal) := by
  pointwise [k0_pay14]
  simp only [exp0_at, exp1_at, exp2_at]

theorem out_at (p0 p1 p2 : FVec Ideal S256x256 .f32) (den : FVec Ideal S256x1 .f32) (v0 v1 v2 : FVec Ideal S256x128 .bf16)
    (i : Fin 256) (d : Fin 128) :
    k0_pay15 p0 p1 p2 den v0 v1 v2 (ix2 i d)
      = ((∑ k : Fin 256, p0 (ix2 i k) * v0 (ix2 k d)) + (∑ k : Fin 256, p1 (ix2 i k) * v1 (ix2 k d))
          + (∑ k : Fin 256, p2 (ix2 i k) * v2 (ix2 k d))) * Ideal.div 1 (den (ix2 i 0)) := by
  pointwise [k0_pay15]

end Cert.KernelHead

end
-- ==== Proof.KernelBlock.lean ====
/- One grid point of the kernel: its output block, column block by column block. -/
module

public import proofs.«01_k».proof.Proof.KernelHead
public import Idealize.ShloMosaic.Lib.Pipeline.ValueKit

@[expose] public section

set_option maxRecDepth 16384

noncomputable section

namespace Cert.KernelBlock

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The 256 rows from `r` of head `h`'s columns in a block of queries, keys or values. -/
def cols {n : ℕ} (X : FVec Ideal ⟨2, ![n, 1024]⟩ .bf16) (h r : ℕ) : FVec Ideal S256x128 .bf16 := fun x =>
  if hx : r + (x 0).val < n ∧ 128 * h + (x 1).val < 1024 then
    X (ix2 ⟨r + (x 0).val, hx.1⟩ ⟨128 * h + (x 1).val, hx.2⟩) else 0

/-- Tile `i` of head `h`'s biases. -/
def tile (X : FVec Ideal S1x8x5x256x256 .f32) (h i : ℕ) : FVec Ideal S1x1x1x256x256 .f32 := fun x =>
  if hi : h < 8 ∧ i < 5 then X (ix5 0 ⟨h, hi.1⟩ ⟨i, hi.2⟩ (x 3) (x 4)) else 0

theorem cols_at {n : ℕ} (X : FVec Ideal ⟨2, ![n, 1024]⟩ .bf16) (h r : ℕ) (i : Fin 256) (d : Fin 128)
    (hr : r + i.val < n) (hd : 128 * h + d.val < 1024) :
    cols X h r (ix2 i d) = X (ix2 ⟨r + i.val, hr⟩ ⟨128 * h + d.val, hd⟩) := dif_pos ⟨hr, hd⟩

theorem tile_at (X : FVec Ideal S1x8x5x256x256 .f32) (h i : ℕ) (hh : h < 8) (hi : i < 5) (p q : Fin 256) :
    tile X h i (ix5 0 0 0 p q) = X (ix5 0 ⟨h, hh⟩ ⟨i, hi⟩ p q) := dif_pos ⟨hh, hi⟩

/-- A load of 256 rows of one head's columns. -/
theorem ld_cols {n : ℕ} (X : FVec Ideal ⟨2, ![n, 1024]⟩ .bf16) (off : Fin 2 → ℕ)
    (inb : ∀ a, off a + (![256, 128] : Fin 2 → ℕ) a ≤ (![n, 1024] : Fin 2 → ℕ) a) (h r : ℕ) (ho : off = ![r, 128 * h]) :
    View.ld (Val := Elt Ideal) (e' := .bf16) X (Rect.unit (s := ⟨2, ![n, 1024]⟩) off ![256, 128] inb) = cols X h r := by
  subst ho
  funext x
  have b0 : (x 0).val < 256 := (x 0).isLt
  have b1 : (x 1).val < 128 := (x 1).isLt
  have i0 : r + 256 ≤ n := inb 0
  have i1 : 128 * h + 128 ≤ 1024 := inb 1
  have hx : r + (x 0).val < n ∧ 128 * h + (x 1).val < 1024 := ⟨by omega, by omega⟩
  refine Eq.trans ?_ (show X (ix2 ⟨r + (x 0).val, hx.1⟩ ⟨128 * h + (x 1).val, hx.2⟩) = cols X h r x from by rw [cols, dif_pos hx])
  refine View.ld_unit_apply_of (Val := Elt Ideal) (e := .bf16) X _ _ inb x _ fun a => ?_
  match a with
  | 0 => rfl
  | 1 => rfl

/-- A load of one tile of biases. -/
theorem ld_tile (X : FVec Ideal S1x8x5x256x256 .f32) (off : Fin 5 → ℕ)
    (inb : ∀ a, off a + (![1, 1, 1, 256, 256] : Fin 5 → ℕ) a ≤ (![1, 8, 5, 256, 256] : Fin 5 → ℕ) a) (h i : ℕ)
    (ho : off = ![0, h, i, 0, 0]) :
    View.ld (Val := Elt Ideal) (e' := .f32) X (Rect.unit (s := S1x8x5x256x256) off ![1, 1, 1, 256, 256] inb) = tile X h i := by
  subst ho
  funext x
  have b0 : (x 0).val < 1 := (x 0).isLt
  have b1 : (x 1).val < 1 := (x 1).isLt
  have b2 : (x 2).val < 1 := (x 2).isLt
  have i1 : h + 1 ≤ 8 := inb 1
  have i2 : i + 1 ≤ 5 := inb 2
  have hx : h < 8 ∧ i < 5 := ⟨by omega, by omega⟩
  refine Eq.trans ?_ (show X (ix5 0 ⟨h, hx.1⟩ ⟨i, hx.2⟩ (x 3) (x 4)) = tile X h i x from by rw [tile, dif_pos hx])
  refine View.ld_unit_apply_of (Val := Elt Ideal) (e := .f32) X _ _ inb x _ fun a => ?_
  match a with
  | 0 => show 0 = 0 + (x 0).val; omega
  | 1 => show h = h + (x 1).val; omega
  | 2 => show i = i + (x 2).val; omega
  | 3 => show (x 3).val = 0 + (x 3).val; omega
  | 4 => show (x 4).val = 0 + (x 4).val; omega

/-- The first row of a tile of keys, as the kernel's words compute it. -/
theorem start : ∀ (j : Fin 8) (r : Fin 3),
    (Scalar.indexCast (Scalar.muli (Scalar.addi (Scalar.maxsi (Scalar.subi (BitVec.ofNat 32 j.val) 2#32) 0#32)
      (BitVec.ofNat 32 r.val)) 256#32)).toNat = 256 * (j.val - 2 + r.val) := by decide +kernel

theorem off1 (i : grid0.Coords) (r : Fin 3) :
    k0_off1 i (BitVec.ofNat 32 r.val) = ![256 * ((i 1).val - 2 + r.val), 0] :=
  congrArg (fun a => ![a, 0]) (start ⟨(i 1).val, (i 1).isLt⟩ r)

theorem off3 (i : grid0.Coords) (r : Fin 3) :
    k0_off3 i (BitVec.ofNat 32 r.val) = ![256 * ((i 1).val - 2 + r.val), 128] :=
  congrArg (fun a => ![a, 128]) (start ⟨(i 1).val, (i 1).isLt⟩ r)

theorem off5 (i : grid0.Coords) (r : Fin 3) :
    k0_off5 i (BitVec.ofNat 32 r.val) = ![256 * ((i 1).val - 2 + r.val), 256] :=
  congrArg (fun a => ![a, 256]) (start ⟨(i 1).val, (i 1).isLt⟩ r)

theorem off7 (i : grid0.Coords) (r : Fin 3) :
    k0_off7 i (BitVec.ofNat 32 r.val) = ![256 * ((i 1).val - 2 + r.val), 384] :=
  congrArg (fun a => ![a, 384]) (start ⟨(i 1).val, (i 1).isLt⟩ r)

theorem off9 (i : grid0.Coords) (r : Fin 3) :
    k0_off9 i (BitVec.ofNat 32 r.val) = ![256 * ((i 1).val - 2 + r.val), 512] :=
  congrArg (fun a => ![a, 512]) (start ⟨(i 1).val, (i 1).isLt⟩ r)

theorem off11 (i : grid0.Coords) (r : Fin 3) :
    k0_off11 i (BitVec.ofNat 32 r.val) = ![256 * ((i 1).val - 2 + r.val), 640] :=
  congrArg (fun a => ![a, 640]) (start ⟨(i 1).val, (i 1).isLt⟩ r)

theorem off13 (i : grid0.Coords) (r : Fin 3) :
    k0_off13 i (BitVec.ofNat 32 r.val) = ![256 * ((i 1).val - 2 + r.val), 768] :=
  congrArg (fun a => ![a, 768]) (start ⟨(i 1).val, (i 1).isLt⟩ r)

theorem off15 (i : grid0.Coords) (r : Fin 3) :
    k0_off15 i (BitVec.ofNat 32 r.val) = ![256 * ((i 1).val - 2 + r.val), 896] :=
  congrArg (fun a => ![a, 896]) (start ⟨(i 1).val, (i 1).isLt⟩ r)

theorem key0_0 (i : grid0.Coords) (X : FVec Ideal S2048x1024 .bf16)
    (inb : ∀ a, k0_off1 i 0#32 a + (![256, 128] : Fin 2 → ℕ) a ≤ S2048x1024.size a) :
    View.ld (Val := Elt Ideal) (e' := .bf16) X (Rect.unit (s := S2048x1024) (k0_off1 i 0#32) ![256, 128] inb)
      = cols X 0 (256 * ((i 1).val - 2 + 0)) := ld_cols X _ inb 0 _ (off1 i 0)
theorem bias0_0 (i : grid0.Coords) (X : FVec Ideal S1x8x5x256x256 .f32)
    (inb : ∀ a, k0_off2 i 0#32 a + (![1, 1, 1, 256, 256] : Fin 5 → ℕ) a ≤ S1x8x5x256x256.size a) :
    View.ld (Val := Elt Ideal) (e' := .f32) X (Rect.unit (s := S1x8x5x256x256) (k0_off2 i 0#32) ![1, 1, 1, 256, 256] inb)
      = tile X 0 (0 + 2 - min (i 1).val 2) := ld_tile X _ inb 0 _ (k0_off2_eq i 0)
theorem key0_1 (i : grid0.Coords) (X : FVec Ideal S2048x1024 .bf16)
    (inb : ∀ a, k0_off1 i 1#32 a + (![256, 128] : Fin 2 → ℕ) a ≤ S2048x1024.size a) :
    View.ld (Val := Elt Ideal) (e' := .bf16) X (Rect.unit (s := S2048x1024) (k0_off1 i 1#32) ![256, 128] inb)
      = cols X 0 (256 * ((i 1).val - 2 + 1)) := ld_cols X _ inb 0 _ (off1 i 1)
theorem bias0_1 (i : grid0.Coords) (X : FVec Ideal S1x8x5x256x256 .f32)
    (inb : ∀ a, k0_off2 i 1#32 a + (![1, 1, 1, 256, 256] : Fin 5 → ℕ) a ≤ S1x8x5x256x256.size a) :
    View.ld (Val := Elt Ideal) (e' := .f32) X (Rect.unit (s := S1x8x5x256x256) (k0_off2 i 1#32) ![1, 1, 1, 256, 256] inb)
      = tile X 0 (1 + 2 - min (i 1).val 2) := ld_tile X _ inb 0 _ (k0_off2_eq i 1)
theorem key0_2 (i : grid0.Coords) (X : FVec Ideal S2048x1024 .bf16)
    (inb : ∀ a, k0_off1 i 2#32 a + (![256, 128] : Fin 2 → ℕ) a ≤ S2048x1024.size a) :
    View.ld (Val := Elt Ideal) (e' := .bf16) X (Rect.unit (s := S2048x1024) (k0_off1 i 2#32) ![256, 128] inb)
      = cols X 0 (256 * ((i 1).val - 2 + 2)) := ld_cols X _ inb 0 _ (off1 i 2)
theorem bias0_2 (i : grid0.Coords) (X : FVec Ideal S1x8x5x256x256 .f32)
    (inb : ∀ a, k0_off2 i 2#32 a + (![1, 1, 1, 256, 256] : Fin 5 → ℕ) a ≤ S1x8x5x256x256.size a) :
    View.ld (Val := Elt Ideal) (e' := .f32) X (Rect.unit (s := S1x8x5x256x256) (k0_off2 i 2#32) ![1, 1, 1, 256, 256] inb)
      = tile X 0 (2 + 2 - min (i 1).val 2) := ld_tile X _ inb 0 _ (k0_off2_eq i 2)
theorem query0 (X : FVec Ideal S256x1024 .bf16)
    (inb : ∀ a, (![0, 0] : Fin 2 → ℕ) a + (![256, 128] : Fin 2 → ℕ) a ≤ S256x1024.size a) :
    View.ld (Val := Elt Ideal) (e' := .bf16) X (Rect.unit (s := S256x1024) ![0, 0] ![256, 128] inb) = cols X 0 0 :=
  ld_cols X _ inb 0 0 rfl

theorem key1_0 (i : grid0.Coords) (X : FVec Ideal S2048x1024 .bf16)
    (inb : ∀ a, k0_off3 i 0#32 a + (![256, 128] : Fin 2 → ℕ) a ≤ S2048x1024.size a) :
    View.ld (Val := Elt Ideal) (e' := .bf16) X (Rect.unit (s := S2048x1024) (k0_off3 i 0#32) ![256, 128] inb)
      = cols X 1 (256 * ((i 1).val - 2 + 0)) := ld_cols X _ inb 1 _ (off3 i 0)
theorem bias1_0 (i : grid0.Coords) (X : FVec Ideal S1x8x5x256x256 .f32)
    (inb : ∀ a, k0_off4 i 0#32 a + (![1, 1, 1, 256, 256] : Fin 5 → ℕ) a ≤ S1x8x5x256x256.size a) :
    View.ld (Val := Elt Ideal) (e' := .f32) X (Rect.unit (s := S1x8x5x256x256) (k0_off4 i 0#32) ![1, 1, 1, 256, 256] inb)
      = tile X 1 (0 + 2 - min (i 1).val 2) := ld_tile X _ inb 1 _ (k0_off4_eq i 0)
theorem key1_1 (i : grid0.Coords) (X : FVec Ideal S2048x1024 .bf16)
    (inb : ∀ a, k0_off3 i 1#32 a + (![256, 128] : Fin 2 → ℕ) a ≤ S2048x1024.size a) :
    View.ld (Val := Elt Ideal) (e' := .bf16) X (Rect.unit (s := S2048x1024) (k0_off3 i 1#32) ![256, 128] inb)
      = cols X 1 (256 * ((i 1).val - 2 + 1)) := ld_cols X _ inb 1 _ (off3 i 1)
theorem bias1_1 (i : grid0.Coords) (X : FVec Ideal S1x8x5x256x256 .f32)
    (inb : ∀ a, k0_off4 i 1#32 a + (![1, 1, 1, 256, 256] : Fin 5 → ℕ) a ≤ S1x8x5x256x256.size a) :
    View.ld (Val := Elt Ideal) (e' := .f32) X (Rect.unit (s := S1x8x5x256x256) (k0_off4 i 1#32) ![1, 1, 1, 256, 256] inb)
      = tile X 1 (1 + 2 - min (i 1).val 2) := ld_tile X _ inb 1 _ (k0_off4_eq i 1)
theorem key1_2 (i : grid0.Coords) (X : FVec Ideal S2048x1024 .bf16)
    (inb : ∀ a, k0_off3 i 2#32 a + (![256, 128] : Fin 2 → ℕ) a ≤ S2048x1024.size a) :
    View.ld (Val := Elt Ideal) (e' := .bf16) X (Rect.unit (s := S2048x1024) (k0_off3 i 2#32) ![256, 128] inb)
      = cols X 1 (256 * ((i 1).val - 2 + 2)) := ld_cols X _ inb 1 _ (off3 i 2)
theorem bias1_2 (i : grid0.Coords) (X : FVec Ideal S1x8x5x256x256 .f32)
    (inb : ∀ a, k0_off4 i 2#32 a + (![1, 1, 1, 256, 256] : Fin 5 → ℕ) a ≤ S1x8x5x256x256.size a) :
    View.ld (Val := Elt Ideal) (e' := .f32) X (Rect.unit (s := S1x8x5x256x256) (k0_off4 i 2#32) ![1, 1, 1, 256, 256] inb)
      = tile X 1 (2 + 2 - min (i 1).val 2) := ld_tile X _ inb 1 _ (k0_off4_eq i 2)
theorem query1 (X : FVec Ideal S256x1024 .bf16)
    (inb : ∀ a, (![0, 128] : Fin 2 → ℕ) a + (![256, 128] : Fin 2 → ℕ) a ≤ S256x1024.size a) :
    View.ld (Val := Elt Ideal) (e' := .bf16) X (Rect.unit (s := S256x1024) ![0, 128] ![256, 128] inb) = cols X 1 0 :=
  ld_cols X _ inb 1 0 rfl

theorem key2_0 (i : grid0.Coords) (X : FVec Ideal S2048x1024 .bf16)
    (inb : ∀ a, k0_off5 i 0#32 a + (![256, 128] : Fin 2 → ℕ) a ≤ S2048x1024.size a) :
    View.ld (Val := Elt Ideal) (e' := .bf16) X (Rect.unit (s := S2048x1024) (k0_off5 i 0#32) ![256, 128] inb)
      = cols X 2 (256 * ((i 1).val - 2 + 0)) := ld_cols X _ inb 2 _ (off5 i 0)
theorem bias2_0 (i : grid0.Coords) (X : FVec Ideal S1x8x5x256x256 .f32)
    (inb : ∀ a, k0_off6 i 0#32 a + (![1, 1, 1, 256, 256] : Fin 5 → ℕ) a ≤ S1x8x5x256x256.size a) :
    View.ld (Val := Elt Ideal) (e' := .f32) X (Rect.unit (s := S1x8x5x256x256) (k0_off6 i 0#32) ![1, 1, 1, 256, 256] inb)
      = tile X 2 (0 + 2 - min (i 1).val 2) := ld_tile X _ inb 2 _ (k0_off6_eq i 0)
theorem key2_1 (i : grid0.Coords) (X : FVec Ideal S2048x1024 .bf16)
    (inb : ∀ a, k0_off5 i 1#32 a + (![256, 128] : Fin 2 → ℕ) a ≤ S2048x1024.size a) :
    View.ld (Val := Elt Ideal) (e' := .bf16) X (Rect.unit (s := S2048x1024) (k0_off5 i 1#32) ![256, 128] inb)
      = cols X 2 (256 * ((i 1).val - 2 + 1)) := ld_cols X _ inb 2 _ (off5 i 1)
theorem bias2_1 (i : grid0.Coords) (X : FVec Ideal S1x8x5x256x256 .f32)
    (inb : ∀ a, k0_off6 i 1#32 a + (![1, 1, 1, 256, 256] : Fin 5 → ℕ) a ≤ S1x8x5x256x256.size a) :
    View.ld (Val := Elt Ideal) (e' := .f32) X (Rect.unit (s := S1x8x5x256x256) (k0_off6 i 1#32) ![1, 1, 1, 256, 256] inb)
      = tile X 2 (1 + 2 - min (i 1).val 2) := ld_tile X _ inb 2 _ (k0_off6_eq i 1)
theorem key2_2 (i : grid0.Coords) (X : FVec Ideal S2048x1024 .bf16)
    (inb : ∀ a, k0_off5 i 2#32 a + (![256, 128] : Fin 2 → ℕ) a ≤ S2048x1024.size a) :
    View.ld (Val := Elt Ideal) (e' := .bf16) X (Rect.unit (s := S2048x1024) (k0_off5 i 2#32) ![256, 128] inb)
      = cols X 2 (256 * ((i 1).val - 2 + 2)) := ld_cols X _ inb 2 _ (off5 i 2)
theorem bias2_2 (i : grid0.Coords) (X : FVec Ideal S1x8x5x256x256 .f32)
    (inb : ∀ a, k0_off6 i 2#32 a + (![1, 1, 1, 256, 256] : Fin 5 → ℕ) a ≤ S1x8x5x256x256.size a) :
    View.ld (Val := Elt Ideal) (e' := .f32) X (Rect.unit (s := S1x8x5x256x256) (k0_off6 i 2#32) ![1, 1, 1, 256, 256] inb)
      = tile X 2 (2 + 2 - min (i 1).val 2) := ld_tile X _ inb 2 _ (k0_off6_eq i 2)
theorem query2 (X : FVec Ideal S256x1024 .bf16)
    (inb : ∀ a, (![0, 256] : Fin 2 → ℕ) a + (![256, 128] : Fin 2 → ℕ) a ≤ S256x1024.size a) :
    View.ld (Val := Elt Ideal) (e' := .bf16) X (Rect.unit (s := S256x1024) ![0, 256] ![256, 128] inb) = cols X 2 0 :=
  ld_cols X _ inb 2 0 rfl

theorem key3_0 (i : grid0.Coords) (X : FVec Ideal S2048x1024 .bf16)
    (inb : ∀ a, k0_off7 i 0#32 a + (![256, 128] : Fin 2 → ℕ) a ≤ S2048x1024.size a) :
    View.ld (Val := Elt Ideal) (e' := .bf16) X (Rect.unit (s := S2048x1024) (k0_off7 i 0#32) ![256, 128] inb)
      = cols X 3 (256 * ((i 1).val - 2 + 0)) := ld_cols X _ inb 3 _ (off7 i 0)
theorem bias3_0 (i : grid0.Coords) (X : FVec Ideal S1x8x5x256x256 .f32)
    (inb : ∀ a, k0_off8 i 0#32 a + (![1, 1, 1, 256, 256] : Fin 5 → ℕ) a ≤ S1x8x5x256x256.size a) :
    View.ld (Val := Elt Ideal) (e' := .f32) X (Rect.unit (s := S1x8x5x256x256) (k0_off8 i 0#32) ![1, 1, 1, 256, 256] inb)
      = tile X 3 (0 + 2 - min (i 1).val 2) := ld_tile X _ inb 3 _ (k0_off8_eq i 0)
theorem key3_1 (i : grid0.Coords) (X : FVec Ideal S2048x1024 .bf16)
    (inb : ∀ a, k0_off7 i 1#32 a + (![256, 128] : Fin 2 → ℕ) a ≤ S2048x1024.size a) :
    View.ld (Val := Elt Ideal) (e' := .bf16) X (Rect.unit (s := S2048x1024) (k0_off7 i 1#32) ![256, 128] inb)
      = cols X 3 (256 * ((i 1).val - 2 + 1)) := ld_cols X _ inb 3 _ (off7 i 1)
theorem bias3_1 (i : grid0.Coords) (X : FVec Ideal S1x8x5x256x256 .f32)
    (inb : ∀ a, k0_off8 i 1#32 a + (![1, 1, 1, 256, 256] : Fin 5 → ℕ) a ≤ S1x8x5x256x256.size a) :
    View.ld (Val := Elt Ideal) (e' := .f32) X (Rect.unit (s := S1x8x5x256x256) (k0_off8 i 1#32) ![1, 1, 1, 256, 256] inb)
      = tile X 3 (1 + 2 - min (i 1).val 2) := ld_tile X _ inb 3 _ (k0_off8_eq i 1)
theorem key3_2 (i : grid0.Coords) (X : FVec Ideal S2048x1024 .bf16)
    (inb : ∀ a, k0_off7 i 2#32 a + (![256, 128] : Fin 2 → ℕ) a ≤ S2048x1024.size a) :
    View.ld (Val := Elt Ideal) (e' := .bf16) X (Rect.unit (s := S2048x1024) (k0_off7 i 2#32) ![256, 128] inb)
      = cols X 3 (256 * ((i 1).val - 2 + 2)) := ld_cols X _ inb 3 _ (off7 i 2)
theorem bias3_2 (i : grid0.Coords) (X : FVec Ideal S1x8x5x256x256 .f32)
    (inb : ∀ a, k0_off8 i 2#32 a + (![1, 1, 1, 256, 256] : Fin 5 → ℕ) a ≤ S1x8x5x256x256.size a) :
    View.ld (Val := Elt Ideal) (e' := .f32) X (Rect.unit (s := S1x8x5x256x256) (k0_off8 i 2#32) ![1, 1, 1, 256, 256] inb)
      = tile X 3 (2 + 2 - min (i 1).val 2) := ld_tile X _ inb 3 _ (k0_off8_eq i 2)
theorem query3 (X : FVec Ideal S256x1024 .bf16)
    (inb : ∀ a, (![0, 384] : Fin 2 → ℕ) a + (![256, 128] : Fin 2 → ℕ) a ≤ S256x1024.size a) :
    View.ld (Val := Elt Ideal) (e' := .bf16) X (Rect.unit (s := S256x1024) ![0, 384] ![256, 128] inb) = cols X 3 0 :=
  ld_cols X _ inb 3 0 rfl

theorem key4_0 (i : grid0.Coords) (X : FVec Ideal S2048x1024 .bf16)
    (inb : ∀ a, k0_off9 i 0#32 a + (![256, 128] : Fin 2 → ℕ) a ≤ S2048x1024.size a) :
    View.ld (Val := Elt Ideal) (e' := .bf16) X (Rect.unit (s := S2048x1024) (k0_off9 i 0#32) ![256, 128] inb)
      = cols X 4 (256 * ((i 1).val - 2 + 0)) := ld_cols X _ inb 4 _ (off9 i 0)
theorem bias4_0 (i : grid0.Coords) (X : FVec Ideal S1x8x5x256x256 .f32)
    (inb : ∀ a, k0_off10 i 0#32 a + (![1, 1, 1, 256, 256] : Fin 5 → ℕ) a ≤ S1x8x5x256x256.size a) :
    View.ld (Val := Elt Ideal) (e' := .f32) X (Rect.unit (s := S1x8x5x256x256) (k0_off10 i 0#32) ![1, 1, 1, 256, 256] inb)
      = tile X 4 (0 + 2 - min (i 1).val 2) := ld_tile X _ inb 4 _ (k0_off10_eq i 0)
theorem key4_1 (i : grid0.Coords) (X : FVec Ideal S2048x1024 .bf16)
    (inb : ∀ a, k0_off9 i 1#32 a + (![256, 128] : Fin 2 → ℕ) a ≤ S2048x1024.size a) :
    View.ld (Val := Elt Ideal) (e' := .bf16) X (Rect.unit (s := S2048x1024) (k0_off9 i 1#32) ![256, 128] inb)
      = cols X 4 (256 * ((i 1).val - 2 + 1)) := ld_cols X _ inb 4 _ (off9 i 1)
theorem bias4_1 (i : grid0.Coords) (X : FVec Ideal S1x8x5x256x256 .f32)
    (inb : ∀ a, k0_off10 i 1#32 a + (![1, 1, 1, 256, 256] : Fin 5 → ℕ) a ≤ S1x8x5x256x256.size a) :
    View.ld (Val := Elt Ideal) (e' := .f32) X (Rect.unit (s := S1x8x5x256x256) (k0_off10 i 1#32) ![1, 1, 1, 256, 256] inb)
      = tile X 4 (1 + 2 - min (i 1).val 2) := ld_tile X _ inb 4 _ (k0_off10_eq i 1)
theorem key4_2 (i : grid0.Coords) (X : FVec Ideal S2048x1024 .bf16)
    (inb : ∀ a, k0_off9 i 2#32 a + (![256, 128] : Fin 2 → ℕ) a ≤ S2048x1024.size a) :
    View.ld (Val := Elt Ideal) (e' := .bf16) X (Rect.unit (s := S2048x1024) (k0_off9 i 2#32) ![256, 128] inb)
      = cols X 4 (256 * ((i 1).val - 2 + 2)) := ld_cols X _ inb 4 _ (off9 i 2)
theorem bias4_2 (i : grid0.Coords) (X : FVec Ideal S1x8x5x256x256 .f32)
    (inb : ∀ a, k0_off10 i 2#32 a + (![1, 1, 1, 256, 256] : Fin 5 → ℕ) a ≤ S1x8x5x256x256.size a) :
    View.ld (Val := Elt Ideal) (e' := .f32) X (Rect.unit (s := S1x8x5x256x256) (k0_off10 i 2#32) ![1, 1, 1, 256, 256] inb)
      = tile X 4 (2 + 2 - min (i 1).val 2) := ld_tile X _ inb 4 _ (k0_off10_eq i 2)
theorem query4 (X : FVec Ideal S256x1024 .bf16)
    (inb : ∀ a, (![0, 512] : Fin 2 → ℕ) a + (![256, 128] : Fin 2 → ℕ) a ≤ S256x1024.size a) :
    View.ld (Val := Elt Ideal) (e' := .bf16) X (Rect.unit (s := S256x1024) ![0, 512] ![256, 128] inb) = cols X 4 0 :=
  ld_cols X _ inb 4 0 rfl

theorem key5_0 (i : grid0.Coords) (X : FVec Ideal S2048x1024 .bf16)
    (inb : ∀ a, k0_off11 i 0#32 a + (![256, 128] : Fin 2 → ℕ) a ≤ S2048x1024.size a) :
    View.ld (Val := Elt Ideal) (e' := .bf16) X (Rect.unit (s := S2048x1024) (k0_off11 i 0#32) ![256, 128] inb)
      = cols X 5 (256 * ((i 1).val - 2 + 0)) := ld_cols X _ inb 5 _ (off11 i 0)
theorem bias5_0 (i : grid0.Coords) (X : FVec Ideal S1x8x5x256x256 .f32)
    (inb : ∀ a, k0_off12 i 0#32 a + (![1, 1, 1, 256, 256] : Fin 5 → ℕ) a ≤ S1x8x5x256x256.size a) :
    View.ld (Val := Elt Ideal) (e' := .f32) X (Rect.unit (s := S1x8x5x256x256) (k0_off12 i 0#32) ![1, 1, 1, 256, 256] inb)
      = tile X 5 (0 + 2 - min (i 1).val 2) := ld_tile X _ inb 5 _ (k0_off12_eq i 0)
theorem key5_1 (i : grid0.Coords) (X : FVec Ideal S2048x1024 .bf16)
    (inb : ∀ a, k0_off11 i 1#32 a + (![256, 128] : Fin 2 → ℕ) a ≤ S2048x1024.size a) :
    View.ld (Val := Elt Ideal) (e' := .bf16) X (Rect.unit (s := S2048x1024) (k0_off11 i 1#32) ![256, 128] inb)
      = cols X 5 (256 * ((i 1).val - 2 + 1)) := ld_cols X _ inb 5 _ (off11 i 1)
theorem bias5_1 (i : grid0.Coords) (X : FVec Ideal S1x8x5x256x256 .f32)
    (inb : ∀ a, k0_off12 i 1#32 a + (![1, 1, 1, 256, 256] : Fin 5 → ℕ) a ≤ S1x8x5x256x256.size a) :
    View.ld (Val := Elt Ideal) (e' := .f32) X (Rect.unit (s := S1x8x5x256x256) (k0_off12 i 1#32) ![1, 1, 1, 256, 256] inb)
      = tile X 5 (1 + 2 - min (i 1).val 2) := ld_tile X _ inb 5 _ (k0_off12_eq i 1)
theorem key5_2 (i : grid0.Coords) (X : FVec Ideal S2048x1024 .bf16)
    (inb : ∀ a, k0_off11 i 2#32 a + (![256, 128] : Fin 2 → ℕ) a ≤ S2048x1024.size a) :
    View.ld (Val := Elt Ideal) (e' := .bf16) X (Rect.unit (s := S2048x1024) (k0_off11 i 2#32) ![256, 128] inb)
      = cols X 5 (256 * ((i 1).val - 2 + 2)) := ld_cols X _ inb 5 _ (off11 i 2)
theorem bias5_2 (i : grid0.Coords) (X : FVec Ideal S1x8x5x256x256 .f32)
    (inb : ∀ a, k0_off12 i 2#32 a + (![1, 1, 1, 256, 256] : Fin 5 → ℕ) a ≤ S1x8x5x256x256.size a) :
    View.ld (Val := Elt Ideal) (e' := .f32) X (Rect.unit (s := S1x8x5x256x256) (k0_off12 i 2#32) ![1, 1, 1, 256, 256] inb)
      = tile X 5 (2 + 2 - min (i 1).val 2) := ld_tile X _ inb 5 _ (k0_off12_eq i 2)
theorem query5 (X : FVec Ideal S256x1024 .bf16)
    (inb : ∀ a, (![0, 640] : Fin 2 → ℕ) a + (![256, 128] : Fin 2 → ℕ) a ≤ S256x1024.size a) :
    View.ld (Val := Elt Ideal) (e' := .bf16) X (Rect.unit (s := S256x1024) ![0, 640] ![256, 128] inb) = cols X 5 0 :=
  ld_cols X _ inb 5 0 rfl

theorem key6_0 (i : grid0.Coords) (X : FVec Ideal S2048x1024 .bf16)
    (inb : ∀ a, k0_off13 i 0#32 a + (![256, 128] : Fin 2 → ℕ) a ≤ S2048x1024.size a) :
    View.ld (Val := Elt Ideal) (e' := .bf16) X (Rect.unit (s := S2048x1024) (k0_off13 i 0#32) ![256, 128] inb)
      = cols X 6 (256 * ((i 1).val - 2 + 0)) := ld_cols X _ inb 6 _ (off13 i 0)
theorem bias6_0 (i : grid0.Coords) (X : FVec Ideal S1x8x5x256x256 .f32)
    (inb : ∀ a, k0_off14 i 0#32 a + (![1, 1, 1, 256, 256] : Fin 5 → ℕ) a ≤ S1x8x5x256x256.size a) :
    View.ld (Val := Elt Ideal) (e' := .f32) X (Rect.unit (s := S1x8x5x256x256) (k0_off14 i 0#32) ![1, 1, 1, 256, 256] inb)
      = tile X 6 (0 + 2 - min (i 1).val 2) := ld_tile X _ inb 6 _ (k0_off14_eq i 0)
theorem key6_1 (i : grid0.Coords) (X : FVec Ideal S2048x1024 .bf16)
    (inb : ∀ a, k0_off13 i 1#32 a + (![256, 128] : Fin 2 → ℕ) a ≤ S2048x1024.size a) :
    View.ld (Val := Elt Ideal) (e' := .bf16) X (Rect.unit (s := S2048x1024) (k0_off13 i 1#32) ![256, 128] inb)
      = cols X 6 (256 * ((i 1).val - 2 + 1)) := ld_cols X _ inb 6 _ (off13 i 1)
theorem bias6_1 (i : grid0.Coords) (X : FVec Ideal S1x8x5x256x256 .f32)
    (inb : ∀ a, k0_off14 i 1#32 a + (![1, 1, 1, 256, 256] : Fin 5 → ℕ) a ≤ S1x8x5x256x256.size a) :
    View.ld (Val := Elt Ideal) (e' := .f32) X (Rect.unit (s := S1x8x5x256x256) (k0_off14 i 1#32) ![1, 1, 1, 256, 256] inb)
      = tile X 6 (1 + 2 - min (i 1).val 2) := ld_tile X _ inb 6 _ (k0_off14_eq i 1)
theorem key6_2 (i : grid0.Coords) (X : FVec Ideal S2048x1024 .bf16)
    (inb : ∀ a, k0_off13 i 2#32 a + (![256, 128] : Fin 2 → ℕ) a ≤ S2048x1024.size a) :
    View.ld (Val := Elt Ideal) (e' := .bf16) X (Rect.unit (s := S2048x1024) (k0_off13 i 2#32) ![256, 128] inb)
      = cols X 6 (256 * ((i 1).val - 2 + 2)) := ld_cols X _ inb 6 _ (off13 i 2)
theorem bias6_2 (i : grid0.Coords) (X : FVec Ideal S1x8x5x256x256 .f32)
    (inb : ∀ a, k0_off14 i 2#32 a + (![1, 1, 1, 256, 256] : Fin 5 → ℕ) a ≤ S1x8x5x256x256.size a) :
    View.ld (Val := Elt Ideal) (e' := .f32) X (Rect.unit (s := S1x8x5x256x256) (k0_off14 i 2#32) ![1, 1, 1, 256, 256] inb)
      = tile X 6 (2 + 2 - min (i 1).val 2) := ld_tile X _ inb 6 _ (k0_off14_eq i 2)
theorem query6 (X : FVec Ideal S256x1024 .bf16)
    (inb : ∀ a, (![0, 768] : Fin 2 → ℕ) a + (![256, 128] : Fin 2 → ℕ) a ≤ S256x1024.size a) :
    View.ld (Val := Elt Ideal) (e' := .bf16) X (Rect.unit (s := S256x1024) ![0, 768] ![256, 128] inb) = cols X 6 0 :=
  ld_cols X _ inb 6 0 rfl

theorem key7_0 (i : grid0.Coords) (X : FVec Ideal S2048x1024 .bf16)
    (inb : ∀ a, k0_off15 i 0#32 a + (![256, 128] : Fin 2 → ℕ) a ≤ S2048x1024.size a) :
    View.ld (Val := Elt Ideal) (e' := .bf16) X (Rect.unit (s := S2048x1024) (k0_off15 i 0#32) ![256, 128] inb)
      = cols X 7 (256 * ((i 1).val - 2 + 0)) := ld_cols X _ inb 7 _ (off15 i 0)
theorem bias7_0 (i : grid0.Coords) (X : FVec Ideal S1x8x5x256x256 .f32)
    (inb : ∀ a, k0_off16 i 0#32 a + (![1, 1, 1, 256, 256] : Fin 5 → ℕ) a ≤ S1x8x5x256x256.size a) :
    View.ld (Val := Elt Ideal) (e' := .f32) X (Rect.unit (s := S1x8x5x256x256) (k0_off16 i 0#32) ![1, 1, 1, 256, 256] inb)
      = tile X 7 (0 + 2 - min (i 1).val 2) := ld_tile X _ inb 7 _ (k0_off16_eq i 0)
theorem key7_1 (i : grid0.Coords) (X : FVec Ideal S2048x1024 .bf16)
    (inb : ∀ a, k0_off15 i 1#32 a + (![256, 128] : Fin 2 → ℕ) a ≤ S2048x1024.size a) :
    View.ld (Val := Elt Ideal) (e' := .bf16) X (Rect.unit (s := S2048x1024) (k0_off15 i 1#32) ![256, 128] inb)
      = cols X 7 (256 * ((i 1).val - 2 + 1)) := ld_cols X _ inb 7 _ (off15 i 1)
theorem bias7_1 (i : grid0.Coords) (X : FVec Ideal S1x8x5x256x256 .f32)
    (inb : ∀ a, k0_off16 i 1#32 a + (![1, 1, 1, 256, 256] : Fin 5 → ℕ) a ≤ S1x8x5x256x256.size a) :
    View.ld (Val := Elt Ideal) (e' := .f32) X (Rect.unit (s := S1x8x5x256x256) (k0_off16 i 1#32) ![1, 1, 1, 256, 256] inb)
      = tile X 7 (1 + 2 - min (i 1).val 2) := ld_tile X _ inb 7 _ (k0_off16_eq i 1)
theorem key7_2 (i : grid0.Coords) (X : FVec Ideal S2048x1024 .bf16)
    (inb : ∀ a, k0_off15 i 2#32 a + (![256, 128] : Fin 2 → ℕ) a ≤ S2048x1024.size a) :
    View.ld (Val := Elt Ideal) (e' := .bf16) X (Rect.unit (s := S2048x1024) (k0_off15 i 2#32) ![256, 128] inb)
      = cols X 7 (256 * ((i 1).val - 2 + 2)) := ld_cols X _ inb 7 _ (off15 i 2)
theorem bias7_2 (i : grid0.Coords) (X : FVec Ideal S1x8x5x256x256 .f32)
    (inb : ∀ a, k0_off16 i 2#32 a + (![1, 1, 1, 256, 256] : Fin 5 → ℕ) a ≤ S1x8x5x256x256.size a) :
    View.ld (Val := Elt Ideal) (e' := .f32) X (Rect.unit (s := S1x8x5x256x256) (k0_off16 i 2#32) ![1, 1, 1, 256, 256] inb)
      = tile X 7 (2 + 2 - min (i 1).val 2) := ld_tile X _ inb 7 _ (k0_off16_eq i 2)
theorem query7 (X : FVec Ideal S256x1024 .bf16)
    (inb : ∀ a, (![0, 896] : Fin 2 → ℕ) a + (![256, 128] : Fin 2 → ℕ) a ≤ S256x1024.size a) :
    View.ld (Val := Elt Ideal) (e' := .bf16) X (Rect.unit (s := S256x1024) ![0, 896] ![256, 128] inb) = cols X 7 0 :=
  ld_cols X _ inb 7 0 rfl

/-- The output of head `h` at a grid point of column `j`. -/
def headOut (X0 : FVec Ideal S256x1024 .bf16) (X1 X2 : FVec Ideal S2048x1024 .bf16) (X3 : FVec Ideal S1x8x5x256x256 .f32)
    (j h : ℕ) : FVec Ideal S256x128 .bf16 :=
  KernelHead.head (cols X0 h 0)
    (cols X1 h (256 * (j - 2 + 0))) (cols X1 h (256 * (j - 2 + 1))) (cols X1 h (256 * (j - 2 + 2)))
    (tile X3 h (0 + 2 - min j 2)) (tile X3 h (1 + 2 - min j 2)) (tile X3 h (2 + 2 - min j 2))
    (cols X2 h (256 * (j - 2 + 0))) (cols X2 h (256 * (j - 2 + 1))) (cols X2 h (256 * (j - 2 + 2)))

set_option maxHeartbeats 3200000 in
/-- What a grid point leaves in its output block. -/
theorem out_block (t : Fin cfg0.N) (y : S256x1024.Idx) :
    (outsAt0 m c t : FVec Ideal S256x1024 .bf16) y
      = headOut (iblk m c 0 t) (iblk m c 1 t) (iblk m c 2 t) (iblk m c 3 t) ((grid0.coords t 1).val) ((y 1).val / 128)
          (ix2 (y 0) ⟨(y 1).val % 128, Nat.mod_lt _ (by decide)⟩) := by
  unfold outsAt0
  frame_out
  canon_tiles x h
  have yl : (y 1).val < 1024 := (y 1).isLt
  · have hh : (y 1).val / 128 = 7 := by omega
    have hx : (ix2 (y 0) ⟨(y 1).val % 128, Nat.mod_lt _ (by decide)⟩ : S256x128.Idx) = x :=
      funext fun a => Fin.ext (by match a with | 0 => exact h0 | 1 => show (y 1).val % 128 = _; omega)
    rw [hh, hx]
    simp only [query7, key7_0, key7_1, key7_2, bias7_0, bias7_1, bias7_2]
    rfl
  · have hh : (y 1).val / 128 = 6 := by omega
    have hx : (ix2 (y 0) ⟨(y 1).val % 128, Nat.mod_lt _ (by decide)⟩ : S256x128.Idx) = x :=
      funext fun a => Fin.ext (by match a with | 0 => exact h0 | 1 => show (y 1).val % 128 = _; omega)
    rw [hh, hx]
    simp only [query6, key6_0, key6_1, key6_2, bias6_0, bias6_1, bias6_2]
    rfl
  · have hh : (y 1).val / 128 = 5 := by omega
    have hx : (ix2 (y 0) ⟨(y 1).val % 128, Nat.mod_lt _ (by decide)⟩ : S256x128.Idx) = x :=
      funext fun a => Fin.ext (by match a with | 0 => exact h0 | 1 => show (y 1).val % 128 = _; omega)
    rw [hh, hx]
    simp only [query5, key5_0, key5_1, key5_2, bias5_0, bias5_1, bias5_2]
    rfl
  · have hh : (y 1).val / 128 = 4 := by omega
    have hx : (ix2 (y 0) ⟨(y 1).val % 128, Nat.mod_lt _ (by decide)⟩ : S256x128.Idx) = x :=
      funext fun a => Fin.ext (by match a with | 0 => exact h0 | 1 => show (y 1).val % 128 = _; omega)
    rw [hh, hx]
    simp only [query4, key4_0, key4_1, key4_2, bias4_0, bias4_1, bias4_2]
    rfl
  · have hh : (y 1).val / 128 = 3 := by omega
    have hx : (ix2 (y 0) ⟨(y 1).val % 128, Nat.mod_lt _ (by decide)⟩ : S256x128.Idx) = x :=
      funext fun a => Fin.ext (by match a with | 0 => exact h0 | 1 => show (y 1).val % 128 = _; omega)
    rw [hh, hx]
    simp only [query3, key3_0, key3_1, key3_2, bias3_0, bias3_1, bias3_2]
    rfl
  · have hh : (y 1).val / 128 = 2 := by omega
    have hx : (ix2 (y 0) ⟨(y 1).val % 128, Nat.mod_lt _ (by decide)⟩ : S256x128.Idx) = x :=
      funext fun a => Fin.ext (by match a with | 0 => exact h0 | 1 => show (y 1).val % 128 = _; omega)
    rw [hh, hx]
    simp only [query2, key2_0, key2_1, key2_2, bias2_0, bias2_1, bias2_2]
    rfl
  · have hh : (y 1).val / 128 = 1 := by omega
    have hx : (ix2 (y 0) ⟨(y 1).val % 128, Nat.mod_lt _ (by decide)⟩ : S256x128.Idx) = x :=
      funext fun a => Fin.ext (by match a with | 0 => exact h0 | 1 => show (y 1).val % 128 = _; omega)
    rw [hh, hx]
    simp only [query1, key1_0, key1_1, key1_2, bias1_0, bias1_1, bias1_2]
    rfl
  · have hh : (y 1).val / 128 = 0 := by omega
    have hx : (ix2 (y 0) ⟨(y 1).val % 128, Nat.mod_lt _ (by decide)⟩ : S256x128.Idx) = x :=
      funext fun a => Fin.ext (by match a with | 0 => exact h0 | 1 => show (y 1).val % 128 = _; omega)
    rw [hh, hx]
    simp only [query0, key0_0, key0_1, key0_2, bias0_0, bias0_1, bias0_2]
    rfl

end Cert.KernelBlock

end
-- ==== Proof.Spec.lean ====
/- The attention's numbers, as functions of natural-number coordinates: what both programs are read into. -/
module

public import proofs.«01_k».proof.Proof.Softmax

@[expose] public section

set_option maxRecDepth 16384

noncomputable section

namespace Cert.Spec

open Idealize.ShloMosaic

/-- An entry of the projected activations (queries, keys and values side by side), `0` outside the array. -/
def el (A : FVec Ideal ⟨2, ![32768, 3072]⟩ .bf16) (i j : ℕ) : EReal :=
  if h : i < 32768 ∧ j < 3072 then A (ix2 ⟨i, h.1⟩ ⟨j, h.2⟩) else 0

theorem el_eq (A : FVec Ideal ⟨2, ![32768, 3072]⟩ .bf16) (i : Fin 32768) (j : Fin 3072) : A (ix2 i j) = el A i j := by
  rw [el, dif_pos ⟨i.isLt, j.isLt⟩]

/-- A bias of the first layer's table of relative positions, `0` outside the table. -/
def rel (B : FVec Ideal ⟨3, ![4, 8, 513]⟩ .f32) (h i : ℕ) : EReal :=
  if g : h < 8 ∧ i < 513 then B (ix3 0 ⟨h, g.1⟩ ⟨i, g.2⟩) else 0

theorem rel_eq (B : FVec Ideal ⟨3, ![4, 8, 513]⟩ .f32) (h : Fin 8) (i : Fin 513) : B (ix3 0 h i) = rel B h i := by
  rw [rel, dif_pos ⟨h.isLt, i.isLt⟩]

/-- The product of one query and one key of head `h`: query row `i`, key row `t`. -/
def dotp (A : FVec Ideal ⟨2, ![32768, 3072]⟩ .bf16) (h i t : ℕ) : EReal :=
  ∑ d : Fin 128, el A i (h * 128 + d) * el A t (1024 + h * 128 + d)

/-- The score of query `ql` of block `j` (256 queries) of batch `b` against the key at window place `m`: place 0 is 512
    positions before the block. It is `⊥` outside the nine chunks the query's chunk may see, and before the sequence. -/
def score (A : FVec Ideal ⟨2, ![32768, 3072]⟩ .bf16) (B : FVec Ideal ⟨3, ![4, 8, 513]⟩ .f32) (b j h ql m : ℕ) : EReal :=
  if (64 * (ql / 64) ≤ m ∧ m < 64 * (ql / 64) + 576) ∧ 512 ≤ j * 256 + m then
    dotp A h (b * 2048 + (j * 256 + ql)) (b * 2048 + (j * 256 + m - 512)) * Ideal.ofBits .f32 0x3DB504F3#32
      + rel B h (min (768 + ql - m) 512)
  else ⊥

/-- The value at window place `m` of block `j`, column `d` of head `h`; `0` before the sequence. -/
def val (A : FVec Ideal ⟨2, ![32768, 3072]⟩ .bf16) (b j h d m : ℕ) : EReal :=
  if 512 ≤ j * 256 + m then el A (b * 2048 + (j * 256 + m - 512)) (2048 + h * 128 + d) else 0

/-- A chunk's largest score, over its nine chunks of keys. -/
def top (A : FVec Ideal ⟨2, ![32768, 3072]⟩ .bf16) (B : FVec Ideal ⟨3, ![4, 8, 513]⟩ .f32) (b j h ql : ℕ) : EReal :=
  (Finset.range 576).sup fun k => score A B b j h ql (64 * (ql / 64) + k)

/-- The attention's result at one entry: the values weighted by the softmax of the scores. -/
def out (A : FVec Ideal ⟨2, ![32768, 3072]⟩ .bf16) (B : FVec Ideal ⟨3, ![4, 8, 513]⟩ .f32) (b j h ql d : ℕ) : EReal :=
  ∑ k ∈ Finset.range 576, val A b j h d (64 * (ql / 64) + k) *
    Ideal.div (Ideal.exp (score A B b j h ql (64 * (ql / 64) + k) - top A B b j h ql))
      (∑ l ∈ Finset.range 576, Ideal.exp (score A B b j h ql (64 * (ql / 64) + l) - top A B b j h ql))

/-- The whole result, `[32768, 1024]`. -/
def result (A : FVec Ideal ⟨2, ![32768, 3072]⟩ .bf16) (B : FVec Ideal ⟨3, ![4, 8, 513]⟩ .f32) :
    FVec Ideal ⟨2, ![32768, 1024]⟩ .bf16 := fun i =>
  out A B ((i 0).val / 2048) ((i 0).val % 2048 / 256) ((i 1).val / 128) ((i 0).val % 256) ((i 1).val % 128)

end Cert.Spec

end
-- ==== Proof.KernelBias.lean ====
/- The kernel's bias tiles: the host code before the kernel leaves of the bias table. -/
module

public import proofs.«01_k».proof.Proof.Gen.KernelIdeal.Value
public import proofs.«01_k».proof.Proof.RefTripOut
public import Idealize.ShloMosaic.Lib.ReduceAll
public import proofs.«01_k».proof.Proof.Spec

@[expose] public section

set_option maxRecDepth 16384

noncomputable section

namespace Cert.KernelBias

open Idealize.ShloMosaic Idealize.ShloMosaic.TcCoe Idealize.SL.Sem Idealize.ShloMosaic.StableHlo
open Cert.KernelIdeal Cert.KernelIdeal.Gen

/-- The relative position of every column of the skewed table, as a word. -/
def places : IVec S1536 32 :=
  addi (minsi (broadcastInDim S1536 ![] bcast_S_S1536 (constantI S_ 32 256#32))
    (maxsi (broadcastInDim S1536 ![] bcast_S_S1536 (constantI S_ 32 4294967040#32))
      (addi (broadcastInDim S1536 ![] bcast_S_S1536 (constantI S_ 32 512#32))
        (select (cmpi .slt (iotaInDim S1536 32 0) (broadcastInDim S1536 ![] bcast_S_S1536 (constantI S_ 32 1280#32)))
          (negi (iotaInDim S1536 32 0))
          (subi (broadcastInDim S1536 ![] bcast_S_S1536 (constantI S_ 32 1536#32)) (iotaInDim S1536 32 0))))))
    (broadcastInDim S1536 ![] bcast_S_S1536 (constantI S_ 32 256#32))

/-- The column index the table is read at (a negative one counted from the end). -/
def wrapped : IVec S1536x1 32 :=
  broadcastInDim S1536x1 ![0] bcast_S1536_S1536x1_0
    (select (cmpi .slt places (broadcastInDim S1536 ![] bcast_S_S1536 (constantI S_ 32 0#32)))
      (addi places (broadcastInDim S1536 ![] bcast_S_S1536 (constantI S_ 32 513#32))) places)

/-- Whether the column index lies in the table. -/
def inside : IVec S1536x1 1 :=
  andi (cmpi .sge wrapped (broadcastInDim S1536x1 ![] bcast_S_S1536x1 (constantI S_ 32 0#32)))
    (cmpi .sle wrapped (broadcastInDim S1536x1 ![0, 1] bcast_S1x1_S1536x1_0_1
      (broadcastInDim S1x1 ![1] bcast_S1_S1x1_1 (constantI S1 32 512#32))))

/-- The bias of every layer, head and column. -/
def taken (B : FVec Ideal S4x8x513 .f32) : FVec Ideal S4x8x1536 .f32 :=
  select (broadcastInDim S4x8x1536 ![2] bcast_S1536_S4x8x1536_2
      (Host.reduce IntOp.andi inside (constantI S_ 1 1#1) reducesTo_S1536x1_S1536_d1 h_S_))
    (Host.gather gather_S4x8x513_S1536x1_S4x8x1536_01_2_n_n_2_1_481 B wrapped)
    (broadcastInDim S4x8x1536 ![] bcast_S_S4x8x1536 (constant S_ .f32 0x7FC00000#32))

/-- The biases of every query of a block, by the skewing of the table. -/
def skewed (x : FVec Ideal S4x8x1536 .f32) : FVec Ideal S4x8x256x1280 .f32 :=
  extractStridedSlice S4x8x256x1280 ![0, 0, 0, 0]
    (shapeCast S4x8x256x1535
      (extractStridedSlice S4x8x392960 ![0, 0, 0]
        (shapeCast S4x8x393216
          (broadcastInDim S4x8x256x1536 ![0, 1, 2, 3] bcast_S4x8x1x1536_S4x8x256x1536_0_1_2_3
            (broadcastInDim S4x8x1x1536 ![0, 1, 3] bcast_S4x8x1536_S4x8x1x1536_0_1_3 x))
          shapeCasts_S4x8x256x1536_S4x8x393216)
        slices_S4x8x393216_S4x8x392960_0_0_0)
      shapeCasts_S4x8x392960_S4x8x256x1535)
    slices_S4x8x256x1535_S4x8x256x1280_0_0_0_0

/-- A query's chunk within its block. -/
def qchunk : IVec S256x1 32 :=
  let x := broadcastInDim S256x1 ![0] bcast_S256_S256x1_0 (iotaInDim S256 32 0)
  let y := broadcastInDim S256x1 ![] bcast_S_S256x1 (id (constantI S_ 32 64#32))
  select (andi (cmpi .ne (signi x) (broadcastInDim S256x1 ![] bcast_S_S256x1 (signi (id (constantI S_ 32 64#32)))))
      (cmpi .ne (Host.remsi x y) (broadcastInDim S256x1 ![] bcast_S_S256x1 (constantI S_ 32 0#32))))
    (subi (Host.divsi x y) (broadcastInDim S256x1 ![] bcast_S_S256x1 (constantI S_ 32 1#32))) (Host.divsi x y)

/-- A window place's chunk. -/
def kchunk : IVec S1x1280 32 :=
  let x := broadcastInDim S1x1280 ![1] bcast_S1280_S1x1280_1 (iotaInDim S1280 32 0)
  let y := broadcastInDim S1x1280 ![] bcast_S_S1x1280 (id (constantI S_ 32 64#32))
  select (andi (cmpi .ne (signi x) (broadcastInDim S1x1280 ![] bcast_S_S1x1280 (signi (id (constantI S_ 32 64#32)))))
      (cmpi .ne (Host.remsi x y) (broadcastInDim S1x1280 ![] bcast_S_S1x1280 (constantI S_ 32 0#32))))
    (subi (Host.divsi x y) (broadcastInDim S1x1280 ![] bcast_S_S1x1280 (constantI S_ 32 1#32))) (Host.divsi x y)

/-- How many chunks a window place lies behind a query. -/
def behind : IVec S256x1280 32 :=
  subi (broadcastInDim S256x1280 ![0, 1] bcast_S256x1_S256x1280_0_1
      (addi (broadcastInDim S256x1 ![] bcast_S_S256x1 (constantI S_ 32 8#32)) qchunk))
    (broadcastInDim S256x1280 ![0, 1] bcast_S1x1280_S256x1280_0_1 kchunk)

/-- Whether a query sees a window place. -/
def seen : IVec S256x1280 1 :=
  andi (cmpi .sge behind (broadcastInDim S256x1280 ![] bcast_S_S256x1280 (constantI S_ 32 0#32)))
    (cmpi .sle behind (broadcastInDim S256x1280 ![] bcast_S_S256x1280 (constantI S_ 32 8#32)))

/-- The bias tiles. -/
def tiles (B : FVec Ideal S4x8x513 .f32) : FVec Ideal S4x8x5x256x256 .f32 :=
  transpose S4x8x5x256x256 [0, 1, 3, 2, 4]
    (shapeCast S4x8x256x5x256
      (select (broadcastInDim S4x8x256x1280 ![2, 3] bcast_S256x1280_S4x8x256x1280_2_3 seen) (skewed (taken B))
        (broadcastInDim S4x8x256x1280 ![] bcast_S_S4x8x256x1280 (id (constant S_ .f32 0xFF800000#32))))
      shapeCasts_S4x8x256x1280_S4x8x256x5x256)
    transposes_S4x8x256x5x256_S4x8x5x256x256_0_1_3_2_4

/-- A column's wrapped index, word by word. -/
theorem wrap_word : ∀ x : Fin 1536,
    Scalar.select (IntOp.cmpi CmpIPredicate.slt (IntOp.addi (IntOp.minsi 256#32 (IntOp.maxsi 4294967040#32 (IntOp.addi 512#32
        (Scalar.select (IntOp.cmpi CmpIPredicate.slt (BitVec.ofNat 32 x) 1280#32) (-(BitVec.ofNat 32 x))
          (IntOp.subi 1536#32 (BitVec.ofNat 32 x)))))) 256#32) 0#32)
      (IntOp.addi (IntOp.addi (IntOp.minsi 256#32 (IntOp.maxsi 4294967040#32 (IntOp.addi 512#32
        (Scalar.select (IntOp.cmpi CmpIPredicate.slt (BitVec.ofNat 32 x) 1280#32) (-(BitVec.ofNat 32 x))
          (IntOp.subi 1536#32 (BitVec.ofNat 32 x)))))) 256#32) 513#32)
      (IntOp.addi (IntOp.minsi 256#32 (IntOp.maxsi 4294967040#32 (IntOp.addi 512#32
        (Scalar.select (IntOp.cmpi CmpIPredicate.slt (BitVec.ofNat 32 x) 1280#32) (-(BitVec.ofNat 32 x))
          (IntOp.subi 1536#32 (BitVec.ofNat 32 x)))))) 256#32)
    = BitVec.ofNat 32 (if x.val < 1280 then min (768 - x.val) 512 else 512) := by decide +kernel

theorem wrapped_at (x : Fin 1536) :
    wrapped (ix2 x 0) = BitVec.ofNat 32 (if x.val < 1280 then min (768 - x.val) 512 else 512) := by
  have key := wrap_word x
  generalize BitVec.ofNat 32 (if x.val < 1280 then min (768 - x.val) 512 else 512) = r at *
  pointwise [wrapped, places]
  exact key

theorem inside_word : ∀ x : Fin 513,
    IntOp.andi (IntOp.cmpi CmpIPredicate.sge (BitVec.ofNat 32 x) 0#32) (IntOp.cmpi CmpIPredicate.sle (BitVec.ofNat 32 x) 512#32) = 1#1 := by
  decide +kernel

theorem inside_at (x : Fin 1536) : inside (ix2 x 0) = 1#1 := by
  have h : (if x.val < 1280 then min (768 - x.val) 512 else 512) < 513 := by split <;> omega
  have key := inside_word ⟨_, h⟩
  pointwise [inside]
  rw [wrapped_at]
  exact key

/-- A query's chunk, word by word. -/
theorem chunk_word : ∀ x : Fin 1280,
    Scalar.select (IntOp.andi (IntOp.cmpi CmpIPredicate.ne ((if BitVec.ofNat 32 x = 0 then 0 else if (BitVec.ofNat 32 x).msb = true then -1 else 1) : BitVec 32) ((if 64#32 = 0 then 0 else if (64#32).msb = true then -1 else 1) : BitVec 32))
        (IntOp.cmpi CmpIPredicate.ne (IntOp.remsi .host (BitVec.ofNat 32 x) 64#32) 0#32))
      (IntOp.subi (IntOp.divsi .host (BitVec.ofNat 32 x) 64#32) 1#32) (IntOp.divsi .host (BitVec.ofNat 32 x) 64#32)
    = BitVec.ofNat 32 (x / 64) := by decide +kernel

theorem qchunk_at (q : Fin 256) : qchunk (ix2 q 0) = BitVec.ofNat 32 (q / 64) := by
  pointwise [qchunk]
  exact chunk_word ⟨q, by omega⟩

theorem kchunk_at (m : Fin 1280) : kchunk (ix2 0 m) = BitVec.ofNat 32 (m / 64) := by
  pointwise [kchunk]
  exact chunk_word m

theorem skewed_at (x : FVec Ideal S4x8x1536 .f32) (l : Fin 4) (h : Fin 8) (q : Fin 256) (m : Fin 1280) :
    skewed x (ix4 l h q m) = x (ix3 l h ⟨(q * 1535 + m) % 1536, Nat.mod_lt _ (by norm_num)⟩) := by
  pointwise [skewed]

/-- The take of the bias table, read at an entry. -/
theorem gather_at (B : FVec Ideal S4x8x513 .f32) (idx : IVec S1536x1 32) (l : Fin 4) (h : Fin 8) (x : Fin 1536) :
    Host.gather gather_S4x8x513_S1536x1_S4x8x1536_01_2_n_n_2_1_481 B idx (ix3 l h x)
      = B (ix3 l h ⟨min (idx (ix2 x 0)).toInt.toNat 512, by omega⟩) := by
  unfold Host.gather
  congr 1
  funext a
  refine Fin.ext ?_
  show (gather_S4x8x513_S1536x1_S4x8x1536_01_2_n_n_2_1_481).start (ix3 l h x) idx a
    + (gather_S4x8x513_S1536x1_S4x8x1536_01_2_n_n_2_1_481).batchCoord (ix3 l h x) a
    + (gather_S4x8x513_S1536x1_S4x8x1536_01_2_n_n_2_1_481).offCoord (ix3 l h x) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · show 0 + 0 + l.val = l.val
    omega
  · show 0 + 0 + h.val = h.val
    omega
  · unfold GatherDims.start
    rw [dif_pos (show (2 : Fin 3) ∈ (gather_S4x8x513_S1536x1_S4x8x1536_01_2_n_n_2_1_481).startIndexMap from List.mem_singleton.mpr rfl)]
    have hsi : (gather_S4x8x513_S1536x1_S4x8x1536_01_2_n_n_2_1_481).siIdx (ix3 l h x)
        ⟨List.idxOf (2 : Fin 3) (gather_S4x8x513_S1536x1_S4x8x1536_01_2_n_n_2_1_481).startIndexMap,
          List.idxOf_lt_length_iff.2 (List.mem_singleton.mpr rfl)⟩ = ix2 x 0 := by
      funext b; refine Fin.ext ?_
      match b with
      | ⟨0, _⟩ => rfl
      | ⟨1, _⟩ => rfl
    rw [hsi]
    rfl

theorem taken_at (B : FVec Ideal S4x8x513 .f32) (h : Fin 8) (x : Fin 1536) :
    taken B (ix3 0 h x) = Spec.rel B h (if x.val < 1280 then min (768 - x.val) 512 else 512) := by
  have hred : Host.reduce IntOp.andi inside (constantI S_ 1 1#1) reducesTo_S1536x1_S1536_d1 h_S_ (ix1 x) = 1#1 :=
    Host.reduce_andi_one _ _ _ _ _ rfl fun i => by
      have hi : i = ix2 (i 0) 0 := by
        funext a
        match a with
        | ⟨0, _⟩ => rfl
        | ⟨1, _⟩ => exact Subsingleton.elim (α := Fin 1) _ _
      rw [hi]
      exact inside_at (i 0)
  unfold taken
  show Scalar.select (Host.reduce IntOp.andi inside (constantI S_ 1 1#1) reducesTo_S1536x1_S1536_d1 h_S_ _) (Host.gather _ B wrapped (ix3 0 h x)) _ = _
  refine (congrArg (fun w => Scalar.select w (Host.gather gather_S4x8x513_S1536x1_S4x8x1536_01_2_n_n_2_1_481 B wrapped (ix3 0 h x)) _) ?_ (a₂ := 1#1)).trans ?_
  · refine Eq.trans (congrArg (Host.reduce IntOp.andi inside (constantI S_ 1 1#1) reducesTo_S1536x1_S1536_d1 h_S_) ?_) hred
    funext a
    match a with
    | ⟨0, _⟩ => rfl
  · show Host.gather gather_S4x8x513_S1536x1_S4x8x1536_01_2_n_n_2_1_481 B wrapped (ix3 0 h x) = _
    refine (gather_at B wrapped 0 h x).trans ((Spec.rel_eq B h _).trans (congrArg (Spec.rel B h) ?_))
    show min (wrapped (ix2 x 0)).toInt.toNat 512 = _
    rw [wrapped_at, RefTrip.toInt_small _ (by split <;> omega), Int.toNat_natCast]
    split <;> omega

/-- Whether a place so many chunks behind is seen, word by word. -/
theorem seen_word : ∀ a : Fin 4, ∀ b : Fin 20,
    (fun d : BitVec 32 => IntOp.andi (IntOp.cmpi CmpIPredicate.sge d 0#32) (IntOp.cmpi CmpIPredicate.sle d 8#32))
      (IntOp.subi (IntOp.addi 8#32 (BitVec.ofNat 32 a)) (BitVec.ofNat 32 b))
    = if a.val ≤ b.val ∧ b.val < a.val + 9 then 1#1 else 0#1 := by decide +kernel

theorem seen_at (q : Fin 256) (m : Fin 1280) :
    seen (ix2 q m) = if 64 * (q.val / 64) ≤ m.val ∧ m.val < 64 * (q.val / 64) + 576 then 1#1 else 0#1 := by
  have key := seen_word ⟨q.val / 64, by omega⟩ ⟨m.val / 64, by omega⟩
  have e : (64 * (q.val / 64) ≤ m.val ∧ m.val < 64 * (q.val / 64) + 576)
      ↔ (q.val / 64 ≤ m.val / 64 ∧ m.val / 64 < q.val / 64 + 9) := by omega
  simp only [e]
  refine Eq.trans ?_ key
  pointwise [seen, behind]
  rw [qchunk_at, kchunk_at]

/-- The bias tile's entry: the bias of the relative position where the query sees the place, `⊥` elsewhere. -/
theorem tiles_at (B : FVec Ideal S4x8x513 .f32) (h : Fin 8) (i : Fin 5) (q k : Fin 256) :
    tiles B (ix5 0 h i q k)
      = if 64 * (q.val / 64) ≤ i.val * 256 + k.val ∧ i.val * 256 + k.val < 64 * (q.val / 64) + 576
        then Spec.rel B h (min (768 + q.val - (i.val * 256 + k.val)) 512) else (⊥ : EReal) := by
  pointwise [tiles]
  rw [seen_at, skewed_at, taken_at]
  show Scalar.select (if 64 * (q.val / 64) ≤ i.val * 256 + k.val ∧ i.val * 256 + k.val < 64 * (q.val / 64) + 576 then 1#1 else 0#1) _ _ = _
  by_cases hs : 64 * (q.val / 64) ≤ i.val * 256 + k.val ∧ i.val * 256 + k.val < 64 * (q.val / 64) + 576
  · rw [if_pos hs, if_pos hs]
    refine congrArg (Spec.rel B h) ?_
    show (if (q.val * 1535 + (i.val * 256 + k.val)) % 1536 < 1280 then _ else _) = _
    have hq := q.isLt
    have hk := k.isLt
    have hi := i.isLt
    dsimp only
    by_cases hm : q.val ≤ i.val * 256 + k.val
    · have e : (q.val * 1535 + (i.val * 256 + k.val)) % 1536 = i.val * 256 + k.val - q.val := by omega
      rw [e, if_pos (by omega)]
      omega
    · have e : (q.val * 1535 + (i.val * 256 + k.val)) % 1536 = 1536 + (i.val * 256 + k.val) - q.val := by omega
      rw [e, if_neg (by omega)]
      omega
  · rw [if_neg hs, if_neg hs]
    exact RefTrip.neg_inf

end Cert.KernelBias

end
-- ==== Proof.KernelScores.lean ====
/- One head's output at a grid point is the attention of the specification. -/
module

public import proofs.«01_k».proof.Proof.KernelBlock
public import proofs.«01_k».proof.Proof.KernelBias

@[expose] public section

set_option maxRecDepth 16384

noncomputable section

namespace Cert.KernelScores

open Idealize.ShloMosaic Idealize.ShloMosaic.TcCoe Idealize.SL.Sem
open Cert.KernelIdeal Cert.KernelIdeal.Gen Cert.KernelBlock

/-- A value that is neither infinity. -/
def Real (x : EReal) : Prop := ∃ r : ℝ, x = r

theorem Real.add {x y : EReal} : Real x → Real y → Real (x + y)
  | ⟨r, hr⟩, ⟨s, hs⟩ => ⟨r + s, by rw [hr, hs, EReal.coe_add]⟩
theorem Real.mul {x y : EReal} : Real x → Real y → Real (x * y)
  | ⟨r, hr⟩, ⟨s, hs⟩ => ⟨r * s, by rw [hr, hs, EReal.coe_mul]⟩
theorem Real.sum {ι : Type*} (s : Finset ι) (f : ι → EReal) (h : ∀ i ∈ s, Real (f i)) : Real (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
theorem Real.ne_top {x : EReal} : Real x → x ≠ ⊤ | ⟨r, hr⟩ => hr ▸ EReal.coe_ne_top r
theorem Real.ne_bot {x : EReal} : Real x → x ≠ ⊥ | ⟨r, hr⟩ => hr ▸ EReal.coe_ne_bot r

/-- The scale the scores are multiplied by is a real number. -/
theorem scale_real : Real (Ideal.ofBits .f32 0x3DB504F3#32) := by
  refine ⟨11863283 * (2 : ℝ) ^ (-27 : ℤ), ?_⟩
  simp [Ideal.ofBits, Ideal.ieee, -EReal.coe_mul]

variable (A : FVec Ideal ⟨2, ![32768, 3072]⟩ .bf16) (B : FVec Ideal ⟨3, ![4, 8, 513]⟩ .f32)

/-- Queries, keys and biases hold no infinity. -/
structure Finite : Prop where
  el : ∀ i j, j < 2048 → Real (Spec.el A i j)
  rel : ∀ h i, Real (Spec.rel B h i)

variable {A B}

theorem score_real (F : Finite A B) (b j h ql m : ℕ) (hh : h < 8)
    (hm : (64 * (ql / 64) ≤ m ∧ m < 64 * (ql / 64) + 576) ∧ 512 ≤ j * 256 + m) : Real (Spec.score A B b j h ql m) := by
  rw [Spec.score, if_pos hm]
  refine Real.add (Real.mul (Real.sum _ _ fun d _ => Real.mul (F.el _ _ ?_) (F.el _ _ ?_)) scale_real) (F.rel _ _)
  all_goals (have := d.isLt; omega)

section Point

variable (b j h : ℕ) (hb : b < 16) (hj : j < 8) (hh : h < 8)
  (X0 : FVec Ideal S256x1024 .bf16) (X1 X2 : FVec Ideal S2048x1024 .bf16) (X3 : FVec Ideal S1x8x5x256x256 .f32)
  (h0 : ∀ (i : Fin 256) (d : Fin 1024), X0 (ix2 i d) = Spec.el A ((b * 8 + j) * 256 + i) d)
  (h1 : ∀ (i : Fin 2048) (d : Fin 1024), X1 (ix2 i d) = Spec.el A (b * 2048 + i) (1024 + d))
  (h2 : ∀ (i : Fin 2048) (d : Fin 1024), X2 (ix2 i d) = Spec.el A (b * 2048 + i) (2048 + d))
  (h3 : ∀ (g : Fin 8) (i : Fin 5) (p q : Fin 256), X3 (ix5 0 g i p q) = KernelBias.tiles B (ix5 0 g i p q))

include hb hj hh h0 h1 h3 in
/-- One tile of the kernel's scores: `m` is the window place of its column `k`. -/
theorem scores_eq (r : ℕ) (hr : r < 3) (ql k : Fin 256) (m : ℕ) (hm : m = 256 * (2 - min j 2) + 256 * r + k.val) :
    KernelHead.scores (cols X0 h 0) (cols X1 h (256 * (j - 2 + r))) (tile X3 h (r + 2 - min j 2)) (ix2 ql k)
      = Spec.score A B b j h ql m := by
  have hql := ql.isLt
  have hk := k.isLt
  have hi : r + 2 - min j 2 < 5 := by omega
  have hp : (r + 2 - min j 2) * 256 + k.val = m := by omega
  have hs : 512 ≤ j * 256 + m := by omega
  rw [KernelHead.scores_at, tile_at X3 h _ hh hi, h3, KernelBias.tiles_at]
  simp only [hp]
  unfold Spec.score
  by_cases hw : 64 * (ql.val / 64) ≤ m ∧ m < 64 * (ql.val / 64) + 576
  · rw [if_pos hw, if_pos ⟨hw, hs⟩]
    congr 2
    refine Finset.sum_congr rfl fun d _ => ?_
    have hd := d.isLt
    rw [cols_at X0 h 0 ql d (by omega) (by omega), cols_at X1 h _ k d (by omega) (by omega), h0, h1]
    congr 1
    · congr 1 <;> simp only [] <;> omega
    · congr 1 <;> simp only [] <;> omega
  · rw [if_neg hw, if_neg fun g => hw g.1, EReal.add_bot]

include hb hj hh h2 in
/-- One tile of the kernel's values. -/
theorem vals_eq (r : ℕ) (hr : r < 3) (k : Fin 256) (d : Fin 128) (m : ℕ) (hm : m = 256 * (2 - min j 2) + 256 * r + k.val) :
    cols X2 h (256 * (j - 2 + r)) (ix2 k d) = Spec.el A (b * 2048 + (j * 256 + m - 512)) (2048 + h * 128 + d) := by
  have hk := k.isLt
  have hd := d.isLt
  rw [cols_at X2 h _ k d (by omega) (by omega), h2]
  congr 1 <;> simp only [] <;> omega

include hb hj hh h0 h1 h2 h3 in
/-- What the kernel computes for head `h` at a grid point is the attention. -/
theorem headOut_at (F : Finite A B) (ql : Fin 256) (d : Fin 128) :
    headOut X0 X1 X2 X3 j h (ix2 ql d) = Spec.out A B b j h ql d := by
  have hql := ql.isLt
  have S : ∀ (r : ℕ) (hr : r < 3) (k : Fin 256) (m : ℕ) (hm : m = 256 * (2 - min j 2) + 256 * r + k.val), _ :=
    fun r hr k m hm => scores_eq b j h hb hj hh X0 X1 X3 h0 h1 h3 r hr ql k m hm
  have V : ∀ (r : ℕ) (hr : r < 3) (k : Fin 256) (m : ℕ) (hm : m = 256 * (2 - min j 2) + 256 * r + k.val), _ :=
    fun r hr k m hm => vals_eq b j h hb hj hh X2 h2 r hr k d m hm
  have s0 := fun k : Fin 256 => S 0 (by decide) k (256 * (2 - min j 2) + k.val) (by omega)
  have s1 := fun k : Fin 256 => S 1 (by decide) k (256 * (2 - min j 2) + 256 + k.val) (by omega)
  have s2 := fun k : Fin 256 => S 2 (by decide) k (256 * (2 - min j 2) + 512 + k.val) (by omega)
  have v0 := fun k : Fin 256 => V 0 (by decide) k (256 * (2 - min j 2) + k.val) (by omega)
  have v1 := fun k : Fin 256 => V 1 (by decide) k (256 * (2 - min j 2) + 256 + k.val) (by omega)
  have v2 := fun k : Fin 256 => V 2 (by decide) k (256 * (2 - min j 2) + 512 + k.val) (by omega)
  rw [headOut, KernelHead.head, KernelHead.out_at, KernelHead.den_at]
  simp only [KernelHead.exp0_at, KernelHead.exp1_at, KernelHead.exp2_at, KernelHead.top, s0, s1, s2, v0, v1, v2]
  rw [Softmax.sup_fin 256 fun k => max (max (Spec.score A B b j h ql (256 * (2 - min j 2) + k))
    (Spec.score A B b j h ql (256 * (2 - min j 2) + 256 + k))) (Spec.score A B b j h ql (256 * (2 - min j 2) + 512 + k))]
  have key := Softmax.attention (Spec.score A B b j h ql)
    (fun m => Spec.el A (b * 2048 + (j * 256 + m - 512)) (2048 + h * 128 + d)) (Spec.val A b j h d)
    (256 * (2 - min j 2)) (64 * (ql.val / 64)) 1280 (by omega) (by omega) ?_ ?_ ?_ ?_ _ rfl _ rfl
  · rw [Spec.out, Spec.top, ← key]
    simp only [Finset.sum_range]
  · intro m hm
    have hc : (64 * (ql.val / 64) ≤ m ∧ m < 64 * (ql.val / 64) + 576) ∧ 512 ≤ j * 256 + m := by
      by_contra hc
      exact hm (by rw [Spec.score, if_neg hc])
    omega
  · intro m hm
    have hc : (64 * (ql.val / 64) ≤ m ∧ m < 64 * (ql.val / 64) + 576) ∧ 512 ≤ j * 256 + m := by
      by_contra hc
      exact hm (by rw [Spec.score, if_neg hc])
    rw [Spec.val, if_pos hc.2]
  · intro m
    by_cases hc : (64 * (ql.val / 64) ≤ m ∧ m < 64 * (ql.val / 64) + 576) ∧ 512 ≤ j * 256 + m
    · exact (score_real F b j h ql m hh hc).ne_top
    · rw [Spec.score, if_neg hc]
      exact bot_ne_top
  · exact ⟨512 + ql.val, by omega, (score_real F b j h ql _ hh (by omega)).ne_bot⟩

end Point

end Cert.KernelScores

end
-- ==== Proof.KernelBiasEntry.lean ====
/- The kernel's bias tiles: the host code before the kernel leaves of the bias table. -/
module

public import proofs.«01_k».proof.Proof.Gen.KernelIdeal.Value
public import proofs.«01_k».proof.Proof.KernelBias
public import Idealize.ShloMosaic.Lib.StableHlo.RunRead

@[expose] public section

set_option maxRecDepth 16384

noncomputable section

namespace Cert.KernelBias

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

set_option maxRecDepth 65536 in
set_option maxHeartbeats 1600000 in
/-- The bias tiles the kernel is entered with. -/
theorem entry : V m c main_v37 = tiles (m ((c : Thread nD τ).loc main_arg1)) := by
  unfold V
  simp only [List.flatten_cons, List.flatten_nil, List.append_nil, after_append]
  after_reads_simp
  simp -implicitDefEqProofs only [TRef.toBuf, TRef.ofBuf, cast_cast, cast_eq, id_eq]
  unfold tiles skewed taken inside wrapped places seen behind qchunk kchunk
  rfl

end Cert.KernelBias

end
-- ==== Proof.KernelValue.lean ====
/- The kernel's result array after the run, and what the precondition says of the arguments. -/
module

public import proofs.«01_k».proof.Defs
public import proofs.«01_k».proof.Proof.KernelScores
public import proofs.«01_k».proof.Proof.KernelBiasEntry

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The blocks each grid point reads and writes. -/
theorem idx : ∀ t : Fin cfg0.N, win0_0.index t = ![t.val, 0] ∧ win0_1.index t = ![t.val / 8, 1]
    ∧ win0_2.index t = ![t.val / 8, 2] ∧ win0_3.index t = ![0, 0, 0, 0, 0] ∧ win0_4.index t = ![t.val, 0]
    ∧ (grid0.coords t 1).val = t.val % 8 ∧ t.val < 128 :=
  (by decide +kernel : ∀ t : Fin grid0.N, _)

theorem query (t : Fin cfg0.N) (i : Fin 256) (d : Fin 1024) :
    (iblk m c 0 t : FVec Ideal S256x1024 .bf16) (ix2 i d)
      = Spec.el (m ((c : Thread nD τ).loc main_arg0)) ((t.val / 8 * 8 + t.val % 8) * 256 + i) d := by
  have ht := (idx t).2.2.2.2.2.2
  have hi := i.isLt
  have hd := d.isLt
  refine Eq.trans ?_ (Spec.el_eq _ ⟨(t.val / 8 * 8 + t.val % 8) * 256 + i, by omega⟩ ⟨d, by omega⟩)
  blk_ext [iblk, V, idx t]

theorem key (t : Fin cfg0.N) (i : Fin 2048) (d : Fin 1024) :
    (iblk m c 1 t : FVec Ideal S2048x1024 .bf16) (ix2 i d)
      = Spec.el (m ((c : Thread nD τ).loc main_arg0)) (t.val / 8 * 2048 + i) (1024 + d) := by
  have ht := (idx t).2.2.2.2.2.2
  have hi := i.isLt
  have hd := d.isLt
  refine Eq.trans ?_ (Spec.el_eq _ ⟨t.val / 8 * 2048 + i, by omega⟩ ⟨1024 + d, by omega⟩)
  blk_ext [iblk, V, idx t]

theorem value (t : Fin cfg0.N) (i : Fin 2048) (d : Fin 1024) :
    (iblk m c 2 t : FVec Ideal S2048x1024 .bf16) (ix2 i d)
      = Spec.el (m ((c : Thread nD τ).loc main_arg0)) (t.val / 8 * 2048 + i) (2048 + d) := by
  have ht := (idx t).2.2.2.2.2.2
  have hi := i.isLt
  have hd := d.isLt
  refine Eq.trans ?_ (Spec.el_eq _ ⟨t.val / 8 * 2048 + i, by omega⟩ ⟨2048 + d, by omega⟩)
  blk_ext [iblk, V, idx t]

/-- The block of biases is the first layer's part of the tiles. -/
theorem bias_block (W : FVec Ideal S4x8x5x256x256 .f32) (t : Fin cfg0.N) (g : Fin 8) (i : Fin 5) (p q : Fin 256) :
    W ((win0_3.blk t).view.emb (ix5 0 g i p q)) = W (ix5 0 g i p q) := by
  blk_ext [idx t]

theorem bias (t : Fin cfg0.N) (g : Fin 8) (i : Fin 5) (p q : Fin 256) :
    (iblk m c 3 t : FVec Ideal S1x8x5x256x256 .f32) (ix5 0 g i p q)
      = KernelBias.tiles (m ((c : Thread nD τ).loc main_arg1)) (ix5 0 g i p q) := by
  rw [← KernelBias.entry m c]
  have key := bias_block (V m c main_v37) t g i p q
  unfold iblk
  rw [View.read_apply]
  exact key

/-- The result array after the run is the attention. -/
theorem final (F : KernelScores.Finite (m ((c : Thread nD τ).loc main_arg0)) (m ((c : Thread nD τ).loc main_arg1))) :
    (dats m 0 c).arrAt 4 cfg0.N
      = Spec.result (m ((c : Thread nD τ).loc main_arg0)) (m ((c : Thread nD τ).loc main_arg1)) := by
  refine (dats m 0 c).arrAt_eq_of_covers 4 _ (by decide +kernel) fun t _ y => ?_
  blk_simp
  rw [after0_4]
  refine (KernelBlock.out_block m c t y).trans ?_
  have ht := (idx t).2.2.2.2.2.2
  have hj := (idx t).2.2.2.2.2.1
  have y0 : (y 0).val < 256 := (y 0).isLt
  have y1 : (y 1).val < 1024 := (y 1).isLt
  rw [hj]
  refine (KernelScores.headOut_at (t.val / 8) (t.val % 8) ((y 1).val / 128) (by omega) (by omega) (by omega)
    _ _ _ _ (query m c t) (key m c t) (value m c t) (bias m c t) F (y 0) ⟨(y 1).val % 128, Nat.mod_lt _ (by decide)⟩).trans ?_
  unfold Spec.result
  blk_simp [idx t]
  have e1 : (t.val * 256 + (y 0).val) / 2048 = t.val / 8 := by omega
  have e2 : (t.val * 256 + (y 0).val) % 2048 / 256 = t.val % 8 := by omega
  have e3 : (t.val * 256 + (y 0).val) % 256 = (y 0).val := by omega
  rw [e1, e2, e3]

theorem top_bf16 : Ideal.ofBits .bf16 0x7F80#16 = ⊤ := by simp [Ideal.ofBits, Ideal.ieee]
theorem top_f32 : Ideal.ofBits .f32 0x7F800000#32 = ⊤ := by simp [Ideal.ofBits, Ideal.ieee]

/-- The precondition's side conditions. -/
theorem facts : Cert.Pre_finite_scores.Facts where
  slices_S32768x3072_S32768x2048_0_0 := by decide
  bcast_S_S32768x2048 := by decide
  slices_S4x8x513_S1x8x513_0_0_0 := by decide
  shapeCasts_S1x8x513_S8x513 := by decide
  bcast_S_S8x513 := by decide

/-- A value whose absolute value is below `⊤` is a real number. -/
theorem real_of_lt (x : EReal) (h : Ideal.cmp .olt (max x (-x)) ⊤ = 1#1) : KernelScores.Real x := by
  have h' : max x (-x) < ⊤ := by
    by_contra hn
    simp [Ideal.cmp, hn] at h
  have h1 := lt_of_le_of_lt (le_max_left _ _) h'
  have h2 := lt_of_le_of_lt (le_max_right _ _) h'
  induction x using EReal.rec with
  | bot => simp at h2
  | top => simp at h1
  | coe r => exact ⟨r, rfl⟩

/-- The precondition: queries, keys and biases hold no infinity. -/
theorem finite (A : FVec Ideal S32768x3072 .bf16) (B : FVec Ideal S4x8x513 .f32)
    (h : haveI := facts; (Cert.Pre_finite_scores.fn (F := Ideal) A B).1 = (fun _ => 1#1)
      ∧ (Cert.Pre_finite_scores.fn (F := Ideal) A B).2 = (fun _ => 1#1)) : KernelScores.Finite A B := by
  constructor
  · intro i j hj
    unfold Spec.el
    split
    · rename_i hij
      have e := congrFun h.1 (ix2 ⟨i, hij.1⟩ ⟨j, hj⟩)
      refine real_of_lt _ (Eq.trans ?_ e)
      pointwise [Cert.Pre_finite_scores.fn]
      rw [top_bf16]
      rfl
    · exact ⟨0, rfl⟩
  · intro g i
    unfold Spec.rel
    split
    · rename_i hij
      have e := congrFun h.2 (ix2 ⟨g, hij.1⟩ ⟨i, hij.2⟩)
      refine real_of_lt _ (Eq.trans ?_ e)
      pointwise [Cert.Pre_finite_scores.fn]
      rw [top_f32]
      rfl
    · exact ⟨0, rfl⟩

end Cert.KernelValue

end
-- ==== Proof.RefArrays.lean ====
/- The reference's arrays before its loop, entry by entry. -/
module

public import proofs.«01_k».proof.Proof.RefTripOut
public import proofs.«01_k».proof.Proof.Spec

@[expose] public section

set_option maxRecDepth 16384

noncomputable section

namespace Cert.RefTrip

open Idealize.ShloMosaic Cert.ReferenceIdeal Cert.ReferenceIdeal.Gen Cert.ReferenceIdeal.Step

/-- The queries by chunk. -/
theorem queries_at (A : FVec Ideal S32768x3072 .bf16) (B : FVec Ideal S4x8x513 .f32) (c : Fin 32) (b : Fin 16) (q : Fin 64)
    (h : Fin 8) (d : Fin 128) :
    A_main_v32 (F := Ideal) A B (ix5 c b q h d) = Spec.el A (b * 2048 + (c * 64 + q)) (h * 128 + d) := by
  pointwise [A_main_v32, A_main_v31, A_main_v5, A_main_v2, A_main_v1, A_main_v0]
  exact Spec.el_eq A _ _

/-- The padded keys. -/
theorem keys_at (A : FVec Ideal S32768x3072 .bf16) (B : FVec Ideal S4x8x513 .f32) (b : Fin 16) (t : Fin 2560)
    (h : Fin 8) (d : Fin 128) (ht : 512 ≤ t.val) :
    A_main_v10 (F := Ideal) A B (ix4 b t h d) = Spec.el A (b * 2048 + (t - 512)) (1024 + h * 128 + d) := by
  pointwise [A_main_v10, A_main_v6, A_main_v3, A_main_v1, A_main_v0]
  rw [dif_pos ⟨ht, by omega⟩]
  refine (Spec.el_eq A _ _).trans ?_
  rw [Nat.add_assoc 1024]

/-- The padded values. -/
theorem values_at (A : FVec Ideal S32768x3072 .bf16) (B : FVec Ideal S4x8x513 .f32) (b : Fin 16) (t : Fin 2560)
    (h : Fin 8) (d : Fin 128) :
    A_main_v11 (F := Ideal) A B (ix4 b t h d)
      = if 512 ≤ t.val then Spec.el A (b * 2048 + (t - 512)) (2048 + h * 128 + d) else 0 := by
  pointwise [A_main_v11, A_main_v7, A_main_v4, A_main_v1, A_main_v0]
  by_cases ht : 512 ≤ t.val
  · rw [dif_pos ⟨ht, by omega⟩, if_pos ht]
    refine (Spec.el_eq A _ _).trans ?_
    rw [Nat.add_assoc 2048]
  · rw [dif_neg (fun h => ht h.1), if_neg ht]
    show (((0#32 : BitVec 32).toInt : ℝ) : EReal) = 0
    simp

/-- The relative position wrapped into the table, as the reference computes it word by word. -/
theorem clip_word : ∀ n : Fin 1100,
    Scalar.select (IntOp.cmpi CmpIPredicate.slt
        (IntOp.addi (IntOp.minsi 256#32 (IntOp.maxsi 4294967040#32 (IntOp.subi (BitVec.ofNat 32 n) 256#32))) 256#32) 0#32)
      (IntOp.addi (IntOp.addi (IntOp.minsi 256#32 (IntOp.maxsi 4294967040#32 (IntOp.subi (BitVec.ofNat 32 n) 256#32))) 256#32) 513#32)
      (IntOp.addi (IntOp.minsi 256#32 (IntOp.maxsi 4294967040#32 (IntOp.subi (BitVec.ofNat 32 n) 256#32))) 256#32)
    = BitVec.ofNat 32 (min n.val 512) := by decide +kernel

/-- The bias index of a query and a key of a trip. -/
theorem idx_at (q : Fin 64) (k : Fin 576) :
    K_main_v28 (F := Ideal) (ix2 q k) = BitVec.ofNat 32 (min (768 + q.val - k.val) 512) := by
  have e : IntOp.subi (IntOp.addi 512#32 (BitVec.ofNat 32 q.val)) (BitVec.ofNat 32 k.val)
      = IntOp.subi (BitVec.ofNat 32 (768 + q.val - k.val)) 256#32 := by
    apply BitVec.eq_of_toNat_eq
    simp only [IntOp.addi, IntOp.subi, BitVec.toNat_add, BitVec.toNat_sub, BitVec.toNat_ofNat]
    omega
  have key := clip_word ⟨768 + q.val - k.val, by omega⟩
  rw [← e] at key
  pointwise [K_main_v28, K_main_v27, K_main_v26, K_main_c_6, K_main_v25, K_main_v24, K_main_c_5, K_main_v23, K_main_v22, K_main_c_4, K_main_v21, K_main_call2_v4, K_main_call2_v3, K_main_c_3, K_main_call2_v2, K_main_call2_v1, K_main_call2_v0, K_main_c_2, K_main_v20, K_main_v19, K_main_v18, K_main_v17, K_main_v16, K_main_v15, K_main_v14, K_main_v13, K_main_v12, K_main_c_1]
  exact key

/-- The reference's take of the bias table, read at an entry. -/
theorem take_at (x : FVec Ideal S8x513 .f32) (idx : IVec S64x576x1 32) (h : Fin 8) (q : Fin 64) (k : Fin 576) :
    Host.gather gather_S8x513_S64x576x1_S8x64x576_0_1_n_n_1_2_81 x idx (ix3 h q k)
      = x (ix2 h ⟨min (idx (ix3 q k 0)).toInt.toNat 512, by omega⟩) := by
  unfold Host.gather
  congr 1
  funext a
  refine Fin.ext ?_
  show (gather_S8x513_S64x576x1_S8x64x576_0_1_n_n_1_2_81).start (ix3 h q k) idx a
    + (gather_S8x513_S64x576x1_S8x64x576_0_1_n_n_1_2_81).batchCoord (ix3 h q k) a
    + (gather_S8x513_S64x576x1_S8x64x576_0_1_n_n_1_2_81).offCoord (ix3 h q k) a = _
  have h01 : a = 0 ∨ a = 1 := by
    match a with
    | ⟨0, _⟩ => exact Or.inl rfl
    | ⟨1, _⟩ => exact Or.inr rfl
  rcases h01 with rfl | rfl
  · show 0 + 0 + h.val = h.val
    omega
  · unfold GatherDims.start
    rw [dif_pos (show (1 : Fin 2) ∈ (gather_S8x513_S64x576x1_S8x64x576_0_1_n_n_1_2_81).startIndexMap from List.mem_singleton.mpr rfl)]
    have hsi : (gather_S8x513_S64x576x1_S8x64x576_0_1_n_n_1_2_81).siIdx (ix3 h q k)
        ⟨List.idxOf (1 : Fin 2) (gather_S8x513_S64x576x1_S8x64x576_0_1_n_n_1_2_81).startIndexMap,
          List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    rw [hsi]
    rfl

theorem layer_at (A : FVec Ideal S32768x3072 .bf16) (B : FVec Ideal S4x8x513 .f32) (h : Fin 8) (n : Fin 513) :
    A_main_v9 (F := Ideal) A B (ix2 h n) = B (ix3 0 h n) := by
  pointwise [A_main_v9, A_main_v8]

theorem idx3_at (q : Fin 64) (k : Fin 576) : K_main_v29 (F := Ideal) (ix3 q k 0) = K_main_v28 (F := Ideal) (ix2 q k) := by
  pointwise [K_main_v29]

/-- The reference's bias of a trip. -/
theorem bias_at (A : FVec Ideal S32768x3072 .bf16) (B : FVec Ideal S4x8x513 .f32) (h : Fin 8) (q : Fin 64) (k : Fin 576) :
    A_main_v30 (F := Ideal) A B (ix3 h q k) = Spec.rel B h (min (768 + q.val - k.val) 512) := by
  unfold A_main_v30
  refine (take_at _ _ h q k).trans ((layer_at A B h _).trans ((Spec.rel_eq B h _).trans (congrArg (Spec.rel B h) ?_)))
  show min (K_main_v29 (F := Ideal) (ix3 q k 0)).toInt.toNat 512 = _
  rw [idx3_at, idx_at, toInt_small _ (by omega), Int.toNat_natCast]
  omega

end Cert.RefTrip

end
-- ==== Proof.RefChunk.lean ====
/- One trip of the reference's loop in the attention's own terms. -/
module

public import proofs.«01_k».proof.Proof.RefArrays

@[expose] public section

set_option maxRecDepth 16384

noncomputable section

namespace Cert.RefTrip

open Idealize.ShloMosaic Cert.ReferenceIdeal Cert.ReferenceIdeal.Gen Cert.ReferenceIdeal.Step

variable (A : FVec Ideal S32768x3072 .bf16) (B : FVec Ideal S4x8x513 .f32)

/-- The state a trip starts from: the result so far beside the arrays no trip changes. -/
def stateOf (o : FVec Ideal S32x16x64x8x128 .f32) : State Ideal :=
  { main_v35_7 := o, main_v35_1 := A_main_v32 A B, main_v35_2 := A_main_v10 A B, main_v35_3 := A_main_v11 A B,
    main_v35_4 := A_main_v30 A B }

/-- A trip's score is the attention's score: chunk `c` is a quarter of block `c / 4`. -/
theorem score_spec (o : FVec Ideal S32x16x64x8x128 .f32) (c : ℕ) (hc : c < 32) (b : Fin 16) (h : Fin 8) (q : Fin 64)
    (k : Fin 576) :
    b46 c (stateOf A B o) (ix4 b h q k)
      = Spec.score A B b (c / 4) h (64 * (c % 4) + q) (64 * ((64 * (c % 4) + q) / 64) + k) := by
  have hq := q.isLt
  have hk := k.isLt
  have eq1 : (64 * (c % 4) + q.val) / 64 = c % 4 := by omega
  refine (score_at c hc (stateOf A B o) b h q k).trans ?_
  rw [Spec.score, eq1]
  have epos : c / 4 * 256 + (64 * (c % 4) + k.val) = c * 64 + k.val := by omega
  have eqy : c / 4 * 256 + (64 * (c % 4) + q.val) = c * 64 + q.val := by omega
  have ebias : 768 + (64 * (c % 4) + q.val) - (64 * (c % 4) + k.val) = 768 + q.val - k.val := by omega
  rw [epos, eqy, ebias]
  by_cases hh : 512 ≤ c * 64 + k.val
  · rw [if_pos hh, if_pos ⟨⟨by omega, by omega⟩, hh⟩]
    refine congrArg₂ (· + ·) (congrArg (· * _) (Finset.sum_congr rfl fun d _ => congrArg₂ (· * ·) ?_ ?_)) ?_
    · exact queries_at A B ⟨c, hc⟩ b q h d
    · exact keys_at A B b ⟨c * 64 + k, by omega⟩ h d hh
    · exact bias_at A B h q k
  · rw [if_neg hh, if_neg fun g => hh g.2]

/-- A trip's values are the attention's. -/
theorem val_spec (o : FVec Ideal S32x16x64x8x128 .f32) (c : ℕ) (hc : c < 32) (b : Fin 16) (h : Fin 8) (q : Fin 64)
    (k : Fin 576) (d : Fin 128) :
    b27 c (stateOf A B o) (ix4 b k h d)
      = Spec.val A b (c / 4) h d (64 * ((64 * (c % 4) + q.val) / 64) + k) := by
  have hq := q.isLt
  have eq1 : (64 * (c % 4) + q.val) / 64 = c % 4 := by omega
  have epos : c / 4 * 256 + (64 * (c % 4) + k.val) = c * 64 + k.val := by omega
  rw [Spec.val, eq1, epos]
  exact (b27_at c hc (stateOf A B o) b k h d).trans (values_at A B b ⟨c * 64 + k, by omega⟩ h d)

/-- A trip's largest score is the attention's. -/
theorem top_spec (o : FVec Ideal S32x16x64x8x128 .f32) (c : ℕ) (hc : c < 32) (b : Fin 16) (h : Fin 8) (q : Fin 64) :
    b51 c (stateOf A B o) (ix3 b h q) = Spec.top A B b (c / 4) h (64 * (c % 4) + q) := by
  rw [max_at, Spec.top, ← Softmax.sup_fin 576]
  exact congrArg (Finset.univ.sup) (funext fun k => score_spec A B o c hc b h q k)

/-- A trip's output entry is the attention's. -/
theorem out_spec (o : FVec Ideal S32x16x64x8x128 .f32) (c : ℕ) (hc : c < 32) (b : Fin 16) (h : Fin 8) (q : Fin 64)
    (d : Fin 128) :
    b62 c (stateOf A B o) (ix4 b q h d) = Spec.out A B b (c / 4) h (64 * (c % 4) + q) d := by
  rw [out_at, Spec.out, Finset.sum_range, Finset.sum_range]
  refine Finset.sum_congr rfl fun k _ => congrArg₂ (· * ·) (val_spec A B o c hc b h q k d) (congrArg₂ Ideal.div ?_ ?_)
  · rw [score_spec A B o c hc, top_spec A B o c hc]
  · refine Finset.sum_congr rfl fun l _ => ?_
    rw [score_spec A B o c hc, top_spec A B o c hc]

/-- The carried result after `n` trips: the first `n` chunks hold the attention, the others zero. -/
def carried (n : ℕ) : FVec Ideal S32x16x64x8x128 .f32 := fun i =>
  if (i 0).val < n then Spec.out A B (i 1).val ((i 0).val / 4) (i 3).val (64 * ((i 0).val % 4) + (i 2).val) (i 4).val
  else K_main_v34 (F := Ideal) i

/-- One trip carries the result on by one chunk. -/
theorem carried_step (n : ℕ) (hn : n < 32) : b68 n (stateOf A B (carried A B n)) = carried A B (n + 1) := by
  funext i
  idx_vars i
  rw [carried_at n hn]
  show _ = if i0.val < n + 1 then _ else _
  by_cases h : i0.val = n
  · rw [if_pos h, if_pos (by omega), out_spec A B _ n hn]
    subst h
    rfl
  · rw [if_neg h]
    show (if i0.val < n then _ else _) = _
    by_cases h' : i0.val < n
    · rw [if_pos h', if_pos (by omega)]
    · rw [if_neg h', if_neg (by omega)]

end Cert.RefTrip

end
-- ==== Proof.RefLoop.lean ====
/- The reference's run: its loop over the chunks carried through, the result in the attention's own terms. -/
module

public import proofs.«01_k».proof.Proof.Gen.ReferenceIdeal.Run
public import proofs.«01_k».proof.Proof.RefChunk

@[expose] public section

set_option maxRecDepth 16384

noncomputable section

namespace Cert.RefLoop

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step Cert.RefTrip

variable (A : FVec Ideal S32768x3072 .bf16) (B : FVec Ideal S4x8x513 .f32)

/-- The buffers before trip `n`: the first `n` chunks done, the arrays no trip changes, the counter at `n`. -/
structure At (V0 : Valuation τ sig (Elt Ideal)) (n : ℕ) : Prop where
  done : V0 (Proc.devRef .tc main_v35_7) = carried A B n
  queries : V0 (Proc.devRef .tc main_v35_1) = A_main_v32 (F := Ideal) A B
  keys : V0 (Proc.devRef .tc main_v35_2) = A_main_v10 (F := Ideal) A B
  values : V0 (Proc.devRef .tc main_v35_3) = A_main_v11 (F := Ideal) A B
  bias : V0 (Proc.devRef .tc main_v35_4) = A_main_v30 (F := Ideal) A B
  counter : V0 (Proc.devRef .tc main_v35_6) = constantI S_ 32 (BitVec.ofNat 32 n)
  chunks : V0 (Proc.devRef .tc main_v35_0) = K_main_v33 (F := Ideal)
  places : V0 (Proc.devRef .tc main_v35_5) = K_main_v13 (F := Ideal)

variable {A B} {V0 : Valuation τ sig (Elt Ideal)} {n : ℕ}

theorem start_word (h : At A B V0 n) : res_main_while0b_v42 V0 = b9 n (stateOf A B (carried A B n)) := by
  unfold res_main_while0b_v42
  rw [h.chunks, h.counter]
  rfl

theorem scores (h : At A B V0 n) : res_main_while0b_v62 V0 = b46 n (stateOf A B (carried A B n)) := by
  unfold res_main_while0b_v62
  rw [start_word h, h.queries, h.keys, h.bias, h.counter, h.places]
  rfl

theorem exps (h : At A B V0 n) : res_main_while0b_v69 V0 = b55 n (stateOf A B (carried A B n)) := by
  unfold res_main_while0b_v69
  rw [scores h]
  rfl

theorem trip_done (h : At A B V0 n) : Value.step_main_v35_7 V0 = b68 n (stateOf A B (carried A B n)) := by
  unfold Value.step_main_v35_7
  rw [start_word h, exps h, h.done, h.values, h.counter]
  rfl

theorem trip_counter (h : At A B V0 n) : Value.step_main_v35_6 V0 = constantI S_ 32 (BitVec.ofNat 32 (n + 1)) := by
  unfold Value.step_main_v35_6
  rw [h.counter]
  funext i
  show BitVec.ofNat 32 n + 1#32 = BitVec.ofNat 32 (n + 1)
  rw [BitVec.ofNat_add]

/-- One trip. -/
theorem trip (h : At A B V0 n) (hn : n < 32) : At A B (STEP V0) (n + 1) where
  done := (STEP_main_v35_7 V0).trans ((trip_done h).trans (carried_step A B n hn))
  queries := (STEP_main_v35_1 V0).trans h.queries
  keys := (STEP_main_v35_2 V0).trans h.keys
  values := (STEP_main_v35_3 V0).trans h.values
  bias := (STEP_main_v35_4 V0).trans h.bias
  counter := (STEP_main_v35_6 V0).trans (trip_counter h)
  chunks := (STEP_main_v35_0 V0).trans h.chunks
  places := (STEP_main_v35_5 V0).trans h.places

variable (m : (ℓ : Loc nD τ sig) → Buf (Elt Ideal) ℓ) (c : Dev nD)

/-- Before the first trip no chunk is done. -/
theorem carried_zero : carried A B 0 = K_main_v34 (F := Ideal) := by
  funext i
  show (if (i 0).val < 0 then _ else _) = _
  rw [if_neg (Nat.not_lt_zero _)]

set_option maxRecDepth 65536 in
set_option maxHeartbeats 400000 in
theorem entry : At (m ((c.tc : Thread nD τ).loc main_arg0)) (m ((c.tc : Thread nD τ).loc main_arg1)) (entryContents preI m c) 0 := by
  constructor
  · rw [carried_zero]
    simp only [entryContents, afterL_cons, afterL_nil]; after_reads_simp; rfl
  all_goals (simp only [entryContents, afterL_cons, afterL_nil]; after_reads_simp; rfl)

/-- After `k` trips. -/
theorem trips : ∀ k, k ≤ 32 → At (m ((c.tc : Thread nD τ).loc main_arg0)) (m ((c.tc : Thread nD τ).loc main_arg1))
    (STEP^[k] (entryContents preI m c)) k
  | 0, _ => entry m c
  | k + 1, hk => by
    rw [Function.iterate_succ_apply']
    exact trip (trips k (by omega)) (by omega)

/-- The operations after the loop lay the chunks side by side: the attention's result. -/
theorem laid_out (A : FVec Ideal S32768x3072 .bf16) (B : FVec Ideal S4x8x513 .f32) :
    R_main_v39 (stateOf A B (carried A B 32)) = Spec.result A B := by
  funext i
  idx_vars i
  pointwise [R_main_v39]
  show (if i0.val / 64 % 32 < 32 then Spec.out A B (i0.val / 2048) (i0.val / 64 % 32 / 4) (i1.val / 128)
      (64 * (i0.val / 64 % 32 % 4) + i0.val % 64) (i1.val % 128) else _) =
    Spec.out A B (i0.val / 2048) (i0.val % 2048 / 256) (i1.val / 128) (i0.val % 256) (i1.val % 128)
  have e1 : i0.val / 64 % 32 / 4 = i0.val % 2048 / 256 := by omega
  have e2 : 64 * (i0.val / 64 % 32 % 4) + i0.val % 64 = i0.val % 256 := by omega
  rw [if_pos (Nat.mod_lt _ (by norm_num)), e1, e2]

/-- The reference's run ends with the attention's result, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39)
        = Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      unfold out_main_v39
      rw [(trips m c 32 le_rfl).done]
      exact laid_out _ _), (h c).2.1, (h c).2.2⟩) (Value.run m ρ)

end Cert.RefLoop

end
-- ==== Proof.GateChunk.lean ====
/- The feed-forward up projection: the shifted gate buffer and one chunk of the activation. -/
module

public import proofs.«01_k».proof.Proof.Gen.Kernel2Ideal.Value
public import Idealize.ShloMosaic.Lib.WritesUnit
public import Idealize.ShloMosaic.Lib.Pipeline.ValueKit

@[expose] public section

set_option maxRecDepth 16384

noncomputable section

namespace Cert.Gate

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The gate buffer: eight rows from above the block, then the block's gate product. -/
def rows (P : FVec Ideal S1024x512 .f32) (top : FVec Ideal S1032x512 .f32) : FVec Ideal S1032x512 .f32 := fun x =>
  if h : 8 ≤ (x 0).val then P (ix2 ⟨(x 0).val - 8, by have h1 : (x 0).val < 1032 := (x 0).isLt; omega⟩ (x 1)) else top x

/-- The block's gate product stored over whatever the buffer held. -/
theorem read_rows {sp} (v : View sig .tc sp S1032x512 EltTy.f32) (f : v.ty.Contents (Elt Ideal)) (P : FVec Ideal S1024x512 .f32) (h1)
    (L : List (View.Piece (Elt Ideal) S1032x512 EltTy.f32)) :
    v.read (Elt Ideal) (v.writes (Elt Ideal) f (⟨Rect.unit ![8, 0] ![1024, 512] h1, P⟩ :: L)) = rows P (v.read (Elt Ideal) (v.writes (Elt Ideal) f L)) := by
  funext x
  have hx : (x 0).val < 1032 := (x 0).isLt
  unfold rows
  by_cases h : 8 ≤ (x 0).val
  · rw [dif_pos h]
    refine View.read_writes_cons_unit_of_mem v f h1 P L x _ rfl fun a => ?_
    match a with
    | ⟨0, _⟩ => exact (show (x 0).val = 8 + ((x 0).val - 8) by omega)
    | ⟨1, _⟩ => exact (show (x 1).val = 0 + (x 1).val by omega)
  · rw [dif_neg h]
    exact View.read_writes_cons_unit_of_not_mem v f h1 P L x rfl 0 (Or.inl (show (x 0).val < 8 by omega))

/-- Zero rows stored above the block. -/
theorem read_zero {sp} (v : View sig .tc sp S1032x512 EltTy.f32) (f : v.ty.Contents (Elt Ideal)) (h2)
    (x : S1032x512.Idx) (h : (x 0).val < 8) :
    v.read (Elt Ideal) (v.writes (Elt Ideal) f [⟨Rect.unit ![0, 0] ![8, 512] h2, (k0_pay2 : FVec Ideal S8x512 .f32)⟩]) x = 0 := by
  refine (View.read_writes_cons_unit_of_mem v f h2 (k0_pay2 : FVec Ideal S8x512 .f32) [] x (ix2 ⟨(x 0).val, h⟩ (x 1)) rfl fun a => ?_).trans ?_
  · match a with
    | ⟨0, _⟩ => exact (show (x 0).val = 0 + (x 0).val by omega)
    | ⟨1, _⟩ => exact (show (x 1).val = 0 + (x 1).val by omega)
  · pointwise [k0_pay2]

/-- Buffers that agree above the block are equal. -/
theorem rows_congr (P : FVec Ideal S1024x512 .f32) (A B : FVec Ideal S1032x512 .f32) (h : ∀ x : S1032x512.Idx, (x 0).val < 8 → A x = B x) :
    rows P A = rows P B := by
  funext x
  unfold rows
  by_cases h8 : 8 ≤ (x 0).val
  · rw [dif_pos h8, dif_pos h8]
  · rw [dif_neg h8, dif_neg h8]
    exact h x (by omega)

/-- The block's own rows do not depend on what lies above. -/
theorem rows_own (P : FVec Ideal S1024x512 .f32) (A B : FVec Ideal S1032x512 .f32) (x : S1032x512.Idx) (h8 : 8 ≤ (x 0).val) :
    rows P A x = rows P B x := by
  unfold rows
  rw [dif_pos h8, dif_pos h8]

/-- A read of the buffer at a sequence's first block. -/
theorem load_both {sp} (v : View sig .tc sp S1032x512 EltTy.f32) (P : FVec Ideal S1024x512 .f32) (h1 h2) (r : Rect S1032x512) :
    v.readCov (Val := Elt Ideal) [⟨Rect.unit ![8, 0] ![1024, 512] h1, P⟩, ⟨Rect.unit ![0, 0] ![8, 512] h2, (k0_pay2 : FVec Ideal S8x512 .f32)⟩] r.toLoadRect
      = View.ld (Val := Elt Ideal) (e' := .f32) (rows P (fun _ => 0)) r := by
  funext j
  refine (congrFun (read_rows v v.junk P h1 _) (r.emb j)).trans ?_
  rw [rows_congr P _ (fun _ => 0) (read_zero v v.junk h2)]
  rfl

/-- A rectangle that starts at row 8 or below holds rows from 8 on. -/
theorem own_row (o n : ℕ) (h3) (h : 8 ≤ o) (j : (Rect.unit (s := S1032x512) ![o, 0] ![n, 512] h3).shape.Idx) :
    8 ≤ ((Rect.unit (s := S1032x512) ![o, 0] ![n, 512] h3).emb j 0).val :=
  le_trans h (Nat.le_add_right _ _)

/-- A read of the buffer from the block's own rows, whatever lies above. -/
theorem load_own {sp} (v : View sig .tc sp S1032x512 EltTy.f32) (P : FVec Ideal S1024x512 .f32) (top : FVec Ideal S1032x512 .f32) (h1)
    (r : Rect S1032x512) (h : ∀ j, 8 ≤ (r.emb j 0).val) :
    v.readCov (Val := Elt Ideal) [⟨Rect.unit ![8, 0] ![1024, 512] h1, P⟩] r.toLoadRect
      = View.ld (Val := Elt Ideal) (e' := .f32) (rows P top) r := by
  funext j
  exact (congrFun (read_rows v v.junk P h1 _) (r.emb j)).trans (rows_own P _ top _ (h j))

/-- A read of the buffer over what the point before left. -/
theorem load_over {sp} (w : Memref sig .tc sp S1032x512 EltTy.f32) (hw : w.IsWhole) (P : FVec Ideal S1024x512 .f32) (old : FVec Ideal S1032x512 .f32) (h1) :
    w.view.read (Elt Ideal) (w.view.writes (Elt Ideal) (hw.unread (Val := Elt Ideal) old) [⟨Rect.unit ![8, 0] ![1024, 512] h1, P⟩]) = rows P old := by
  rw [read_rows]
  exact congrArg (rows P) ((congrArg _ (View.writes_nil _ _)).trans (hw.read_unread (Val := Elt Ideal) old))

/-- The activation of the buffer `G` at a row and column of the block. -/
def act (cw : FVec Ideal S3x512 .f32) (cb : FVec Ideal S1x512 .f32) (G : FVec Ideal S1032x512 .f32) : FVec Ideal S1024x512 .f32 := fun y =>
  let r : Fin 1024 := y 0
  let conv := cb (ix2 0 (y 1)) + cw (ix2 0 (y 1)) * G (ix2 ⟨r.val + 6, by omega⟩ (y 1)) + cw (ix2 1 (y 1)) * G (ix2 ⟨r.val + 7, by omega⟩ (y 1))
    + cw (ix2 2 (y 1)) * G (ix2 ⟨r.val + 8, by omega⟩ (y 1))
  Ideal.ofBits .f32 0x3F000000#32 * conv * (Ideal.ofBits .f32 0x3F800000#32 + Ideal.erf (conv * Ideal.ofBits .f32 0x3F3504F3#32))

/-- One chunk of 32 rows is the activation at those rows. -/
theorem chunk_at (cw : FVec Ideal S3x512 .f32) (cb : FVec Ideal S1x512 .f32) (G : FVec Ideal S1032x512 .f32) (o : ℕ) (h0 h1 h2 h6 h7 h8)
    (x : S32x512.Idx) (y : S1024x512.Idx) (hy0 : (y 0).val = o + (x 0).val) (hy1 : (y 1).val = (x 1).val) :
    k0_pay16 cb (View.ld (Val := Elt Ideal) (e' := .f32) cw (Rect.unit ![0, 0] ![1, 512] h0)) (View.ld (Val := Elt Ideal) (e' := .f32) G (Rect.unit ![o + 6, 0] ![32, 512] h6))
      (View.ld (Val := Elt Ideal) (e' := .f32) cw (Rect.unit ![1, 0] ![1, 512] h1)) (View.ld (Val := Elt Ideal) (e' := .f32) G (Rect.unit ![o + 7, 0] ![32, 512] h7))
      (View.ld (Val := Elt Ideal) (e' := .f32) cw (Rect.unit ![2, 0] ![1, 512] h2)) (View.ld (Val := Elt Ideal) (e' := .f32) G (Rect.unit ![o + 8, 0] ![32, 512] h8)) x
      = act cw cb G y := by
  pointwise [k0_pay16, act]
  have e0 : y 0 = ⟨o + (x 0).val, by have := (y 0).isLt; omega⟩ := Fin.ext hy0
  have e1 : y 1 = x 1 := Fin.ext hy1
  have k6 : o + (x 0).val + 6 = o + 6 + (x 0).val := by omega
  have k7 : o + (x 0).val + 7 = o + 7 + (x 0).val := by omega
  have k8 : o + (x 0).val + 8 = o + 8 + (x 0).val := by omega
  simp only [e0, e1, k6, k7, k8]
  rfl

/-- The window of 32 rows from row `o + j` lies in the gate buffer. -/
theorem window_in (o j : ℕ) (h : o + 32 ≤ 1024) (hj : j ≤ 8) : ∀ a : Fin S1032x512.rank, ![o + j, 0] a + ![32, 512] a ≤ S1032x512.size a
  | ⟨0, _⟩ => (show o + j + 32 ≤ 1032 by omega)
  | ⟨1, _⟩ => (show 0 + 512 ≤ 512 by omega)

/-- The chunk of 32 rows from row `o`. -/
abbrev chunk (cw : FVec Ideal S3x512 .f32) (cb : FVec Ideal S1x512 .f32) (G : FVec Ideal S1032x512 .f32) (o : ℕ) (h : o + 32 ≤ 1024) : FVec Ideal S32x512 .f32 :=
  k0_pay16 cb (View.ld (Val := Elt Ideal) (e' := .f32) cw (Rect.unit ![0, 0] ![1, 512] inb_S3x512_S1x512_0_0))
    (View.ld (Val := Elt Ideal) (e' := .f32) G (Rect.unit ![o + 6, 0] ![32, 512] (window_in o 6 h (by decide))))
    (View.ld (Val := Elt Ideal) (e' := .f32) cw (Rect.unit ![1, 0] ![1, 512] inb_S3x512_S1x512_1_0))
    (View.ld (Val := Elt Ideal) (e' := .f32) G (Rect.unit ![o + 7, 0] ![32, 512] (window_in o 7 h (by decide))))
    (View.ld (Val := Elt Ideal) (e' := .f32) cw (Rect.unit ![2, 0] ![1, 512] inb_S3x512_S1x512_2_0))
    (View.ld (Val := Elt Ideal) (e' := .f32) G (Rect.unit ![o + 8, 0] ![32, 512] (window_in o 8 h (by decide))))

/-- A chunk is the activation at its rows. -/
theorem chunk_eq (cw : FVec Ideal S3x512 .f32) (cb : FVec Ideal S1x512 .f32) (G : FVec Ideal S1032x512 .f32) {o : ℕ}
    {x : S32x512.Idx} {y : S1024x512.Idx} (hy0 : (y 0).val = o + (x 0).val) (hy1 : (y 1).val = (x 1).val) (h : o + 32 ≤ 1024) :
    chunk cw cb G o h x = act cw cb G y :=
  chunk_at cw cb G o _ _ _ _ _ _ x y hy0 hy1

/-- The whole rectangle of the activation's rows holds each index in its place. -/
theorem whole_idx (h) (x : S1024x512.Idx) : (Rect.unit (s := S1024x512) ![0, 0] ![1024, 512] h).toLoadRect.idx x = x :=
  funext fun a => Fin.ext (match a with
    | ⟨0, _⟩ => (show 0 + 1 * (x 0).val = (x 0).val by omega)
    | ⟨1, _⟩ => (show 0 + 1 * (x 1).val = (x 1).val by omega))

end Cert.Gate

end
-- ==== Proof.GateCases.lean ====
/- The feed-forward up projection: what a grid point stores and what it leaves for the next. -/
module

public import proofs.«01_k».proof.Proof.GateChunk

@[expose] public section

set_option maxRecDepth 16384
set_option maxHeartbeats 1000000

noncomputable section

namespace Cert.Gate

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The gate buffer at a grid point, below `top`. -/
abbrev gates (t : Fin cfg0.N) (top : FVec Ideal S1032x512 .f32) : FVec Ideal S1032x512 .f32 :=
  rows (k0_pay3 (iblk m c 0 t) (iblk m c 1 t)) top

/-- The block a grid point stores, of its gate buffer. -/
abbrev stored (t : Fin cfg0.N) (top : FVec Ideal S1032x512 .f32) : FVec Ideal S1024x512 .bf16 :=
  k0_pay1 (iblk m c 0 t) (iblk m c 2 t) (act (iblk m c 3 t) (iblk m c 4 t) (gates m c t top))

/-- A sequence's first block. -/
theorem case_first (t : Fin cfg0.N) (h0 : t.val % 2 = 0) (y : S1024x512.Idx) :
    (outsAt0 m c t.val t.isLt).1 y = stored m c t (fun _ => 0) y := by
  rw [outsAt0_A m c t h0]
  dsimp only
  unfold out0_A_5
  frame_out
  simp only [load_both]
  refine congrFun (congrArg (k0_pay1 (iblk m c 0 t) (iblk m c 2 t)) ?_) y
  rw [View.readCov_eq_canon']
  funext x
  refine (congrArg _ (whole_idx inb_S1024x512_S1024x512_0_0 x)).trans ?_
  canon_tiles x h
  all_goals first
    | exact (chunk_eq (iblk m c 3 t) (iblk m c 4 t) (gates m c t fun _ => 0) h0 h1 (by decide))
    | exact (chunk_eq (iblk m c 3 t) (iblk m c 4 t) (gates m c t fun _ => 0) (h0.trans (Nat.zero_add _).symm) h1 (by decide))

/-- What a sequence's first block leaves above the second: its own last eight rows. -/
theorem carried (t : Fin cfg0.N) (h0 : t.val % 2 = 0) (x : S1032x512.Idx) (hx : (x 0).val < 8) :
    (outsAt0 m c t.val t.isLt).2 x = gates m c t (fun _ => 0) (ix2 ⟨1024 + (x 0).val, by omega⟩ (x 1)) := by
  rw [outsAt0_A m c t h0]
  dsimp only
  unfold sout0_A_0
  frame_out
  simp only [load_both]
  refine (congrArg _ (show x = (Rect.unit (s := S1032x512) ![0, 0] ![8, 512] inb_S1032x512_S8x512_0_0).emb (ix2 ⟨(x 0).val, hx⟩ (x 1)) from
    funext fun a => Fin.ext (match a with
      | ⟨0, _⟩ => (show (x 0).val = 0 + 1 * (x 0).val by omega)
      | ⟨1, _⟩ => (show (x 1).val = 0 + 1 * (x 1).val by omega)))).trans ?_
  rw [View.canon_cons_emb]
  pointwise [k0_pay83]

end Cert.Gate

end
-- ==== Proof.GateSecond.lean ====
/- The feed-forward up projection: a sequence's second block. -/
module

public import proofs.«01_k».proof.Proof.GateCases

@[expose] public section

set_option maxRecDepth 16384
set_option maxHeartbeats 200000

noncomputable section

namespace Cert.Gate

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- A read of the scratch buffer over what the point before left. -/
theorem load_left (P : FVec Ideal S1024x512 .f32) (old : FVec Ideal S1032x512 .f32) (h1) :
    View.read (Elt Ideal) (View.whole cc0_scratch0) ((View.whole cc0_scratch0).writes (Elt Ideal)
      ((Memref.isWhole_whole cc0_scratch0).unread (Val := Elt Ideal) old) [⟨Rect.unit ![8, 0] ![1024, 512] h1, P⟩]) = rows P old :=
  load_over (Memref.whole cc0_scratch0) (Memref.isWhole_whole cc0_scratch0) P old h1

/-- A sequence's second block, below what the first left. -/
theorem case_second (t : Fin cfg0.N) (h0 : ¬ t.val % 2 = 0) (y : S1024x512.Idx) :
    (outsAt0 m c t.val t.isLt).1 y = stored m c t (outsAt0 m c (t.val - 1) (Nat.lt_of_le_of_lt (Nat.sub_le _ _) t.isLt)).2 y := by
  rw [outsAt0_B m c t h0]
  dsimp only
  generalize (outsAt0 m c (t.val - 1) _).2 = old
  unfold out0_B_5
  frame_out
  simp (discharger := exact own_row _ _ _ (by decide)) only [load_left, load_own _ _ old]
  refine congrFun (congrArg (k0_pay1 (iblk m c 0 t) (iblk m c 2 t)) ?_) y
  rw [View.readCov_eq_canon']
  funext x
  refine (congrArg _ (whole_idx inb_S1024x512_S1024x512_0_0 x)).trans ?_
  canon_tiles x h
  case piece31 =>
    have e := load_left (k0_pay3 (iblk m c 0 t) (iblk m c 1 t)) old inb_S1032x512_S1024x512_8_0
    erw [e]
    exact (chunk_eq (iblk m c 3 t) (iblk m c 4 t) (gates m c t old) (h0.trans (Nat.zero_add _).symm) h1 (by decide))
  all_goals exact (chunk_eq (iblk m c 3 t) (iblk m c 4 t) (gates m c t old) h0 h1 (by decide))

end Cert.Gate

end
-- ==== Proof.GateSpec.lean ====
/- The feed-forward up projection: the reference's result at an entry. -/
module

public import proofs.«01_k».proof.Proof.Gen.Reference2Ideal.Run
public import Idealize.ShloMosaic.Lib.Pipeline.ValueKit

@[expose] public section

set_option maxRecDepth 16384

noncomputable section

namespace Cert.Gate

open Idealize.ShloMosaic Idealize.ShloMosaic.TcCoe Idealize.SL.Sem
open Cert.Reference2Ideal Cert.Reference2Ideal.Gen

variable (X : FVec Ideal S32768x2048 .bf16) (W : FVec Ideal S4x2048x11264 .f32) (cw : FVec Ideal S4x3x5632 .f32) (cb : FVec Ideal S4x5632 .f32)

/-- The reference's product of the layer's input with both halves of the up projection. -/
def both : FVec Ideal S16x2048x11264 .f32 :=
  Host.dotGeneral dot_S16x2048x2048_S2048x11264_S16x2048x11264_2_0_01_1_n_n none (shapeCast _ (extf .f32 X bitsLt_bf16_f32) shapeCasts_S32768x2048_S16x2048x2048) (shapeCast _ (extractStridedSlice S1x2048x11264 ![0, 0, 0] W slices_S4x2048x11264_S1x2048x11264_0_0_0) shapeCasts_S1x2048x11264_S2048x11264)

/-- The reference's gate half with two zero rows before each sequence. -/
def padded (Y : FVec Ideal S16x2048x11264 .f32) : FVec Ideal S16x2050x5632 .f32 :=
  pad S16x2050x5632 ![0, 2, 0] ![0, 0, 0] ![0, 0, 0] (extractStridedSlice S16x2048x5632 ![0, 0, 0] Y slices_S16x2048x11264_S16x2048x5632_0_0_0) (sitofp .f32 (constantI S_ 32 0#32)) pads_S16x2048x5632_S16x2050x5632_000_200_000 h_S_

/-- The reference's convolution of three taps. -/
def conv (P : FVec Ideal S16x2050x5632 .f32) : FVec Ideal S16x2048x5632 .f32 :=
  addf (addf (addf (mulf (extractStridedSlice S16x2048x5632 ![0, 0, 0] P slices_S16x2050x5632_S16x2048x5632_0_0_0) (broadcastInDim S16x2048x5632 ![0, 1, 2] bcast_S1x1x5632_S16x2048x5632_0_1_2 (broadcastInDim S1x1x5632 ![2] bcast_S5632_S1x1x5632_2 (shapeCast _ (extractStridedSlice S1x5632 ![0, 0] (shapeCast _ (extractStridedSlice S1x3x5632 ![0, 0, 0] cw slices_S4x3x5632_S1x3x5632_0_0_0) shapeCasts_S1x3x5632_S3x5632) slices_S3x5632_S1x5632_0_0) shapeCasts_S1x5632_S5632)))) (mulf (extractStridedSlice S16x2048x5632 ![0, 1, 0] P slices_S16x2050x5632_S16x2048x5632_0_1_0) (broadcastInDim S16x2048x5632 ![0, 1, 2] bcast_S1x1x5632_S16x2048x5632_0_1_2 (broadcastInDim S1x1x5632 ![2] bcast_S5632_S1x1x5632_2 (shapeCast _ (extractStridedSlice S1x5632 ![1, 0] (shapeCast _ (extractStridedSlice S1x3x5632 ![0, 0, 0] cw slices_S4x3x5632_S1x3x5632_0_0_0) shapeCasts_S1x3x5632_S3x5632) slices_S3x5632_S1x5632_1_0) shapeCasts_S1x5632_S5632))))) (mulf (extractStridedSlice S16x2048x5632 ![0, 2, 0] P slices_S16x2050x5632_S16x2048x5632_0_2_0) (broadcastInDim S16x2048x5632 ![0, 1, 2] bcast_S1x1x5632_S16x2048x5632_0_1_2 (broadcastInDim S1x1x5632 ![2] bcast_S5632_S1x1x5632_2 (shapeCast _ (extractStridedSlice S1x5632 ![2, 0] (shapeCast _ (extractStridedSlice S1x3x5632 ![0, 0, 0] cw slices_S4x3x5632_S1x3x5632_0_0_0) shapeCasts_S1x3x5632_S3x5632) slices_S3x5632_S1x5632_2_0) shapeCasts_S1x5632_S5632))))) (broadcastInDim S16x2048x5632 ![0, 1, 2] bcast_S1x1x5632_S16x2048x5632_0_1_2 (broadcastInDim S1x1x5632 ![2] bcast_S5632_S1x1x5632_2 (shapeCast _ (extractStridedSlice S1x5632 ![0, 0] cb slices_S4x5632_S1x5632_0_0) shapeCasts_S1x5632_S5632)))

/-- The reference's activated gate times the other half. -/
def gated (C : FVec Ideal S16x2048x5632 .f32) (Y : FVec Ideal S16x2048x11264 .f32) : FVec Ideal S32768x5632 .bf16 :=
  truncf .bf16 (shapeCast _ (mulf (mulf (mulf (broadcastInDim S16x2048x5632 ![] bcast_S_S16x2048x5632 (constant S_ .f32 0x3F000000#32)) C) (Host.erfc (mulf (Host.negf C) (broadcastInDim S16x2048x5632 ![] bcast_S_S16x2048x5632 (constant S_ .f32 0x3F3504F3#32))))) (extractStridedSlice S16x2048x5632 ![0, 0, 5632] Y slices_S16x2048x11264_S16x2048x5632_0_0_5632)) shapeCasts_S16x2048x5632_S32768x5632) bitsLt_bf16_f32

/-- The reference's result. -/
def result : FVec Ideal S32768x5632 .bf16 := gated (conv cw cb (padded (both X W))) (both X W)

/-- The reference's run leaves this result. -/
theorem run_result (m : (ℓ : Loc nD τ sig) → Buf (Elt Ideal) ℓ) (c : Dev nD) :
    Cert.Reference2Ideal.Value.res_main_v44 m c = result (m ((c.tc : Thread nD τ).loc main_arg0)) (m ((c.tc : Thread nD τ).loc main_arg1))
      (m ((c.tc : Thread nD τ).loc main_arg2)) (m ((c.tc : Thread nD τ).loc main_arg3)) := rfl

/-- A row of the input against a column of the up projection. -/
def prod (R : Fin 32768) (Q : Fin 11264) : EReal := ∑ k : Fin 2048, X (ix2 R k) * W (ix3 0 k Q)

/-- The gate `d` rows before a row, zero before the row's sequence. -/
def tap (d : ℕ) (R : Fin 32768) (Q : Fin 5632) : EReal :=
  if d ≤ R.val % 2048 then prod X W ⟨R.val - d, by omega⟩ ⟨Q.val, by omega⟩ else 0

/-- The convolution of the gate at a row. -/
def conved (R : Fin 32768) (Q : Fin 5632) : EReal :=
  cb (ix2 0 Q) + cw (ix3 0 0 Q) * tap X W 2 R Q + cw (ix3 0 1 Q) * tap X W 1 R Q + cw (ix3 0 2 Q) * tap X W 0 R Q

/-- The activated gate. -/
def activated (v : EReal) : EReal :=
  Ideal.ofBits .f32 0x3F000000#32 * v * (1 + Ideal.erf (v * Ideal.ofBits .f32 0x3F3504F3#32))

/-- An entry of the result. -/
def entry (R : Fin 32768) (Q : Fin 5632) : EReal :=
  activated (conved X W cw cb R Q) * prod X W R ⟨5632 + Q.val, by omega⟩

/-- The reference's product at an entry. -/
theorem both_at (b : Fin 16) (s : Fin 2048) (Q : Fin 11264) : both X W (ix3 b s Q) = prod X W ⟨b.val * 2048 + s.val, by omega⟩ Q := by
  pointwise [both, prod]

/-- The padded gate holds the taps. -/
theorem padded_at (R : Fin 32768) (j : ℕ) (hj : j ≤ 2) (b : Fin 16) (s : Fin 2050) (Q : Fin 5632) (hb : b.val = R.val / 2048) (hs : s.val = R.val % 2048 + j) :
    padded (both X W) (ix3 b s Q) = tap X W (2 - j) R Q := by
  pointwise [padded]
  unfold tap
  by_cases h : 2 - j ≤ R.val % 2048
  · rw [dif_pos (by omega), if_pos h, both_at]
    exact congrArg (prod X W · _) (Fin.ext (show b.val * 2048 + (s.val - 2) = R.val - (2 - j) by omega))
  · rw [dif_neg (by omega), if_neg h]
    simp [FloatOps.sitofp]

/-- The reference's convolution at an entry. -/
theorem conv_at (R : Fin 32768) (Q : Fin 5632) :
    conv cw cb (padded (both X W)) (ix3 ⟨R.val / 2048, by omega⟩ ⟨R.val % 2048, by omega⟩ Q) = conved X W cw cb R Q := by
  pointwise [conv]
  have p0 (h) : padded (both X W) (ix3 ⟨R.val / 2048, by omega⟩ ⟨R.val % 2048, h⟩ Q) = tap X W 2 R Q := padded_at X W R 0 (by omega) _ _ Q rfl rfl
  have p1 (h) : padded (both X W) (ix3 ⟨R.val / 2048, by omega⟩ ⟨1 + R.val % 2048, h⟩ Q) = tap X W 1 R Q := padded_at X W R 1 (by omega) _ _ Q rfl (Nat.add_comm _ _)
  have p2 (h) : padded (both X W) (ix3 ⟨R.val / 2048, by omega⟩ ⟨2 + R.val % 2048, h⟩ Q) = tap X W 0 R Q := padded_at X W R 2 (by omega) _ _ Q rfl (Nat.add_comm _ _)
  rw [p0, p1, p2]
  unfold conved
  generalize tap X W 0 R Q = t0
  generalize tap X W 1 R Q = t1
  generalize tap X W 2 R Q = t2
  rw [add_comm _ (cb _), ← add_assoc, ← add_assoc, mul_comm t0, mul_comm t1, mul_comm t2]

/-- The reference's result at an entry. -/
theorem result_at (R : Fin 32768) (Q : Fin 5632) : result X W cw cb (ix2 R Q) = entry X W cw cb R Q := by
  unfold result
  pointwise [gated]
  have e := conv_at X W cw cb R Q
  rw [both_at, e, EReal.neg_mul, Ideal.erfc_neg]
  unfold entry activated
  refine congrArg _ (congrArg (prod X W · _) (Fin.ext ?_))
  show R.val / 2048 * 2048 + R.val % 2048 = R.val
  omega

end Cert.Gate

end
-- ==== Proof.GateValue.lean ====
/- The feed-forward up projection: the kernel's result array. -/
module

public import proofs.«01_k».proof.Proof.GateSecond
public import proofs.«01_k».proof.Proof.GateSpec

@[expose] public section

set_option maxRecDepth 16384
set_option maxHeartbeats 200000

noncomputable section

namespace Cert.Gate

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The input, the up projection, the taps and the biases. -/
abbrev inX : FVec Ideal Cert.Reference2Ideal.S32768x2048 .bf16 := m ((c : Thread nD τ).loc main_arg0)
@[inherit_doc inX] abbrev inW : FVec Ideal Cert.Reference2Ideal.S4x2048x11264 .f32 := m ((c : Thread nD τ).loc main_arg1)
@[inherit_doc inX] abbrev inC : FVec Ideal Cert.Reference2Ideal.S4x3x5632 .f32 := m ((c : Thread nD τ).loc main_arg2)
@[inherit_doc inX] abbrev inB : FVec Ideal Cert.Reference2Ideal.S4x5632 .f32 := m ((c : Thread nD τ).loc main_arg3)

/-- The blocks each grid point reads and writes. -/
theorem idx : ∀ t : Fin cfg0.N, win0_0.index t = ![t.val % 32, 0] ∧ win0_1.index t = ![0, 0, t.val / 32]
    ∧ win0_2.index t = ![0, 0, 11 + t.val / 32] ∧ win0_3.index t = ![0, t.val / 32] ∧ win0_4.index t = ![0, t.val / 32]
    ∧ win0_5.index t = ![t.val % 32, t.val / 32] ∧ t.val < 352 :=
  (by decide +kernel : ∀ t : Fin grid0.N, _)

/-- There are 352 grid points. -/
theorem count (t : Fin cfg0.N) : t.val < 352 := (idx t).2.2.2.2.2.2

/-- The row of the result a row of a point's block is. -/
def row (t : Fin cfg0.N) (r : Fin 1024) : Fin 32768 := ⟨t.val % 32 * 1024 + r.val, by omega⟩

/-- The column of the result a column of a point's block is. -/
def col (t : Fin cfg0.N) (q : Fin 512) : Fin 5632 := ⟨t.val / 32 * 512 + q.val, by have := count t; omega⟩

/-- The kernel's copy of the up projection. -/
theorem weight_entry : (V m c main_v0 : FVec Ideal S4x2048x11264 .bf16) = m ((c : Thread nD τ).loc main_arg1) := by
  entry_read
  rfl

/-- The kernel's taps. -/
theorem taps_entry (j : Fin 3) (Q : Fin 5632) : (V m c main_v2 : FVec Ideal S3x5632 .f32) (ix2 j Q) = inC m c (ix3 0 j Q) := by
  entry_read
  pointwise

/-- The kernel's biases. -/
theorem bias_entry (Q : Fin 5632) : (V m c main_v5 : FVec Ideal S1x5632 .f32) (ix2 0 Q) = inB m c (ix2 0 Q) := by
  entry_read
  pointwise

/-- The input's block at an entry. -/
theorem x_at (t : Fin cfg0.N) (r : Fin 1024) (k : Fin 2048) : (iblk m c 0 t : FVec Ideal S1024x2048 .bf16) (ix2 r k) = inX m c (ix2 (row t r) k) := by
  blk_point [iblk, V, idx t, row]

/-- The gate weights' block at an entry. -/
theorem g_at (t : Fin cfg0.N) (k : Fin 2048) (q : Fin 512) : (iblk m c 1 t : FVec Ideal S1x2048x512 .bf16) (ix3 0 k q) = inW m c (ix3 0 k ⟨(col t q).val, by omega⟩) := by
  have key (A : FVec Ideal S4x2048x11264 .bf16) : A ((win0_1.blk t).view.emb (ix3 0 k q)) = A (ix3 0 k ⟨(col t q).val, by omega⟩) := by
    blk_ext [idx t, col]
  unfold iblk
  rw [View.read_apply]
  exact (key _).trans (congrFun (weight_entry m c) _)

/-- The other half's weights' block at an entry. -/
theorem v_at (t : Fin cfg0.N) (k : Fin 2048) (q : Fin 512) : (iblk m c 2 t : FVec Ideal S1x2048x512 .bf16) (ix3 0 k q) = inW m c (ix3 0 k ⟨5632 + (col t q).val, by omega⟩) := by
  have key (A : FVec Ideal S4x2048x11264 .bf16) : A ((win0_2.blk t).view.emb (ix3 0 k q)) = A (ix3 0 k ⟨5632 + (col t q).val, by omega⟩) := by
    blk_ext [idx t, col]
  unfold iblk
  rw [View.read_apply]
  exact (key _).trans (congrFun (weight_entry m c) _)

/-- The taps' block at an entry. -/
theorem c_at (t : Fin cfg0.N) (j : Fin 3) (q : Fin 512) : (iblk m c 3 t : FVec Ideal S3x512 .f32) (ix2 j q) = inC m c (ix3 0 j (col t q)) := by
  have key (A : FVec Ideal S3x5632 .f32) : A ((win0_3.blk t).view.emb (ix2 j q)) = A (ix2 j (col t q)) := by
    blk_ext [idx t, col]
  unfold iblk
  rw [View.read_apply]
  exact (key _).trans (taps_entry m c j _)

/-- The biases' block at an entry. -/
theorem b_at (t : Fin cfg0.N) (q : Fin 512) : (iblk m c 4 t : FVec Ideal S1x512 .f32) (ix2 0 q) = inB m c (ix2 0 (col t q)) := by
  have key (A : FVec Ideal S1x5632 .f32) : A ((win0_4.blk t).view.emb (ix2 0 q)) = A (ix2 0 (col t q)) := by
    blk_ext [idx t, col]
  unfold iblk
  rw [View.read_apply]
  exact (key _).trans (bias_entry m c _)

/-- A block's gate product is a block of the whole gate product. -/
theorem gate_block (t : Fin cfg0.N) (r : Fin 1024) (q : Fin 512) :
    k0_pay3 (iblk m c 0 t) (iblk m c 1 t) (ix2 r q) = prod (inX m c) (inW m c) (row t r) ⟨(col t q).val, by omega⟩ := by
  pointwise [k0_pay3]
  unfold prod
  refine Finset.sum_congr rfl fun k _ => ?_
  rw [← x_at, ← g_at]

/-- The buffer's own rows hold the gate product. -/
theorem gates_own (t : Fin cfg0.N) (top : FVec Ideal S1032x512 .f32) (k : Fin 1032) (q : Fin 512) (h : 8 ≤ k.val) :
    gates m c t top (ix2 k q) = prod (inX m c) (inW m c) (row t ⟨k.val - 8, by omega⟩) ⟨(col t q).val, by omega⟩ := by
  rw [← gate_block]
  exact dif_pos h

/-- At a sequence's first block the buffer holds the taps. -/
theorem taps_first (t : Fin cfg0.N) (h0 : t.val % 2 = 0) (r : Fin 1024) (q : Fin 512) (d : ℕ) (hd : d ≤ 2) (k : Fin 1032) (hk : k.val + d = r.val + 8) :
    gates m c t (fun _ => 0) (ix2 k q) = tap (inX m c) (inW m c) d (row t r) (col t q) := by
  have hR : (row t r).val = t.val % 32 * 1024 + r.val := rfl
  unfold tap
  by_cases h : 8 ≤ k.val
  · rw [if_pos (by omega), gates_own m c t _ k q h]
    exact congrArg (prod _ _ · _) (Fin.ext (show t.val % 32 * 1024 + (k.val - 8) = (row t r).val - d by omega))
  · rw [if_neg (by omega)]
    exact dif_neg h

/-- At a sequence's second block the buffer holds the taps. -/
theorem taps_second (t s : Fin cfg0.N) (h0 : t.val % 2 = 1) (hs : s.val + 1 = t.val) (r : Fin 1024) (q : Fin 512) (d : ℕ) (hd : d ≤ 2) (k : Fin 1032) (hk : k.val + d = r.val + 8) :
    gates m c t (outsAt0 m c s.val s.isLt).2 (ix2 k q) = tap (inX m c) (inW m c) d (row t r) (col t q) := by
  have hR : (row t r).val = t.val % 32 * 1024 + r.val := rfl
  unfold tap
  rw [if_pos (by omega)]
  by_cases h : 8 ≤ k.val
  · rw [gates_own m c t _ k q h]
    exact congrArg (prod _ _ · _) (Fin.ext (show t.val % 32 * 1024 + (k.val - 8) = (row t r).val - d by omega))
  · refine (dif_neg h).trans ?_
    rw [carried m c s (by omega) (ix2 k q) (show k.val < 8 by omega)]
    refine (gates_own m c s _ ⟨1024 + k.val, by omega⟩ q (show 8 ≤ 1024 + k.val by omega)).trans ?_
    have e1 : row s ⟨1024 + k.val - 8, by omega⟩ = ⟨(row t r).val - d, by omega⟩ :=
      Fin.ext (show s.val % 32 * 1024 + (1024 + k.val - 8) = (row t r).val - d by omega)
    have e2 : col s q = col t q := Fin.ext (show s.val / 32 * 512 + q.val = t.val / 32 * 512 + q.val by omega)
    exact congrArg₂ (prod (inX m c) (inW m c)) e1 (Fin.ext (show (col s q).val = (col t q).val from congrArg (Fin.val (n := 5632)) e2))

/-- The activation at an entry. -/
theorem act_at (cw : FVec Ideal S3x512 .f32) (cb : FVec Ideal S1x512 .f32) (G : FVec Ideal S1032x512 .f32) (r : Fin 1024) (q : Fin 512) :
    act cw cb G (ix2 r q) = activated (cb (ix2 0 q) + cw (ix2 0 q) * G (ix2 ⟨r.val + 6, by omega⟩ q) + cw (ix2 1 q) * G (ix2 ⟨r.val + 7, by omega⟩ q)
      + cw (ix2 2 q) * G (ix2 ⟨r.val + 8, by omega⟩ q)) := by
  pointwise [act, activated]

/-- What a grid point stores, where its buffer holds the taps. -/
theorem stored_at (t : Fin cfg0.N) (top : FVec Ideal S1032x512 .f32) (r : Fin 1024) (q : Fin 512)
    (h : ∀ d, d ≤ 2 → ∀ k : Fin 1032, k.val + d = r.val + 8 → gates m c t top (ix2 k q) = tap (inX m c) (inW m c) d (row t r) (col t q)) :
    stored m c t top (ix2 r q) = entry (inX m c) (inW m c) (inC m c) (inB m c) (row t r) (col t q) := by
  have e : act (iblk m c 3 t) (iblk m c 4 t) (gates m c t top) (ix2 r q) = activated (conved (inX m c) (inW m c) (inC m c) (inB m c) (row t r) (col t q)) := by
    rw [act_at, h 2 (by decide) _ rfl, h 1 (by decide) _ rfl, h 0 (by decide) _ rfl, c_at, c_at, c_at, b_at]
    rfl
  unfold stored
  generalize act (iblk m c 3 t) (iblk m c 4 t) (gates m c t top) = A at e ⊢
  pointwise [k0_pay1]
  rw [e]
  unfold entry prod
  refine congrArg _ (Finset.sum_congr rfl fun k _ => ?_)
  rw [← x_at, ← v_at]

/-- What a grid point leaves in its block of the result. -/
theorem point (t : Fin cfg0.N) (r : Fin 1024) (q : Fin 512) :
    (outsAt0 m c t.val t.isLt).1 (ix2 r q) = entry (inX m c) (inW m c) (inC m c) (inB m c) (row t r) (col t q) := by
  by_cases h0 : t.val % 2 = 0
  · rw [case_first m c t h0]
    exact stored_at m c t _ r q fun d hd k hk => taps_first m c t h0 r q d hd k hk
  · rw [case_second m c t h0]
    exact stored_at m c t _ r q fun d hd k hk =>
      taps_second m c t ⟨t.val - 1, Nat.lt_of_le_of_lt (Nat.sub_le _ _) t.isLt⟩ (by omega) (show t.val - 1 + 1 = t.val by omega) r q d hd k hk

/-- The result array after the run is the reference's result. -/
theorem final : (dats m 0 c).arrAt 5 cfg0.N = result (inX m c) (inW m c) (inC m c) (inB m c) := by
  refine (dats m 0 c).arrAt_eq_of_covers 5 _ (by decide +kernel) fun t _ y => ?_
  blk_simp
  rw [after0_5]
  have ey : ((cfg0.win 5).blk t).view.emb y = ix2 (row t (y 0)) (col t (y 1)) := by
    blk_ext [idx t, row, col]
  refine ((congrArg _ (eq_ix2 y)).trans (point m c t (y 0) (y 1))).trans ?_
  rw [← result_at]
  exact congrArg _ ey.symm

end Cert.Gate

end
-- ==== Proof.MlstmProj.lean ====
/- The input projection's columns for the recurrence: the kernel's result array. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.MlstmProj

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (c : Dev nD)

/-- The reference's product over the whole weight, its first 2176 columns. -/
abbrev result (X : FVec Ideal Cert.Reference3Ideal.S32768x2048 .bf16) (W : FVec Ideal Cert.Reference3Ideal.S4x2048x6152 .f32) :
    FVec Ideal Cert.Reference3Ideal.S32768x2176 .f32 :=
  extractStridedSlice Cert.Reference3Ideal.S32768x2176 ![0, 0] (shapeCast _ (Host.dotGeneral Cert.Reference3Ideal.dot_S16x2048x2048_S2048x6152_S16x2048x6152_2_0_01_1_n_n none
    (shapeCast _ (extf .f32 X Cert.Reference3Ideal.Gen.bitsLt_bf16_f32) Cert.Reference3Ideal.Gen.shapeCasts_S32768x2048_S16x2048x2048)
    (shapeCast _ (extractStridedSlice Cert.Reference3Ideal.S1x2048x6152 ![0, 0, 0] W Cert.Reference3Ideal.Gen.slices_S4x2048x6152_S1x2048x6152_0_0_0) Cert.Reference3Ideal.Gen.shapeCasts_S1x2048x6152_S2048x6152))
    Cert.Reference3Ideal.Gen.shapeCasts_S16x2048x6152_S32768x6152) Cert.Reference3Ideal.Gen.slices_S32768x6152_S32768x2176_0_0

/-- The blocks each grid point reads and writes. -/
theorem idx : ∀ t : Fin cfg0.N, win0_0.index t = ![t.val, 0] ∧ win0_1.index t = ![0, 0, 0]
    ∧ win0_2.index t = ![t.val, 0] ∧ t.val < 32 :=
  (by decide +kernel : ∀ t : Fin grid0.N, _)

/-- The weight the kernel reads is the argument. -/
theorem weight_entry : (V m c main_v0 : FVec Ideal S4x2048x6152 .bf16) = (m ((c : Thread nD τ).loc main_arg1) : FVec Ideal S4x2048x6152 .f32) := by
  entry_read
  rfl

/-- The block of the weight holds its first 2176 columns. -/
theorem weight_block (t : Fin cfg0.N) (k : Fin 2048) (j : Fin 2176) :
    (X0_1 m c t : FVec Ideal S1x2048x2176 .bf16) (ix3 0 k j)
      = (m ((c : Thread nD τ).loc main_arg1) : FVec Ideal S4x2048x6152 .f32) (ix3 0 k ⟨j.val, by omega⟩) := by
  refine Eq.trans ?_ (congrFun (weight_entry m c) _)
  unfold X0_1 Pipeline.Window.fill
  rw [dif_pos (moved0_1 t _)]
  unfold iblk
  rw [View.read_apply]
  blk_ext [idx t]

/-- What a grid point stores is the product, at the entries of its block. -/
theorem point (t : Fin cfg0.N) (y) : k0_pay1 (iblk m c 0 t) (X0_1 m c t) y
    = result (m ((c : Thread nD τ).loc main_arg0)) (m ((c : Thread nD τ).loc main_arg1)) (((cfg0.win 2).blk t).view.emb y) := by
  pointwise [k0_pay1, result]
  blk_simp [idx t]
  refine Finset.sum_congr rfl fun k _ => ?_
  refine congrArg₂ (· * ·) ?_ ((weight_block m c t k _).trans ?_)
  · blk_ext [iblk, V, idx t]
  · blk_ext [idx t]

/-- The result array after the run is the product. -/
theorem final : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.MlstmProj

end
-- ==== Proof.ConvProj.lean ====
/- The input projection's columns for the convolution: the kernel's result array. -/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.ConvProj

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ) (c : Dev nD)

/-- The reference's product over the whole weight, its columns 2056 to 3079. -/
abbrev result (X : FVec Ideal Cert.Reference4Ideal.S32768x2048 .bf16) (W : FVec Ideal Cert.Reference4Ideal.S4x2048x6152 .f32) :
    FVec Ideal Cert.Reference4Ideal.S32768x1024 .f32 :=
  extractStridedSlice Cert.Reference4Ideal.S32768x1024 ![0, 2056] (shapeCast _ (Host.dotGeneral Cert.Reference4Ideal.dot_S16x2048x2048_S2048x6152_S16x2048x6152_2_0_01_1_n_n none
    (shapeCast _ (extf .f32 X Cert.Reference4Ideal.Gen.bitsLt_bf16_f32) Cert.Reference4Ideal.Gen.shapeCasts_S32768x2048_S16x2048x2048)
    (shapeCast _ (extractStridedSlice Cert.Reference4Ideal.S1x2048x6152 ![0, 0, 0] W Cert.Reference4Ideal.Gen.slices_S4x2048x6152_S1x2048x6152_0_0_0) Cert.Reference4Ideal.Gen.shapeCasts_S1x2048x6152_S2048x6152))
    Cert.Reference4Ideal.Gen.shapeCasts_S16x2048x6152_S32768x6152) Cert.Reference4Ideal.Gen.slices_S32768x6152_S32768x1024_0_2056

/-- The blocks each grid point reads and writes. -/
theorem idx : ∀ t : Fin cfg0.N, win0_0.index t = ![t.val, 0] ∧ win0_1.index t = ![0, 0, 2]
    ∧ win0_2.index t = ![t.val, 0] ∧ t.val < 32 :=
  (by decide +kernel : ∀ t : Fin grid0.N, _)

/-- What a grid point stores is the product, at the entries of its block. -/
theorem point (t : Fin cfg0.N) (y) : k0_pay1 (iblk m c 0 t) (iblk m c 1 t) y
    = result (m ((c : Thread nD τ).loc main_arg0)) (m ((c : Thread nD τ).loc main_arg1)) (((cfg0.win 2).blk t).view.emb y) := by
  pointwise [k0_pay1, result]
  blk_point [iblk, V, idx t]

/-- The result array after the run is the product. -/
theorem final : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.ConvProj

end
-- ==== Proof.QueryProj.lean ====
/- The cross attention's queries: the kernel's result array. -/
module

public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.QueryProj

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ) (c : Dev nD)

/-- The reference's product. -/
abbrev result (X : FVec Ideal Cert.Reference5Ideal.S32768x2048 .bf16) (W : FVec Ideal Cert.Reference5Ideal.S4x2048x2048 .f32) :
    FVec Ideal Cert.Reference5Ideal.S32768x2048 .bf16 :=
  truncf .bf16 (shapeCast _ (Host.dotGeneral Cert.Reference5Ideal.dot_S16x2048x2048_S2048x2048_S16x2048x2048_2_0_01_1_n_n none
    (shapeCast _ (extf .f32 X Cert.Reference5Ideal.Gen.bitsLt_bf16_f32) Cert.Reference5Ideal.Gen.shapeCasts_S32768x2048_S16x2048x2048)
    (shapeCast _ (extractStridedSlice Cert.Reference5Ideal.S1x2048x2048 ![0, 0, 0] W Cert.Reference5Ideal.Gen.slices_S4x2048x2048_S1x2048x2048_0_0_0) Cert.Reference5Ideal.Gen.shapeCasts_S1x2048x2048_S2048x2048))
    Cert.Reference5Ideal.Gen.shapeCasts_S16x2048x2048_S32768x2048) Cert.Reference5Ideal.Gen.bitsLt_bf16_f32

/-- The blocks each grid point reads and writes. -/
theorem idx : ∀ t : Fin cfg0.N, win0_0.index t = ![t.val / 2, 0] ∧ win0_1.index t = ![0, 0, t.val % 2]
    ∧ win0_2.index t = ![t.val / 2, t.val % 2] ∧ t.val < 64 :=
  (by decide +kernel : ∀ t : Fin grid0.N, _)

/-- What a grid point stores is the product, at the entries of its block. -/
theorem point (t : Fin cfg0.N) (y) : k0_pay1 (iblk m c 0 t) (iblk m c 1 t) y
    = result (m ((c : Thread nD τ).loc main_arg0)) (m ((c : Thread nD τ).loc main_arg1)) (((cfg0.win 2).blk t).view.emb y) := by
  pointwise [k0_pay1, result]
  blk_point [iblk, V, idx t]

/-- The result array after the run is the product. -/
theorem final : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.QueryProj

end
-- ==== Proof.MemoryProj.lean ====
/- The cross attention's keys and values: the kernel's result array. -/
module

public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.MemoryProj

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ) (c : Dev nD)

/-- The reference's product. -/
abbrev result (X : FVec Ideal Cert.Reference6Ideal.S16x256x2048 .f32) (W : FVec Ideal Cert.Reference6Ideal.S4x2048x4096 .f32) :
    FVec Ideal Cert.Reference6Ideal.S4096x4096 .bf16 :=
  truncf .bf16 (shapeCast _ (Host.dotGeneral Cert.Reference6Ideal.dot_S16x256x2048_S2048x4096_S16x256x4096_2_0_01_1_n_n none X
    (shapeCast _ (extractStridedSlice Cert.Reference6Ideal.S1x2048x4096 ![0, 0, 0] W Cert.Reference6Ideal.Gen.slices_S4x2048x4096_S1x2048x4096_0_0_0) Cert.Reference6Ideal.Gen.shapeCasts_S1x2048x4096_S2048x4096))
    Cert.Reference6Ideal.Gen.shapeCasts_S16x256x4096_S4096x4096) Cert.Reference6Ideal.Gen.bitsLt_bf16_f32

/-- The blocks each grid point reads and writes. -/
theorem idx : ∀ t : Fin cfg0.N, win0_0.index t = ![t.val / 4, 0] ∧ win0_1.index t = ![0, 0, t.val % 4]
    ∧ win0_2.index t = ![t.val / 4, t.val % 4] ∧ t.val < 16 :=
  (by decide +kernel : ∀ t : Fin grid0.N, _)

/-- The product of one block, at an entry. -/
theorem product (A : FVec Ideal S1024x2048 .bf16) (B : FVec Ideal S1x2048x1024 .bf16) (y : S1024x1024.Idx) :
    k0_pay1 A B y = ∑ k : Fin 2048, A (ix2 (y 0) k) * B (ix3 0 k (y 1)) := by
  pointwise [k0_pay1]

/-- The reference's product, at an entry. -/
theorem result_at (X : FVec Ideal Cert.Reference6Ideal.S16x256x2048 .f32) (W : FVec Ideal Cert.Reference6Ideal.S4x2048x4096 .f32)
    (r q : Fin 4096) :
    result X W (ix2 r q) = ∑ k : Fin 2048, X (ix3 ⟨r.val / 256, by omega⟩ ⟨r.val % 256, by omega⟩ k) * W (ix3 0 k q) := by
  pointwise [result]

/-- The memory the kernel reads: the argument's rows in one sequence. -/
theorem memory_entry (r : Fin 4096) (k : Fin 2048) :
    (V m c main_v1 : FVec Ideal S4096x2048 .bf16) (ix2 r k)
      = (m ((c : Thread nD τ).loc main_arg0) : FVec Ideal S16x256x2048 .f32) (ix3 ⟨r.val / 256, by omega⟩ ⟨r.val % 256, by omega⟩ k) := by
  entry_read
  pointwise

/-- The weight the kernel reads is the argument. -/
theorem weight_entry : (V m c main_v2 : FVec Ideal S4x2048x4096 .bf16) = (m ((c : Thread nD τ).loc main_arg1) : FVec Ideal S4x2048x4096 .f32) := by
  entry_read
  rfl

theorem memory_block (X : FVec Ideal S4096x2048 .bf16) (t : Fin cfg0.N) (i : Fin 1024) (k : Fin 2048) (h : t.val / 4 * 1024 + i.val < 4096) :
    X ((win0_0.blk t).view.emb (ix2 i k)) = X (ix2 ⟨t.val / 4 * 1024 + i.val, h⟩ k) := by
  blk_ext [idx t]

theorem weight_block (W : FVec Ideal S4x2048x4096 .bf16) (t : Fin cfg0.N) (k : Fin 2048) (j : Fin 1024) (h : t.val % 4 * 1024 + j.val < 4096) :
    W ((win0_1.blk t).view.emb (ix3 0 k j)) = W (ix3 0 k ⟨t.val % 4 * 1024 + j.val, h⟩) := by
  blk_ext [idx t]

/-- What a grid point stores is the product, at the entries of its block. -/
theorem point (t : Fin cfg0.N) (i j : Fin 1024) (h : t.val / 4 * 1024 + i.val < 4096) (h' : t.val % 4 * 1024 + j.val < 4096) :
    k0_pay1 (iblk m c 0 t) (iblk m c 1 t) (ix2 i j)
    = result (m ((c : Thread nD τ).loc main_arg0)) (m ((c : Thread nD τ).loc main_arg1))
        (ix2 ⟨t.val / 4 * 1024 + i.val, h⟩ ⟨t.val % 4 * 1024 + j.val, h'⟩) := by
  refine (product _ _ _).trans (Eq.trans ?_ (result_at _ _ _ _).symm)
  refine Finset.sum_congr rfl fun k _ => ?_
  refine congrArg₂ (· * ·) ?_ ?_
  · refine Eq.trans ?_ (memory_entry m c ⟨t.val / 4 * 1024 + i.val, h⟩ k)
    have key := memory_block (V m c main_v1) t i k h
    unfold iblk
    rw [View.read_apply]
    exact key
  · refine Eq.trans ?_ (congrFun (weight_entry m c) (ix3 0 k ⟨t.val % 4 * 1024 + j.val, h'⟩))
    have key := weight_block (V m c main_v2) t k j h'
    unfold iblk
    rw [View.read_apply]
    exact key

/-- The result array after the run is the product. -/
theorem final : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2]
  frame_out
  have ht := (idx t).2.2.2
  have y0 : (y 0).val < 1024 := (y 0).isLt
  have y1 : (y 1).val < 1024 := (y 1).isLt
  refine Eq.trans ?_ ((point m c t (y 0) (y 1) (by omega) (by omega)).trans ?_)
  · exact congrArg _ (eq_ix2 y)
  · blk_ext [idx t]

end Cert.MemoryProj

end
-- ==== Proof.Normed.lean ====
/- A row of the residual stream, normalised. -/
module

public import Idealize.ShloMosaic.Lib.Pipeline.ValueKit

@[expose] public section

set_option maxRecDepth 16384

noncomputable section

namespace Cert.Normed

open Idealize.ShloMosaic

/-- The mean of a row. -/
def mean (y : Fin 2048 → EReal) : EReal := Ideal.div (∑ j, y j) (Ideal.ofBits .f32 0x45000000#32)

/-- A row less its mean, over its deviation, scaled and shifted. -/
def normed (y g b : Fin 2048 → EReal) (q : Fin 2048) : EReal :=
  (y q - mean y) * Ideal.rsqrt (mean (fun j => (y j - mean y) * (y j - mean y)) + Ideal.ofBits .f32 0x3727C5AC#32) * g q + b q

/-- A row of the residual stream, weighed, with a row of a product added. -/
def added (x p : Fin 2048 → EReal) : Fin 2048 → EReal := fun j => Ideal.ofBits .f32 0x3FD744FD#32 * x j + p j

end Cert.Normed

end
-- ==== Proof.CrossChunk.lean ====
/- The cross attention's output projection: one chunk of the layer norm and one column group of the product. -/
module

public import proofs.«01_k».proof.Proof.Gen.Kernel7Ideal.Skeleton
public import proofs.«01_k».proof.Proof.Normed
public import Idealize.ShloMosaic.Lib.WritesUnit
public import Idealize.ShloMosaic.Lib.Pipeline.ValueKit

@[expose] public section

set_option maxRecDepth 16384

noncomputable section

namespace Cert.CrossOut

open Idealize.ShloMosaic Idealize.ShloMosaic.TcCoe Idealize.SL.Sem
open Cert.Kernel7Ideal Cert.Kernel7Ideal.Gen
open Cert.Normed

/-- The layer norm of a block of the residual stream with a block of the product added. -/
def lined (A R : FVec Ideal S512x2048 .f32) (g b : FVec Ideal S1x2048 .f32) : FVec Ideal S512x2048 .f32 := fun y =>
  normed (added (fun j => R (ix2 (y 0) j)) (fun j => A (ix2 (y 0) j))) (fun j => g (ix2 0 j)) (fun j => b (ix2 0 j)) (y 1)

/-- The mean of a chunk's row. -/
theorem mean_at (Y : FVec Ideal S8x2048 .f32) (r : Fin 8) :
    (divf (shapeCast S8x1 (multiReduction .add [1] S8 Y 0x00000000#32 reduces_S8x2048_S8 (.inl rfl) rfl) shapeCasts_S8_S8x1)
      (broadcast S8x1 (Scalar.ofBits .f32 0x45000000#32)) : FVec Ideal S8x1 .f32) (ix2 r 0) = mean fun j => Y (ix2 r j) := by
  pointwise
  rfl

/-- One chunk of eight rows is the layer norm at those rows. -/
theorem chunk_at (A R : FVec Ideal S512x2048 .f32) (g b : FVec Ideal S1x2048 .f32) (o : ℕ) (h h')
    (x : S8x2048.Idx) (y : S512x2048.Idx) (hy0 : (y 0).val = o + (x 0).val) (hy1 : (y 1).val = (x 1).val) :
    k0_pay7 (View.ld (Val := Elt Ideal) (e' := .f32) A (Rect.unit ![o, 0] ![8, 2048] h))
      (View.ld (Val := Elt Ideal) (e' := .f32) R (Rect.unit ![o, 0] ![8, 2048] h')) g b x = lined A R g b y := by
  have e0 : y 0 = ⟨o + (x 0).val, by have := (y 0).isLt; omega⟩ := Fin.ext hy0
  have e1 : y 1 = x 1 := Fin.ext hy1
  pointwise [k0_pay7, lined]
  unfold normed mean added
  simp only [e0, e1]
  rfl

/-- The chunk of eight rows from row `o` lies in the block. -/
theorem window_in (o : ℕ) (h : o + 8 ≤ 512) : ∀ a : Fin S512x2048.rank, ![o, 0] a + ![8, 2048] a ≤ S512x2048.size a
  | ⟨0, _⟩ => h
  | ⟨1, _⟩ => (show 0 + 2048 ≤ 2048 by omega)

/-- The chunk of eight rows from row `o`. -/
abbrev chunk (A R : FVec Ideal S512x2048 .f32) (g b : FVec Ideal S1x2048 .f32) (o : ℕ) (h : o + 8 ≤ 512) : FVec Ideal S8x2048 .f32 :=
  k0_pay7 (View.ld (Val := Elt Ideal) (e' := .f32) A (Rect.unit ![o, 0] ![8, 2048] (window_in o h)))
    (View.ld (Val := Elt Ideal) (e' := .f32) R (Rect.unit ![o, 0] ![8, 2048] (window_in o h))) g b

/-- A chunk is the layer norm at its rows. -/
theorem chunk_eq (A R : FVec Ideal S512x2048 .f32) (g b : FVec Ideal S1x2048 .f32) {o : ℕ}
    {x : S8x2048.Idx} {y : S512x2048.Idx} (hy0 : (y 0).val = o + (x 0).val) (hy1 : (y 1).val = (x 1).val) (h : o + 8 ≤ 512) :
    chunk A R g b o h x = lined A R g b y :=
  chunk_at A R g b o _ _ x y hy0 hy1

/-- A chunk in half the width. -/
theorem narrow_eq (A R : FVec Ideal S512x2048 .f32) (g b : FVec Ideal S1x2048 .f32) {o : ℕ}
    {x : S8x2048.Idx} {y : S512x2048.Idx} (hy0 : (y 0).val = o + (x 0).val) (hy1 : (y 1).val = (x 1).val) (h : o + 8 ≤ 512) :
    (truncf .bf16 (chunk A R g b o h) bitsLt_bf16_f32 : FVec Ideal S8x2048 .bf16) x = lined A R g b y :=
  chunk_at A R g b o _ _ x y hy0 hy1

/-- The product of a block with the weights. -/
def product (X : FVec Ideal S512x2048 .bf16) (W : FVec Ideal S1x2048x2048 .bf16) : FVec Ideal S512x2048 .f32 := fun y =>
  ∑ k : Fin 2048, X (ix2 (y 0) k) * W (ix3 0 k (y 1))

/-- One column group is the product at those columns. -/
theorem group_at (X : FVec Ideal S512x2048 .bf16) (W : FVec Ideal S1x2048x2048 .bf16) (o : ℕ) (h)
    (x : S512x512.Idx) (y : S512x2048.Idx) (hy0 : (y 0).val = (x 0).val) (hy1 : (y 1).val = o + (x 1).val) :
    k0_pay4 X (View.ld (Val := Elt Ideal) (e' := .bf16) W (Rect.unit ![0, 0, o] ![1, 2048, 512] h)) x = product X W y := by
  have e0 : y 0 = x 0 := Fin.ext hy0
  have e1 : y 1 = ⟨o + (x 1).val, by have := (y 1).isLt; omega⟩ := Fin.ext hy1
  pointwise [k0_pay4, product]
  refine Finset.sum_congr rfl fun k _ => ?_
  rw [e0, e1]
  rfl

end Cert.CrossOut

end
-- ==== Proof.Canon.lean ====
/- Reading a buffer after a store of a group of its columns. -/
module

public import proofs.«01_k».proof.Proof.Normed
public import Idealize.ShloMosaic.Lib.WritesUnit
public import Idealize.ShloMosaic.Lib.Pipeline.ValueKit

@[expose] public section

noncomputable section

namespace Cert.Normed

open Idealize.ShloMosaic Idealize.ShloMosaic.TcCoe

/-- A block of 512 rows and 2048 columns. -/
abbrev Wide : Shape := ⟨2, ![512, 2048]⟩

/-- The newest column group decides its own columns, the older pieces the others. -/
theorem group_first (w : FVec Ideal ⟨2, ![512, 512]⟩ .f32) (o : ℕ) (h) (L : List (View.Piece (Elt Ideal) Wide .f32)) (y : Wide.Idx) (v : EReal)
    (hin : ∀ x : (⟨2, ![512, 512]⟩ : Shape).Idx, (y 0).val = (x 0).val → (y 1).val = o + (x 1).val → w x = v)
    (hout : ¬(o ≤ (y 1).val ∧ (y 1).val < o + 512) → View.canon L y = v) :
    View.canon ((⟨Rect.unit ![0, o] ![512, 512] h, w⟩ : View.Piece (Elt Ideal) Wide .f32) :: L) y = v := by
  by_cases hy : o ≤ (y 1).val ∧ (y 1).val < o + 512
  · have e : y = (Rect.unit (s := Wide) ![0, o] ![512, 512] h).emb (ix2 ⟨(y 0).val, (y 0).isLt⟩ ⟨(y 1).val - o, by omega⟩) := by
      funext a
      refine Fin.ext ?_
      match a with
      | ⟨0, _⟩ => exact (show (y 0).val = 0 + 1 * (y 0).val by omega)
      | ⟨1, _⟩ => exact (show (y 1).val = o + 1 * ((y 1).val - o) by omega)
    refine (congrArg (View.canon _) e).trans ((View.canon_cons_emb _ _ _ _).trans (hin _ rfl ?_))
    show (y 1).val = o + ((y 1).val - o)
    omega
  · refine Eq.trans (View.canon_cons_of_not_mem (⟨Rect.unit (s := Wide) ![0, o] ![512, 512] h, w⟩ : View.Piece (Elt Ideal) Wide .f32) L ?_) (hout hy)
    dsimp only
    rw [Rect.mem_set_unit]
    intro hall
    exact hy (hall 1)

end Cert.Normed

end
-- ==== Proof.CrossCases.lean ====
/- The cross attention's output projection: what a grid point stores and what it leaves for the next. -/
module

public import proofs.«01_k».proof.Proof.CrossChunk
public import proofs.«01_k».proof.Proof.Canon
public import proofs.«01_k».proof.Proof.Gen.Kernel7Ideal.Value

@[expose] public section

set_option maxRecDepth 16384
set_option maxHeartbeats 1000000

noncomputable section

namespace Cert.CrossOut

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ) (c : Dev nD)

/-- The layer norm a grid point stores, of the product `A` the point before left. -/
abbrev stored (t : Fin cfg0.N) (A : FVec Ideal S512x2048 .f32) : FVec Ideal S512x2048 .f32 :=
  lined A (iblk m c 2 t) (iblk m c 3 t) (iblk m c 4 t)

/-- What an odd point stores. -/
theorem odd_stored (t : Fin cfg0.N) (h0 : ¬t.val % 65 = 0) (h1 : ¬t.val % 2 = 0) (h2 : t.val % 2 = 1) (y : S512x2048.Idx) :
    (outsAt0 m c t.val t.isLt).1 y = stored m c t (outsAt0 m c (t.val - 1) (Nat.lt_of_le_of_lt (Nat.sub_le _ _) t.isLt)).2.2.1 y := by
  rw [outsAt0_B m c t h0 h1 h2]
  dsimp only
  unfold out0_B_5
  generalize (outsAt0 m c (t.val - 1) (Nat.lt_of_le_of_lt (Nat.sub_le _ _) t.isLt)).2.2.1 = A
  refine Eq.trans (b := stored m c t (View.read (Elt Ideal) (View.whole cc0_scratch0) ((Memref.isWhole_whole cc0_scratch0).unread (Val := Elt Ideal) A)) y) ?_
    (congrArg (stored m c t · y) ((Memref.isWhole_whole cc0_scratch0).read_unread (Val := Elt Ideal) A))
  frame_out
  canon_tiles y h
  all_goals first
    | exact (chunk_eq _ (iblk m c 2 t) (iblk m c 3 t) (iblk m c 4 t) h0 h1 (by decide))
    | exact (chunk_eq _ (iblk m c 2 t) (iblk m c 3 t) (iblk m c 4 t) (h0.trans (Nat.zero_add _).symm) h1 (by decide))

/-- What an odd point stores in half the width. -/
theorem odd_narrow (t : Fin cfg0.N) (h0 : ¬t.val % 65 = 0) (h1 : ¬t.val % 2 = 0) (h2 : t.val % 2 = 1) (y : S512x2048.Idx) :
    (outsAt0 m c t.val t.isLt).2.1 y = stored m c t (outsAt0 m c (t.val - 1) (Nat.lt_of_le_of_lt (Nat.sub_le _ _) t.isLt)).2.2.1 y := by
  rw [outsAt0_B m c t h0 h1 h2]
  dsimp only
  unfold out0_B_6
  generalize (outsAt0 m c (t.val - 1) (Nat.lt_of_le_of_lt (Nat.sub_le _ _) t.isLt)).2.2.1 = A
  refine Eq.trans (b := stored m c t (View.read (Elt Ideal) (View.whole cc0_scratch0) ((Memref.isWhole_whole cc0_scratch0).unread (Val := Elt Ideal) A)) y) ?_
    (congrArg (stored m c t · y) ((Memref.isWhole_whole cc0_scratch0).read_unread (Val := Elt Ideal) A))
  frame_out
  canon_tiles y h
  all_goals first
    | exact (narrow_eq _ (iblk m c 2 t) (iblk m c 3 t) (iblk m c 4 t) h0 h1 (by decide))
    | exact (narrow_eq _ (iblk m c 2 t) (iblk m c 3 t) (iblk m c 4 t) (h0.trans (Nat.zero_add _).symm) h1 (by decide))

/-- What an even point stores. -/
theorem even_stored (t : Fin cfg0.N) (h0 : ¬t.val % 65 = 0) (h1 : t.val % 2 = 0) (h2 : ¬t.val % 2 = 1) (y : S512x2048.Idx) :
    (outsAt0 m c t.val t.isLt).1 y = stored m c t (outsAt0 m c (t.val - 1) (Nat.lt_of_le_of_lt (Nat.sub_le _ _) t.isLt)).2.2.2 y := by
  rw [outsAt0_C m c t h0 h1 h2]
  dsimp only
  unfold out0_C_5
  generalize (outsAt0 m c (t.val - 1) (Nat.lt_of_le_of_lt (Nat.sub_le _ _) t.isLt)).2.2.2 = A
  refine Eq.trans (b := stored m c t (View.read (Elt Ideal) (View.whole cc0_scratch1) ((Memref.isWhole_whole cc0_scratch1).unread (Val := Elt Ideal) A)) y) ?_
    (congrArg (stored m c t · y) ((Memref.isWhole_whole cc0_scratch1).read_unread (Val := Elt Ideal) A))
  frame_out
  canon_tiles y h
  all_goals first
    | exact (chunk_eq _ (iblk m c 2 t) (iblk m c 3 t) (iblk m c 4 t) h0 h1 (by decide))
    | exact (chunk_eq _ (iblk m c 2 t) (iblk m c 3 t) (iblk m c 4 t) (h0.trans (Nat.zero_add _).symm) h1 (by decide))

/-- What an even point stores in half the width. -/
theorem even_narrow (t : Fin cfg0.N) (h0 : ¬t.val % 65 = 0) (h1 : t.val % 2 = 0) (h2 : ¬t.val % 2 = 1) (y : S512x2048.Idx) :
    (outsAt0 m c t.val t.isLt).2.1 y = stored m c t (outsAt0 m c (t.val - 1) (Nat.lt_of_le_of_lt (Nat.sub_le _ _) t.isLt)).2.2.2 y := by
  rw [outsAt0_C m c t h0 h1 h2]
  dsimp only
  unfold out0_C_6
  generalize (outsAt0 m c (t.val - 1) (Nat.lt_of_le_of_lt (Nat.sub_le _ _) t.isLt)).2.2.2 = A
  refine Eq.trans (b := stored m c t (View.read (Elt Ideal) (View.whole cc0_scratch1) ((Memref.isWhole_whole cc0_scratch1).unread (Val := Elt Ideal) A)) y) ?_
    (congrArg (stored m c t · y) ((Memref.isWhole_whole cc0_scratch1).read_unread (Val := Elt Ideal) A))
  frame_out
  canon_tiles y h
  all_goals first
    | exact (narrow_eq _ (iblk m c 2 t) (iblk m c 3 t) (iblk m c 4 t) h0 h1 (by decide))
    | exact (narrow_eq _ (iblk m c 2 t) (iblk m c 3 t) (iblk m c 4 t) (h0.trans (Nat.zero_add _).symm) h1 (by decide))

/-- What an odd point leaves: its product. -/
theorem odd_left (t : Fin cfg0.N) (h0 : ¬t.val % 65 = 0) (h1 : ¬t.val % 2 = 0) (h2 : t.val % 2 = 1) (y : S512x2048.Idx) :
    (outsAt0 m c t.val t.isLt).2.2.2 y = product (iblk m c 0 t) (iblk m c 1 t) y := by
  rw [outsAt0_B m c t h0 h1 h2]
  dsimp only
  unfold sout0_B_1
  frame_out
  canon_tiles y h
  all_goals first
    | exact (group_at (iblk m c 0 t) (iblk m c 1 t) _ _ _ _ h0 h1)
    | exact (group_at (iblk m c 0 t) (iblk m c 1 t) _ _ _ _ h0 (h1.trans (Nat.zero_add _).symm))

/-- What an even point after the first leaves: its product. -/
theorem even_left (t : Fin cfg0.N) (h0 : ¬t.val % 65 = 0) (h1 : t.val % 2 = 0) (h2 : ¬t.val % 2 = 1) (y : S512x2048.Idx) :
    (outsAt0 m c t.val t.isLt).2.2.1 y = product (iblk m c 0 t) (iblk m c 1 t) y := by
  rw [outsAt0_C m c t h0 h1 h2]
  dsimp only
  unfold sout0_C_0
  frame_out
  canon_tiles y h
  all_goals first
    | exact (group_at (iblk m c 0 t) (iblk m c 1 t) _ _ _ _ h0 h1)
    | exact (group_at (iblk m c 0 t) (iblk m c 1 t) _ _ _ _ h0 (h1.trans (Nat.zero_add _).symm))

/-- What the first point leaves: its product. -/
theorem first_left (t : Fin cfg0.N) (h0 : t.val % 65 = 0) (h1 : t.val % 2 = 0) (h2 : ¬t.val % 2 = 1) (y : S512x2048.Idx) :
    (outsAt0 m c t.val t.isLt).2.2.1 y = product (iblk m c 0 t) (iblk m c 1 t) y := by
  rw [outsAt0_A m c t h0 h1 h2]
  dsimp only
  unfold sout0_A_0
  frame_out
  refine Cert.Normed.group_first _ _ _ _ y _ (fun x hy0 hy1 => group_at (iblk m c 0 t) (iblk m c 1 t) _ _ x y hy0 hy1) fun n3 => ?_
  refine Cert.Normed.group_first _ _ _ _ y _ (fun x hy0 hy1 => group_at (iblk m c 0 t) (iblk m c 1 t) _ _ x y hy0 hy1) fun n2 => ?_
  refine Cert.Normed.group_first _ _ _ _ y _ (fun x hy0 hy1 => group_at (iblk m c 0 t) (iblk m c 1 t) _ _ x y hy0 hy1) fun n1 => ?_
  refine Cert.Normed.group_first _ _ _ _ y _ (fun x hy0 hy1 => group_at (iblk m c 0 t) (iblk m c 1 t) _ _ x y hy0 hy1) fun n0 => ?_
  have := (y 1).isLt
  have : (y 1).val < 2048 := this
  omega

end Cert.CrossOut

end
-- ==== Proof.CrossSpec.lean ====
/- The cross attention's output projection: the reference's results at an entry. -/
module

public import proofs.«01_k».proof.Proof.Gen.Reference7Ideal.Run
public import proofs.«01_k».proof.Proof.Normed
public import Idealize.ShloMosaic.Lib.Pipeline.ValueKit

@[expose] public section

set_option maxRecDepth 16384

noncomputable section

namespace Cert.CrossOut

open Idealize.ShloMosaic Idealize.ShloMosaic.TcCoe Idealize.SL.Sem
open Cert.Reference7Ideal Cert.Reference7Ideal.Gen
open Cert.Normed

variable (X : FVec Ideal S32768x2048 .bf16) (res : FVec Ideal S32768x2048 .f32) (W : FVec Ideal S4x2048x2048 .f32) (g : FVec Ideal S4x2048 .f32) (b : FVec Ideal S4x2048 .f32)

/-- The reference's residual stream with the product added. -/
def summed : FVec Ideal S16x2048x2048 .f32 :=
  addf (mulf (broadcastInDim S16x2048x2048 ![] bcast_S_S16x2048x2048 (constant S_ .f32 0x3FD744FD#32)) (shapeCast _ res shapeCasts_S32768x2048_S16x2048x2048)) (Host.dotGeneral dot_S16x2048x2048_S2048x2048_S16x2048x2048_2_0_01_1_n_n none (shapeCast _ (extf .f32 X bitsLt_bf16_f32) shapeCasts_S32768x2048_S16x2048x2048) (shapeCast _ (extractStridedSlice S1x2048x2048 ![0, 0, 0] W slices_S4x2048x2048_S1x2048x2048_0_0_0) shapeCasts_S1x2048x2048_S2048x2048))

/-- The reference's mean of every row. -/
def means (Y : FVec Ideal S16x2048x2048 .f32) : FVec Ideal S16x2048x1 .f32 :=
  Host.divf (broadcastInDim S16x2048x1 ![0, 1] bcast_S16x2048_S16x2048x1_0_1 (Host.reduceAdd Y (constant S_ .f32 0x00000000#32) reducesTo_S16x2048x2048_S16x2048_d2 h_S_)) (broadcastInDim S16x2048x1 ![] bcast_S_S16x2048x1 (constant S_ .f32 0x45000000#32))

/-- The reference's rows less their means. -/
def centred (Y : FVec Ideal S16x2048x2048 .f32) : FVec Ideal S16x2048x2048 .f32 :=
  subf Y (broadcastInDim S16x2048x2048 ![0, 1, 2] bcast_S16x2048x1_S16x2048x2048_0_1_2 (means Y))

/-- The reference's layer norm. -/
def scaled (Y : FVec Ideal S16x2048x2048 .f32) : FVec Ideal S32768x2048 .f32 :=
  shapeCast _ (addf (mulf (mulf (centred Y) (broadcastInDim S16x2048x2048 ![0, 1, 2] bcast_S16x2048x1_S16x2048x2048_0_1_2 (Host.rsqrt (addf (means (mulf (centred Y) (centred Y))) (broadcastInDim S16x2048x1 ![] bcast_S_S16x2048x1 (constant S_ .f32 0x3727C5AC#32)))))) (broadcastInDim S16x2048x2048 ![0, 1, 2] bcast_S1x1x2048_S16x2048x2048_0_1_2 (broadcastInDim S1x1x2048 ![2] bcast_S2048_S1x1x2048_2 (shapeCast _ (extractStridedSlice S1x2048 ![0, 0] g slices_S4x2048_S1x2048_0_0) shapeCasts_S1x2048_S2048)))) (broadcastInDim S16x2048x2048 ![0, 1, 2] bcast_S1x1x2048_S16x2048x2048_0_1_2 (broadcastInDim S1x1x2048 ![2] bcast_S2048_S1x1x2048_2 (shapeCast _ (extractStridedSlice S1x2048 ![0, 0] b slices_S4x2048_S1x2048_0_0) shapeCasts_S1x2048_S2048)))) shapeCasts_S16x2048x2048_S32768x2048

/-- The reference's result. -/
def result : FVec Ideal S32768x2048 .f32 := scaled g b (summed X res W)

/-- The reference's result in half the width. -/
def narrow : FVec Ideal S32768x2048 .bf16 := truncf .bf16 (result X res W g b) bitsLt_bf16_f32

/-- The reference's run leaves this result. -/
theorem run_result (m : (ℓ : Loc nD τ sig) → Buf (Elt Ideal) ℓ) (c : Dev nD) :
    Cert.Reference7Ideal.Value.res_out0 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The reference's run leaves the same result in half the width. -/
theorem run_narrow (m : (ℓ : Loc nD τ sig) → Buf (Elt Ideal) ℓ) (c : Dev nD) :
    Cert.Reference7Ideal.Value.res_out1 m c = narrow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- A row of the cross attention's result against a column of the output projection. -/
def prod (X : FVec Ideal S32768x2048 .bf16) (W : FVec Ideal S4x2048x2048 .f32) (R : Fin 32768) (Q : Fin 2048) : EReal := ∑ k : Fin 2048, X (ix2 R k) * W (ix3 0 k Q)

/-- A row of the residual stream with its product added. -/
def line (R : Fin 32768) : Fin 2048 → EReal := added (fun j => res (ix2 R j)) (fun j => prod X W R j)

/-- An entry of the result. -/
def entry (R : Fin 32768) (Q : Fin 2048) : EReal := normed (line X res W R) (fun j => g (ix2 0 j)) (fun j => b (ix2 0 j)) Q

/-- The reference's sum at an entry. -/
theorem summed_at (s : Fin 16) (r j : Fin 2048) : summed X res W (ix3 s r j) = line X res W ⟨s.val * 2048 + r.val, by omega⟩ j := by
  pointwise [summed, line, added, prod]

/-- The reference's means. -/
theorem means_at (Y : FVec Ideal S16x2048x2048 .f32) (s : Fin 16) (r : Fin 2048) : means Y (ix3 s r 0) = mean fun j => Y (ix3 s r j) := by
  pointwise [means]
  unfold mean
  simp [Ideal.ofBits]

/-- The reference's rows less their means. -/
theorem centred_at (Y : FVec Ideal S16x2048x2048 .f32) (s : Fin 16) (r j : Fin 2048) :
    centred Y (ix3 s r j) = Y (ix3 s r j) - mean fun j => Y (ix3 s r j) := by
  pointwise [centred]
  rw [means_at]

/-- The reference's layer norm at an entry. -/
theorem scaled_at (Y : FVec Ideal S16x2048x2048 .f32) (R : Fin 32768) (Q : Fin 2048) :
    scaled g b Y (ix2 R Q) = normed (fun j => Y (ix3 ⟨R.val / 2048, by omega⟩ ⟨R.val % 2048, by omega⟩ j)) (fun j => g (ix2 0 j)) (fun j => b (ix2 0 j)) Q := by
  pointwise [scaled]
  rw [means_at, centred_at]
  pointwise
  simp only [centred_at]
  rfl

/-- The reference's result at an entry. -/
theorem result_at (R : Fin 32768) (Q : Fin 2048) : result X res W g b (ix2 R Q) = entry X res W g b R Q := by
  unfold result
  rw [scaled_at]
  unfold entry
  refine congrArg (normed · _ _ Q) (funext fun j => ?_)
  rw [summed_at]
  refine congrArg (line X res W · j) (Fin.ext ?_)
  show R.val / 2048 * 2048 + R.val % 2048 = R.val
  omega

end Cert.CrossOut

end
-- ==== Proof.CrossValue.lean ====
/- The cross attention's output projection: the kernel's result arrays. -/
module

public import proofs.«01_k».proof.Proof.CrossCases
public import proofs.«01_k».proof.Proof.CrossSpec

@[expose] public section

set_option maxRecDepth 16384

noncomputable section

namespace Cert.CrossOut

open Idealize.ShloMosaic Idealize.ShloMosaic.TcCoe Idealize.SL.Sem
open Idealize.ShloMosaic.Pipeline (Dat)
open Cert.Kernel7Ideal Cert.Kernel7Ideal.Gen
open Cert.Normed

variable (m : (ℓ : Loc nD τ sig) → Buf (Elt Ideal) ℓ) (c : Dev nD)

/-- The cross attention's result, the residual stream, the weights, the scales and the shifts. -/
abbrev inX : FVec Ideal Cert.Reference7Ideal.S32768x2048 .bf16 := m ((c : Thread nD τ).loc main_arg0)
@[inherit_doc inX] abbrev inR : FVec Ideal Cert.Reference7Ideal.S32768x2048 .f32 := m ((c : Thread nD τ).loc main_arg1)
@[inherit_doc inX] abbrev inW : FVec Ideal Cert.Reference7Ideal.S4x2048x2048 .f32 := m ((c : Thread nD τ).loc main_arg2)
@[inherit_doc inX] abbrev inG : FVec Ideal Cert.Reference7Ideal.S4x2048 .f32 := m ((c : Thread nD τ).loc main_arg3)
@[inherit_doc inX] abbrev inB : FVec Ideal Cert.Reference7Ideal.S4x2048 .f32 := m ((c : Thread nD τ).loc main_arg4)

/-- The blocks each grid point reads and writes. -/
theorem idx : ∀ t : Fin cfg0.N, win0_0.index t = ![min t.val 63, 0] ∧ win0_1.index t = ![0, 0, 0] ∧ win0_2.index t = ![t.val - 1, 0]
    ∧ win0_3.index t = ![0, 0] ∧ win0_4.index t = ![0, 0] ∧ win0_5.index t = ![t.val - 1, 0] ∧ win0_6.index t = ![t.val - 1, 0] ∧ t.val < 65 :=
  (by decide +kernel : ∀ t : Fin grid0.N, _)

/-- There are 65 grid points. -/
theorem count (t : Fin cfg0.N) : t.val < 65 := (idx t).2.2.2.2.2.2.2

/-- The first point writes nothing back. -/
theorem later : ∀ t : Fin cfg0.N, (cfg0.win 5).flush t = true → 1 ≤ t.val :=
  (by decide +kernel : ∀ t : Fin grid0.N, _)

@[inherit_doc later] theorem later_narrow : ∀ t : Fin cfg0.N, (cfg0.win 6).flush t = true → 1 ≤ t.val :=
  (by decide +kernel : ∀ t : Fin grid0.N, _)

/-- The row of the result a row of a point's block is. -/
def row (t : Fin cfg0.N) (r : Fin 512) : Fin 32768 := ⟨(t.val - 1) * 512 + r.val, by have := count t; omega⟩

/-- The kernel's copy of the weights. -/
theorem weight_entry : (V m c main_v0 : FVec Ideal S4x2048x2048 .bf16) = m ((c : Thread nD τ).loc main_arg2) := by
  entry_read
  rfl

/-- The kernel's scales. -/
theorem scale_entry (Q : Fin 2048) : (V m c main_v5 : FVec Ideal S1x2048 .f32) (ix2 0 Q) = inG m c (ix2 0 Q) := by
  entry_read
  pointwise

/-- The kernel's shifts. -/
theorem shift_entry (Q : Fin 2048) : (V m c main_v6 : FVec Ideal S1x2048 .f32) (ix2 0 Q) = inB m c (ix2 0 Q) := by
  entry_read
  pointwise

/-- The input's block before a point, at an entry. -/
theorem x_at (s t : Fin cfg0.N) (hs : s.val + 1 = t.val) (r : Fin 512) (k : Fin 2048) : (iblk m c 0 s : FVec Ideal S512x2048 .bf16) (ix2 r k) = inX m c (ix2 (row t r) k) := by
  have hc := count t
  blk_point [iblk, V, idx s, row]

/-- The weights' block at an entry. -/
theorem w_at (t : Fin cfg0.N) (k q : Fin 2048) : (iblk m c 1 t : FVec Ideal S1x2048x2048 .bf16) (ix3 0 k q) = inW m c (ix3 0 k q) := by
  have key (A : FVec Ideal S4x2048x2048 .bf16) : A ((win0_1.blk t).view.emb (ix3 0 k q)) = A (ix3 0 k q) := by
    blk_ext [idx t]
  unfold iblk
  rw [View.read_apply]
  exact (key _).trans (congrFun (weight_entry m c) _)

/-- The residual stream's block at an entry. -/
theorem r_at (t : Fin cfg0.N) (r : Fin 512) (j : Fin 2048) : (iblk m c 2 t : FVec Ideal S512x2048 .f32) (ix2 r j) = inR m c (ix2 (row t r) j) := by
  blk_point [iblk, V, idx t, row]

/-- The scales' block at an entry. -/
theorem g_at (t : Fin cfg0.N) (q : Fin 2048) : (iblk m c 3 t : FVec Ideal S1x2048 .f32) (ix2 0 q) = inG m c (ix2 0 q) := by
  have key (A : FVec Ideal S1x2048 .f32) : A ((win0_3.blk t).view.emb (ix2 0 q)) = A (ix2 0 q) := by
    blk_ext [idx t]
  unfold iblk
  rw [View.read_apply]
  exact (key _).trans (scale_entry m c _)

/-- The shifts' block at an entry. -/
theorem b_at (t : Fin cfg0.N) (q : Fin 2048) : (iblk m c 4 t : FVec Ideal S1x2048 .f32) (ix2 0 q) = inB m c (ix2 0 q) := by
  have key (A : FVec Ideal S1x2048 .f32) : A ((win0_4.blk t).view.emb (ix2 0 q)) = A (ix2 0 q) := by
    blk_ext [idx t]
  unfold iblk
  rw [View.read_apply]
  exact (key _).trans (shift_entry m c _)

/-- A point's product is the rows the next point stores. -/
theorem product_block (s t : Fin cfg0.N) (hs : s.val + 1 = t.val) (r : Fin 512) (j : Fin 2048) :
    product (iblk m c 0 s) (iblk m c 1 s) (ix2 r j) = prod (inX m c) (inW m c) (row t r) j := by
  unfold product prod
  refine Finset.sum_congr rfl fun k _ => ?_
  exact congrArg₂ (· * ·) (x_at m c s t hs r k) (w_at m c s k j)

/-- The layer norm a point stores, where the point before left the product. -/
theorem stored_at (t : Fin cfg0.N) (A : FVec Ideal S512x2048 .f32) (r : Fin 512) (q : Fin 2048)
    (h : ∀ j, A (ix2 r j) = prod (inX m c) (inW m c) (row t r) j) :
    stored m c t A (ix2 r q) = entry (inX m c) (inR m c) (inW m c) (inG m c) (inB m c) (row t r) q := by
  have e0 : (fun j => A (ix2 r j)) = fun j => prod (inX m c) (inW m c) (row t r) j := funext h
  have e1 : (fun j => (iblk m c 2 t : FVec Ideal S512x2048 .f32) (ix2 r j)) = fun j => inR m c (ix2 (row t r) j) := funext (r_at m c t r)
  have e2 : (fun j => (iblk m c 3 t : FVec Ideal S1x2048 .f32) (ix2 0 j)) = fun j => inG m c (ix2 0 j) := funext (g_at m c t)
  have e3 : (fun j => (iblk m c 4 t : FVec Ideal S1x2048 .f32) (ix2 0 j)) = fun j => inB m c (ix2 0 j) := funext (b_at m c t)
  show normed (added (fun j => (iblk m c 2 t : FVec Ideal S512x2048 .f32) (ix2 r j)) (fun j => A (ix2 r j)))
    (fun j => (iblk m c 3 t : FVec Ideal S1x2048 .f32) (ix2 0 j)) (fun j => (iblk m c 4 t : FVec Ideal S1x2048 .f32) (ix2 0 j)) q = _
  rw [e0, e1, e2, e3]
  rfl

/-- The point before a point. -/
def prior (t : Fin cfg0.N) : Fin cfg0.N := ⟨t.val - 1, Nat.lt_of_le_of_lt (Nat.sub_le _ _) t.isLt⟩

/-- Before an odd point the first buffer holds the product. -/
theorem held_odd (t : Fin cfg0.N) (h : t.val % 2 = 1) (y : S512x2048.Idx) :
    (outsAt0 m c (prior t).val (prior t).isLt).2.2.1 y = product (iblk m c 0 (prior t)) (iblk m c 1 (prior t)) y := by
  have hc := count t
  have hp : (prior t).val = t.val - 1 := rfl
  by_cases h0 : (prior t).val % 65 = 0
  · exact first_left m c (prior t) h0 (by omega) (by omega) y
  · exact even_left m c (prior t) h0 (by omega) (by omega) y

/-- Before an even point after the first the second buffer holds the product. -/
theorem held_even (t : Fin cfg0.N) (h1 : 1 ≤ t.val) (h : t.val % 2 = 0) (y : S512x2048.Idx) :
    (outsAt0 m c (prior t).val (prior t).isLt).2.2.2 y = product (iblk m c 0 (prior t)) (iblk m c 1 (prior t)) y := by
  have hc := count t
  have hp : (prior t).val = t.val - 1 := rfl
  exact odd_left m c (prior t) (by omega) (by omega) (by omega) y

/-- What a grid point after the first leaves in its block of the result. -/
theorem point (t : Fin cfg0.N) (h1 : 1 ≤ t.val) (r : Fin 512) (q : Fin 2048) :
    (outsAt0 m c t.val t.isLt).1 (ix2 r q) = entry (inX m c) (inR m c) (inW m c) (inG m c) (inB m c) (row t r) q := by
  have hc := count t
  have hs : (prior t).val + 1 = t.val := (show t.val - 1 + 1 = t.val by omega)
  by_cases h : t.val % 2 = 1
  · rw [odd_stored m c t (by omega) (by omega) h]
    exact stored_at m c t _ r q fun j => (held_odd m c t h _).trans (product_block m c _ t hs r j)
  · rw [even_stored m c t (by omega) (by omega) h]
    exact stored_at m c t _ r q fun j => (held_even m c t h1 (by omega) _).trans (product_block m c _ t hs r j)

/-- The same of the result in half the width. -/
theorem point_narrow (t : Fin cfg0.N) (h1 : 1 ≤ t.val) (r : Fin 512) (q : Fin 2048) :
    (outsAt0 m c t.val t.isLt).2.1 (ix2 r q) = entry (inX m c) (inR m c) (inW m c) (inG m c) (inB m c) (row t r) q := by
  have hc := count t
  have hs : (prior t).val + 1 = t.val := (show t.val - 1 + 1 = t.val by omega)
  by_cases h : t.val % 2 = 1
  · rw [odd_narrow m c t (by omega) (by omega) h]
    exact stored_at m c t _ r q fun j => (held_odd m c t h _).trans (product_block m c _ t hs r j)
  · rw [even_narrow m c t (by omega) (by omega) h]
    exact stored_at m c t _ r q fun j => (held_even m c t h1 (by omega) _).trans (product_block m c _ t hs r j)

/-- The result array after the run is the reference's result. -/
theorem final : (dats m 0 c).arrAt 5 cfg0.N = result (inX m c) (inR m c) (inW m c) (inG m c) (inB m c) := by
  refine (dats m 0 c).arrAt_eq_of_covers 5 _ (by decide +kernel) fun t hf y => ?_
  blk_simp
  rw [after0_5]
  have ey : ((cfg0.win 5).blk t).view.emb y = ix2 (row t (y 0)) (y 1) := by
    blk_ext [idx t, row]
  refine ((congrArg _ (eq_ix2 y)).trans (point m c t (later t hf) (y 0) (y 1))).trans ?_
  exact (result_at (inX m c) (inR m c) (inW m c) (inG m c) (inB m c) _ _).symm.trans (congrArg (result (inX m c) (inR m c) (inW m c) (inG m c) (inB m c)) ey.symm)

/-- The second result array after the run is the reference's. -/
theorem final_narrow : (dats m 0 c).arrAt 6 cfg0.N = narrow (inX m c) (inR m c) (inW m c) (inG m c) (inB m c) := by
  refine (dats m 0 c).arrAt_eq_of_covers 6 _ (by decide +kernel) fun t hf y => ?_
  blk_simp
  rw [after0_6]
  have ey : ((cfg0.win 6).blk t).view.emb y = ix2 (row t (y 0)) (y 1) := by
    blk_ext [idx t, row]
  refine ((congrArg _ (eq_ix2 y)).trans (point_narrow m c t (later_narrow t hf) (y 0) (y 1))).trans ?_
  exact (result_at (inX m c) (inR m c) (inW m c) (inG m c) (inB m c) _ _).symm.trans (congrArg (result (inX m c) (inR m c) (inW m c) (inG m c) (inB m c)) ey.symm)

end Cert.CrossOut

end
-- ==== Proof.MixChunk.lean ====
/- The mixer's output projection: one chunk of the layer norm and one column group of the product. -/
module

public import proofs.«01_k».proof.Proof.Gen.Kernel8Ideal.Skeleton
public import proofs.«01_k».proof.Proof.Normed
public import Idealize.ShloMosaic.Lib.WritesUnit
public import Idealize.ShloMosaic.Lib.Pipeline.ValueKit

@[expose] public section

set_option maxRecDepth 16384

noncomputable section

namespace Cert.MixOut

open Idealize.ShloMosaic Idealize.ShloMosaic.TcCoe Idealize.SL.Sem
open Cert.Kernel8Ideal Cert.Kernel8Ideal.Gen
open Cert.Normed

/-- The layer norm of a block of the residual stream with a block of the product added. -/
def lined (A R : FVec Ideal S512x2048 .f32) (g b : FVec Ideal S1x2048 .f32) : FVec Ideal S512x2048 .f32 := fun y =>
  normed (added (fun j => R (ix2 (y 0) j)) (fun j => A (ix2 (y 0) j))) (fun j => g (ix2 0 j)) (fun j => b (ix2 0 j)) (y 1)

/-- The mean of a chunk's row. -/
theorem mean_at (Y : FVec Ideal S8x2048 .f32) (r : Fin 8) :
    (divf (shapeCast S8x1 (multiReduction .add [1] S8 Y 0x00000000#32 reduces_S8x2048_S8 (.inl rfl) rfl) shapeCasts_S8_S8x1)
      (broadcast S8x1 (Scalar.ofBits .f32 0x45000000#32)) : FVec Ideal S8x1 .f32) (ix2 r 0) = mean fun j => Y (ix2 r j) := by
  pointwise
  rfl

/-- One chunk of eight rows is the layer norm at those rows. -/
theorem chunk_at (A R : FVec Ideal S512x2048 .f32) (g b : FVec Ideal S1x2048 .f32) (o : ℕ) (h h')
    (x : S8x2048.Idx) (y : S512x2048.Idx) (hy0 : (y 0).val = o + (x 0).val) (hy1 : (y 1).val = (x 1).val) :
    k0_pay10 (View.ld (Val := Elt Ideal) (e' := .f32) A (Rect.unit ![o, 0] ![8, 2048] h))
      (View.ld (Val := Elt Ideal) (e' := .f32) R (Rect.unit ![o, 0] ![8, 2048] h')) g b x = lined A R g b y := by
  have e0 : y 0 = ⟨o + (x 0).val, by have := (y 0).isLt; omega⟩ := Fin.ext hy0
  have e1 : y 1 = x 1 := Fin.ext hy1
  pointwise [k0_pay10, lined]
  unfold normed mean added
  simp only [e0, e1]
  rfl

/-- The chunk of eight rows from row `o` lies in the block. -/
theorem window_in (o : ℕ) (h : o + 8 ≤ 512) : ∀ a : Fin S512x2048.rank, ![o, 0] a + ![8, 2048] a ≤ S512x2048.size a
  | ⟨0, _⟩ => h
  | ⟨1, _⟩ => (show 0 + 2048 ≤ 2048 by omega)

/-- The chunk of eight rows from row `o`. -/
abbrev chunk (A R : FVec Ideal S512x2048 .f32) (g b : FVec Ideal S1x2048 .f32) (o : ℕ) (h : o + 8 ≤ 512) : FVec Ideal S8x2048 .f32 :=
  k0_pay10 (View.ld (Val := Elt Ideal) (e' := .f32) A (Rect.unit ![o, 0] ![8, 2048] (window_in o h)))
    (View.ld (Val := Elt Ideal) (e' := .f32) R (Rect.unit ![o, 0] ![8, 2048] (window_in o h))) g b

/-- A chunk is the layer norm at its rows. -/
theorem chunk_eq (A R : FVec Ideal S512x2048 .f32) (g b : FVec Ideal S1x2048 .f32) {o : ℕ}
    {x : S8x2048.Idx} {y : S512x2048.Idx} (hy0 : (y 0).val = o + (x 0).val) (hy1 : (y 1).val = (x 1).val) (h : o + 8 ≤ 512) :
    chunk A R g b o h x = lined A R g b y :=
  chunk_at A R g b o _ _ x y hy0 hy1

/-- A chunk in half the width. -/
theorem narrow_eq (A R : FVec Ideal S512x2048 .f32) (g b : FVec Ideal S1x2048 .f32) {o : ℕ}
    {x : S8x2048.Idx} {y : S512x2048.Idx} (hy0 : (y 0).val = o + (x 0).val) (hy1 : (y 1).val = (x 1).val) (h : o + 8 ≤ 512) :
    (truncf .bf16 (chunk A R g b o h) bitsLt_bf16_f32 : FVec Ideal S8x2048 .bf16) x = lined A R g b y :=
  chunk_at A R g b o _ _ x y hy0 hy1

/-- The three branches' blocks side by side are their entries by column. -/
theorem beside_block (A : FVec Ideal S512x512 .bf16) (B : FVec Ideal S512x512 .bf16) (C : FVec Ideal S512x1024 .bf16) (r : Fin 512) (k : Fin 2048) :
    k0_pay9 A B C (ix2 r k) = if h : k.val < 512 then A (ix2 r ⟨k.val, h⟩)
      else if h2 : k.val - 512 < 512 then B (ix2 r ⟨k.val - 512, h2⟩) else C (ix2 r ⟨k.val - 512 - 512, by omega⟩) := by
  pointwise [k0_pay9]

/-- The product of a block with the weights. -/
def product (X : FVec Ideal S512x2048 .bf16) (W : FVec Ideal S1x2048x2048 .bf16) : FVec Ideal S512x2048 .f32 := fun y =>
  ∑ k : Fin 2048, X (ix2 (y 0) k) * W (ix3 0 k (y 1))

/-- One column group is the product at those columns. -/
theorem group_at (X : FVec Ideal S512x2048 .bf16) (W : FVec Ideal S1x2048x2048 .bf16) (o : ℕ) (h)
    (x : S512x512.Idx) (y : S512x2048.Idx) (hy0 : (y 0).val = (x 0).val) (hy1 : (y 1).val = o + (x 1).val) :
    k0_pay5 X (View.ld (Val := Elt Ideal) (e' := .bf16) W (Rect.unit ![0, 0, o] ![1, 2048, 512] h)) x = product X W y := by
  have e0 : y 0 = x 0 := Fin.ext hy0
  have e1 : y 1 = ⟨o + (x 1).val, by have := (y 1).isLt; omega⟩ := Fin.ext hy1
  pointwise [k0_pay5, product]
  refine Finset.sum_congr rfl fun k _ => ?_
  rw [e0, e1]
  rfl

end Cert.MixOut

end
-- ==== Proof.MixCases.lean ====
/- The mixer's output projection: what a grid point stores and what it leaves for the next. -/
module

public import proofs.«01_k».proof.Proof.MixChunk
public import proofs.«01_k».proof.Proof.Canon
public import proofs.«01_k».proof.Proof.Gen.Kernel8Ideal.Value

@[expose] public section

set_option maxRecDepth 16384
set_option maxHeartbeats 1000000

noncomputable section

namespace Cert.MixOut

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ) (c : Dev nD)

/-- A point's three input blocks side by side. -/
abbrev beside_blocks (t : Fin cfg0.N) : FVec Ideal S512x2048 .bf16 := k0_pay9 (iblk m c 0 t) (iblk m c 1 t) (iblk m c 2 t)

/-- The layer norm a grid point stores, of the product `A` the point before left. -/
abbrev stored (t : Fin cfg0.N) (A : FVec Ideal S512x2048 .f32) : FVec Ideal S512x2048 .f32 :=
  lined A (iblk m c 4 t) (iblk m c 5 t) (iblk m c 6 t)

/-- What an odd point stores. -/
theorem odd_stored (t : Fin cfg0.N) (h0 : ¬t.val % 65 = 0) (h1 : ¬t.val % 2 = 0) (h2 : t.val % 2 = 1) (y : S512x2048.Idx) :
    (outsAt0 m c t.val t.isLt).1 y = stored m c t (outsAt0 m c (t.val - 1) (Nat.lt_of_le_of_lt (Nat.sub_le _ _) t.isLt)).2.2.1 y := by
  rw [outsAt0_B m c t h0 h1 h2]
  dsimp only
  unfold out0_B_7
  generalize (outsAt0 m c (t.val - 1) (Nat.lt_of_le_of_lt (Nat.sub_le _ _) t.isLt)).2.2.1 = A
  refine Eq.trans (b := stored m c t (View.read (Elt Ideal) (View.whole cc0_scratch0) ((Memref.isWhole_whole cc0_scratch0).unread (Val := Elt Ideal) A)) y) ?_
    (congrArg (stored m c t · y) ((Memref.isWhole_whole cc0_scratch0).read_unread (Val := Elt Ideal) A))
  frame_out
  canon_tiles y h
  all_goals first
    | exact (chunk_eq _ (iblk m c 4 t) (iblk m c 5 t) (iblk m c 6 t) h0 h1 (by decide))
    | exact (chunk_eq _ (iblk m c 4 t) (iblk m c 5 t) (iblk m c 6 t) (h0.trans (Nat.zero_add _).symm) h1 (by decide))

/-- What an odd point stores in half the width. -/
theorem odd_narrow (t : Fin cfg0.N) (h0 : ¬t.val % 65 = 0) (h1 : ¬t.val % 2 = 0) (h2 : t.val % 2 = 1) (y : S512x2048.Idx) :
    (outsAt0 m c t.val t.isLt).2.1 y = stored m c t (outsAt0 m c (t.val - 1) (Nat.lt_of_le_of_lt (Nat.sub_le _ _) t.isLt)).2.2.1 y := by
  rw [outsAt0_B m c t h0 h1 h2]
  dsimp only
  unfold out0_B_8
  generalize (outsAt0 m c (t.val - 1) (Nat.lt_of_le_of_lt (Nat.sub_le _ _) t.isLt)).2.2.1 = A
  refine Eq.trans (b := stored m c t (View.read (Elt Ideal) (View.whole cc0_scratch0) ((Memref.isWhole_whole cc0_scratch0).unread (Val := Elt Ideal) A)) y) ?_
    (congrArg (stored m c t · y) ((Memref.isWhole_whole cc0_scratch0).read_unread (Val := Elt Ideal) A))
  frame_out
  canon_tiles y h
  all_goals first
    | exact (narrow_eq _ (iblk m c 4 t) (iblk m c 5 t) (iblk m c 6 t) h0 h1 (by decide))
    | exact (narrow_eq _ (iblk m c 4 t) (iblk m c 5 t) (iblk m c 6 t) (h0.trans (Nat.zero_add _).symm) h1 (by decide))

/-- What an even point stores. -/
theorem even_stored (t : Fin cfg0.N) (h0 : ¬t.val % 65 = 0) (h1 : t.val % 2 = 0) (h2 : ¬t.val % 2 = 1) (y : S512x2048.Idx) :
    (outsAt0 m c t.val t.isLt).1 y = stored m c t (outsAt0 m c (t.val - 1) (Nat.lt_of_le_of_lt (Nat.sub_le _ _) t.isLt)).2.2.2 y := by
  rw [outsAt0_C m c t h0 h1 h2]
  dsimp only
  unfold out0_C_7
  generalize (outsAt0 m c (t.val - 1) (Nat.lt_of_le_of_lt (Nat.sub_le _ _) t.isLt)).2.2.2 = A
  refine Eq.trans (b := stored m c t (View.read (Elt Ideal) (View.whole cc0_scratch1) ((Memref.isWhole_whole cc0_scratch1).unread (Val := Elt Ideal) A)) y) ?_
    (congrArg (stored m c t · y) ((Memref.isWhole_whole cc0_scratch1).read_unread (Val := Elt Ideal) A))
  frame_out
  canon_tiles y h
  all_goals first
    | exact (chunk_eq _ (iblk m c 4 t) (iblk m c 5 t) (iblk m c 6 t) h0 h1 (by decide))
    | exact (chunk_eq _ (iblk m c 4 t) (iblk m c 5 t) (iblk m c 6 t) (h0.trans (Nat.zero_add _).symm) h1 (by decide))

/-- What an even point stores in half the width. -/
theorem even_narrow (t : Fin cfg0.N) (h0 : ¬t.val % 65 = 0) (h1 : t.val % 2 = 0) (h2 : ¬t.val % 2 = 1) (y : S512x2048.Idx) :
    (outsAt0 m c t.val t.isLt).2.1 y = stored m c t (outsAt0 m c (t.val - 1) (Nat.lt_of_le_of_lt (Nat.sub_le _ _) t.isLt)).2.2.2 y := by
  rw [outsAt0_C m c t h0 h1 h2]
  dsimp only
  unfold out0_C_8
  generalize (outsAt0 m c (t.val - 1) (Nat.lt_of_le_of_lt (Nat.sub_le _ _) t.isLt)).2.2.2 = A
  refine Eq.trans (b := stored m c t (View.read (Elt Ideal) (View.whole cc0_scratch1) ((Memref.isWhole_whole cc0_scratch1).unread (Val := Elt Ideal) A)) y) ?_
    (congrArg (stored m c t · y) ((Memref.isWhole_whole cc0_scratch1).read_unread (Val := Elt Ideal) A))
  frame_out
  canon_tiles y h
  all_goals first
    | exact (narrow_eq _ (iblk m c 4 t) (iblk m c 5 t) (iblk m c 6 t) h0 h1 (by decide))
    | exact (narrow_eq _ (iblk m c 4 t) (iblk m c 5 t) (iblk m c 6 t) (h0.trans (Nat.zero_add _).symm) h1 (by decide))

/-- What an odd point leaves: its product. -/
theorem odd_left (t : Fin cfg0.N) (h0 : ¬t.val % 65 = 0) (h1 : ¬t.val % 2 = 0) (h2 : t.val % 2 = 1) (y : S512x2048.Idx) :
    (outsAt0 m c t.val t.isLt).2.2.2 y = product (beside_blocks m c t) (iblk m c 3 t) y := by
  rw [outsAt0_B m c t h0 h1 h2]
  dsimp only
  unfold sout0_B_1
  frame_out
  canon_tiles y h
  all_goals first
    | exact (group_at (beside_blocks m c t) (iblk m c 3 t) _ _ _ _ h0 h1)
    | exact (group_at (beside_blocks m c t) (iblk m c 3 t) _ _ _ _ h0 (h1.trans (Nat.zero_add _).symm))

/-- What an even point after the first leaves: its product. -/
theorem even_left (t : Fin cfg0.N) (h0 : ¬t.val % 65 = 0) (h1 : t.val % 2 = 0) (h2 : ¬t.val % 2 = 1) (y : S512x2048.Idx) :
    (outsAt0 m c t.val t.isLt).2.2.1 y = product (beside_blocks m c t) (iblk m c 3 t) y := by
  rw [outsAt0_C m c t h0 h1 h2]
  dsimp only
  unfold sout0_C_0
  frame_out
  canon_tiles y h
  all_goals first
    | exact (group_at (beside_blocks m c t) (iblk m c 3 t) _ _ _ _ h0 h1)
    | exact (group_at (beside_blocks m c t) (iblk m c 3 t) _ _ _ _ h0 (h1.trans (Nat.zero_add _).symm))

/-- What the first point leaves: its product. -/
theorem first_left (t : Fin cfg0.N) (h0 : t.val % 65 = 0) (h1 : t.val % 2 = 0) (h2 : ¬t.val % 2 = 1) (y : S512x2048.Idx) :
    (outsAt0 m c t.val t.isLt).2.2.1 y = product (beside_blocks m c t) (iblk m c 3 t) y := by
  rw [outsAt0_A m c t h0 h1 h2]
  dsimp only
  unfold sout0_A_0
  frame_out
  refine Cert.Normed.group_first _ _ _ _ y _ (fun x hy0 hy1 => group_at (beside_blocks m c t) (iblk m c 3 t) _ _ x y hy0 hy1) fun n3 => ?_
  refine Cert.Normed.group_first _ _ _ _ y _ (fun x hy0 hy1 => group_at (beside_blocks m c t) (iblk m c 3 t) _ _ x y hy0 hy1) fun n2 => ?_
  refine Cert.Normed.group_first _ _ _ _ y _ (fun x hy0 hy1 => group_at (beside_blocks m c t) (iblk m c 3 t) _ _ x y hy0 hy1) fun n1 => ?_
  refine Cert.Normed.group_first _ _ _ _ y _ (fun x hy0 hy1 => group_at (beside_blocks m c t) (iblk m c 3 t) _ _ x y hy0 hy1) fun n0 => ?_
  have := (y 1).isLt
  have : (y 1).val < 2048 := this
  omega

end Cert.MixOut

end
-- ==== Proof.MixSpec.lean ====
/- The mixer's output projection: the reference's results at an entry. -/
module

public import proofs.«01_k».proof.Proof.Gen.Reference8Ideal.Run
public import proofs.«01_k».proof.Proof.Normed
public import Idealize.ShloMosaic.Lib.Pipeline.ValueKit

@[expose] public section

set_option maxRecDepth 16384

noncomputable section

namespace Cert.MixOut

open Idealize.ShloMosaic Idealize.ShloMosaic.TcCoe Idealize.SL.Sem
open Cert.Reference8Ideal Cert.Reference8Ideal.Gen
open Cert.Normed

variable (X1 : FVec Ideal S32768x512 .bf16) (X2 : FVec Ideal S32768x512 .bf16) (X3 : FVec Ideal S32768x1024 .bf16) (res : FVec Ideal S32768x2048 .f32) (W : FVec Ideal S4x2048x2048 .f32) (g : FVec Ideal S4x2048 .f32) (b : FVec Ideal S4x2048 .f32)

/-- The reference's three branches side by side. -/
def beside : FVec Ideal S16x2048x2048 .f32 :=
  concatenate S16x2048x2048 2 [⟨S16x2048x512, ((shapeCast _ (extf .f32 X1 bitsLt_bf16_f32) shapeCasts_S32768x512_S16x2048x512) : (⟨S16x2048x512, .f32⟩ : BufTy).Contents (Elt Ideal))⟩, ⟨S16x2048x512, ((shapeCast _ (extf .f32 X2 bitsLt_bf16_f32) shapeCasts_S32768x512_S16x2048x512) : (⟨S16x2048x512, .f32⟩ : BufTy).Contents (Elt Ideal))⟩, ⟨S16x2048x1024, ((shapeCast _ (extf .f32 X3 bitsLt_bf16_f32) shapeCasts_S32768x1024_S16x2048x1024) : (⟨S16x2048x1024, .f32⟩ : BufTy).Contents (Elt Ideal))⟩] concatenates_S16x2048x512_S16x2048x512_S16x2048x1024_S16x2048x2048_d2

/-- The reference's residual stream with the product added. -/
def summed : FVec Ideal S16x2048x2048 .f32 :=
  addf (mulf (broadcastInDim S16x2048x2048 ![] bcast_S_S16x2048x2048 (constant S_ .f32 0x3FD744FD#32)) (shapeCast _ res shapeCasts_S32768x2048_S16x2048x2048)) (Host.dotGeneral dot_S16x2048x2048_S2048x2048_S16x2048x2048_2_0_01_1_n_n none (beside X1 X2 X3) (shapeCast _ (extractStridedSlice S1x2048x2048 ![0, 0, 0] W slices_S4x2048x2048_S1x2048x2048_0_0_0) shapeCasts_S1x2048x2048_S2048x2048))

/-- The reference's mean of every row. -/
def means (Y : FVec Ideal S16x2048x2048 .f32) : FVec Ideal S16x2048x1 .f32 :=
  Host.divf (broadcastInDim S16x2048x1 ![0, 1] bcast_S16x2048_S16x2048x1_0_1 (Host.reduceAdd Y (constant S_ .f32 0x00000000#32) reducesTo_S16x2048x2048_S16x2048_d2 h_S_)) (broadcastInDim S16x2048x1 ![] bcast_S_S16x2048x1 (constant S_ .f32 0x45000000#32))

/-- The reference's rows less their means. -/
def centred (Y : FVec Ideal S16x2048x2048 .f32) : FVec Ideal S16x2048x2048 .f32 :=
  subf Y (broadcastInDim S16x2048x2048 ![0, 1, 2] bcast_S16x2048x1_S16x2048x2048_0_1_2 (means Y))

/-- The reference's layer norm. -/
def scaled (Y : FVec Ideal S16x2048x2048 .f32) : FVec Ideal S32768x2048 .f32 :=
  shapeCast _ (addf (mulf (mulf (centred Y) (broadcastInDim S16x2048x2048 ![0, 1, 2] bcast_S16x2048x1_S16x2048x2048_0_1_2 (Host.rsqrt (addf (means (mulf (centred Y) (centred Y))) (broadcastInDim S16x2048x1 ![] bcast_S_S16x2048x1 (constant S_ .f32 0x3727C5AC#32)))))) (broadcastInDim S16x2048x2048 ![0, 1, 2] bcast_S1x1x2048_S16x2048x2048_0_1_2 (broadcastInDim S1x1x2048 ![2] bcast_S2048_S1x1x2048_2 (shapeCast _ (extractStridedSlice S1x2048 ![0, 0] g slices_S4x2048_S1x2048_0_0) shapeCasts_S1x2048_S2048)))) (broadcastInDim S16x2048x2048 ![0, 1, 2] bcast_S1x1x2048_S16x2048x2048_0_1_2 (broadcastInDim S1x1x2048 ![2] bcast_S2048_S1x1x2048_2 (shapeCast _ (extractStridedSlice S1x2048 ![0, 0] b slices_S4x2048_S1x2048_0_0) shapeCasts_S1x2048_S2048)))) shapeCasts_S16x2048x2048_S32768x2048

/-- The reference's result. -/
def result : FVec Ideal S32768x2048 .f32 := scaled g b (summed X1 X2 X3 res W)

/-- The reference's result in half the width. -/
def narrow : FVec Ideal S32768x2048 .bf16 := truncf .bf16 (result X1 X2 X3 res W g b) bitsLt_bf16_f32

/-- The reference's run leaves this result. -/
theorem run_result (m : (ℓ : Loc nD τ sig) → Buf (Elt Ideal) ℓ) (c : Dev nD) :
    Cert.Reference8Ideal.Value.res_out0 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- The reference's run leaves the same result in half the width. -/
theorem run_narrow (m : (ℓ : Loc nD τ sig) → Buf (Elt Ideal) ℓ) (c : Dev nD) :
    Cert.Reference8Ideal.Value.res_out1 m c = narrow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- A row of the three branches side by side. -/
def branch (X1 : FVec Ideal S32768x512 .bf16) (X2 : FVec Ideal S32768x512 .bf16) (X3 : FVec Ideal S32768x1024 .bf16) (R : Fin 32768) (k : Fin 2048) : EReal :=
  if h : k.val < 512 then X1 (ix2 R ⟨k.val, h⟩)
  else if h2 : k.val - 512 < 512 then X2 (ix2 R ⟨k.val - 512, h2⟩)
  else X3 (ix2 R ⟨k.val - 512 - 512, by omega⟩)

/-- A row of the branches against a column of the output projection. -/
def prod (X1 : FVec Ideal S32768x512 .bf16) (X2 : FVec Ideal S32768x512 .bf16) (X3 : FVec Ideal S32768x1024 .bf16) (W : FVec Ideal S4x2048x2048 .f32) (R : Fin 32768) (Q : Fin 2048) : EReal :=
  ∑ k : Fin 2048, branch X1 X2 X3 R k * W (ix3 0 k Q)

/-- A row of the residual stream with its product added. -/
def line (R : Fin 32768) : Fin 2048 → EReal := added (fun j => res (ix2 R j)) (fun j => prod X1 X2 X3 W R j)

/-- An entry of the result. -/
def entry (R : Fin 32768) (Q : Fin 2048) : EReal := normed (line X1 X2 X3 res W R) (fun j => g (ix2 0 j)) (fun j => b (ix2 0 j)) Q

/-- The reference's branches at an entry. -/
theorem beside_at (s : Fin 16) (r k : Fin 2048) : beside X1 X2 X3 (ix3 s r k) = branch X1 X2 X3 ⟨s.val * 2048 + r.val, by omega⟩ k := by
  pointwise [beside, branch]

/-- The reference's sum at an entry. -/
theorem summed_at (s : Fin 16) (r j : Fin 2048) : summed X1 X2 X3 res W (ix3 s r j) = line X1 X2 X3 res W ⟨s.val * 2048 + r.val, by omega⟩ j := by
  pointwise [summed, line, added, prod]
  simp only [beside_at]

/-- The reference's means. -/
theorem means_at (Y : FVec Ideal S16x2048x2048 .f32) (s : Fin 16) (r : Fin 2048) : means Y (ix3 s r 0) = mean fun j => Y (ix3 s r j) := by
  pointwise [means]
  unfold mean
  simp [Ideal.ofBits]

/-- The reference's rows less their means. -/
theorem centred_at (Y : FVec Ideal S16x2048x2048 .f32) (s : Fin 16) (r j : Fin 2048) :
    centred Y (ix3 s r j) = Y (ix3 s r j) - mean fun j => Y (ix3 s r j) := by
  pointwise [centred]
  rw [means_at]

/-- The reference's layer norm at an entry. -/
theorem scaled_at (Y : FVec Ideal S16x2048x2048 .f32) (R : Fin 32768) (Q : Fin 2048) :
    scaled g b Y (ix2 R Q) = normed (fun j => Y (ix3 ⟨R.val / 2048, by omega⟩ ⟨R.val % 2048, by omega⟩ j)) (fun j => g (ix2 0 j)) (fun j => b (ix2 0 j)) Q := by
  pointwise [scaled]
  rw [means_at, centred_at]
  pointwise
  simp only [centred_at]
  rfl

/-- The reference's result at an entry. -/
theorem result_at (R : Fin 32768) (Q : Fin 2048) : result X1 X2 X3 res W g b (ix2 R Q) = entry X1 X2 X3 res W g b R Q := by
  unfold result
  rw [scaled_at]
  unfold entry
  refine congrArg (normed · _ _ Q) (funext fun j => ?_)
  rw [summed_at]
  refine congrArg (line X1 X2 X3 res W · j) (Fin.ext ?_)
  show R.val / 2048 * 2048 + R.val % 2048 = R.val
  omega

end Cert.MixOut

end
-- ==== Proof.MixValue.lean ====
/- The mixer's output projection: the kernel's result arrays. -/
module

public import proofs.«01_k».proof.Proof.MixCases
public import proofs.«01_k».proof.Proof.MixSpec

@[expose] public section

set_option maxRecDepth 16384

noncomputable section

namespace Cert.MixOut

open Idealize.ShloMosaic Idealize.ShloMosaic.TcCoe Idealize.SL.Sem
open Idealize.ShloMosaic.Pipeline (Dat)
open Cert.Kernel8Ideal Cert.Kernel8Ideal.Gen
open Cert.Normed

variable (m : (ℓ : Loc nD τ sig) → Buf (Elt Ideal) ℓ) (c : Dev nD)

/-- The three branches' results, the residual stream, the weights, the scales and the shifts. -/
abbrev inM : FVec Ideal Cert.Reference8Ideal.S32768x512 .bf16 := m ((c : Thread nD τ).loc main_arg0)
@[inherit_doc inM] abbrev inC : FVec Ideal Cert.Reference8Ideal.S32768x512 .bf16 := m ((c : Thread nD τ).loc main_arg1)
@[inherit_doc inM] abbrev inA : FVec Ideal Cert.Reference8Ideal.S32768x1024 .bf16 := m ((c : Thread nD τ).loc main_arg2)
@[inherit_doc inM] abbrev inR : FVec Ideal Cert.Reference8Ideal.S32768x2048 .f32 := m ((c : Thread nD τ).loc main_arg3)
@[inherit_doc inM] abbrev inW : FVec Ideal Cert.Reference8Ideal.S4x2048x2048 .f32 := m ((c : Thread nD τ).loc main_arg4)
@[inherit_doc inM] abbrev inG : FVec Ideal Cert.Reference8Ideal.S4x2048 .f32 := m ((c : Thread nD τ).loc main_arg5)
@[inherit_doc inM] abbrev inB : FVec Ideal Cert.Reference8Ideal.S4x2048 .f32 := m ((c : Thread nD τ).loc main_arg6)

/-- The blocks each grid point reads and writes. -/
theorem idx : ∀ t : Fin cfg0.N, win0_0.index t = ![min t.val 63, 0] ∧ win0_1.index t = ![min t.val 63, 0] ∧ win0_2.index t = ![min t.val 63, 0] ∧ win0_3.index t = ![0, 0, 0] ∧ win0_4.index t = ![t.val - 1, 0]
    ∧ win0_5.index t = ![0, 0] ∧ win0_6.index t = ![0, 0] ∧ win0_7.index t = ![t.val - 1, 0] ∧ win0_8.index t = ![t.val - 1, 0] ∧ t.val < 65 :=
  (by decide +kernel : ∀ t : Fin grid0.N, _)

/-- There are 65 grid points. -/
theorem count (t : Fin cfg0.N) : t.val < 65 := (idx t).2.2.2.2.2.2.2.2.2

/-- The first point writes nothing back. -/
theorem later : ∀ t : Fin cfg0.N, (cfg0.win 7).flush t = true → 1 ≤ t.val :=
  (by decide +kernel : ∀ t : Fin grid0.N, _)

@[inherit_doc later] theorem later_narrow : ∀ t : Fin cfg0.N, (cfg0.win 8).flush t = true → 1 ≤ t.val :=
  (by decide +kernel : ∀ t : Fin grid0.N, _)

/-- The row of the result a row of a point's block is. -/
def row (t : Fin cfg0.N) (r : Fin 512) : Fin 32768 := ⟨(t.val - 1) * 512 + r.val, by have := count t; omega⟩

/-- The kernel's copy of the weights. -/
theorem weight_entry : (V m c main_v0 : FVec Ideal S4x2048x2048 .bf16) = m ((c : Thread nD τ).loc main_arg4) := by
  entry_read
  rfl

/-- The kernel's scales. -/
theorem scale_entry (Q : Fin 2048) : (V m c main_v5 : FVec Ideal S1x2048 .f32) (ix2 0 Q) = inG m c (ix2 0 Q) := by
  entry_read
  pointwise

/-- The kernel's shifts. -/
theorem shift_entry (Q : Fin 2048) : (V m c main_v6 : FVec Ideal S1x2048 .f32) (ix2 0 Q) = inB m c (ix2 0 Q) := by
  entry_read
  pointwise

/-- The first branch's block before a point, at an entry. -/
theorem m_at (s t : Fin cfg0.N) (hs : s.val + 1 = t.val) (r : Fin 512) (k : Fin 512) : (iblk m c 0 s : FVec Ideal S512x512 .bf16) (ix2 r k) = inM m c (ix2 (row t r) k) := by
  have hc := count t
  blk_point [iblk, V, idx s, row]

/-- The second branch's block before a point, at an entry. -/
theorem c_at (s t : Fin cfg0.N) (hs : s.val + 1 = t.val) (r : Fin 512) (k : Fin 512) : (iblk m c 1 s : FVec Ideal S512x512 .bf16) (ix2 r k) = inC m c (ix2 (row t r) k) := by
  have hc := count t
  blk_point [iblk, V, idx s, row]

/-- The third branch's block before a point, at an entry. -/
theorem a_at (s t : Fin cfg0.N) (hs : s.val + 1 = t.val) (r : Fin 512) (k : Fin 1024) : (iblk m c 2 s : FVec Ideal S512x1024 .bf16) (ix2 r k) = inA m c (ix2 (row t r) k) := by
  have hc := count t
  blk_point [iblk, V, idx s, row]

/-- The three blocks side by side before a point, at an entry. -/
theorem x_at (s t : Fin cfg0.N) (hs : s.val + 1 = t.val) (r : Fin 512) (k : Fin 2048) :
    beside_blocks m c s (ix2 r k) = branch (inM m c) (inC m c) (inA m c) (row t r) k := by
  refine (beside_block _ _ _ r k).trans ?_
  unfold branch
  split
  · exact m_at m c s t hs r _
  · split
    · exact c_at m c s t hs r _
    · exact a_at m c s t hs r _

/-- The weights' block at an entry. -/
theorem w_at (t : Fin cfg0.N) (k q : Fin 2048) : (iblk m c 3 t : FVec Ideal S1x2048x2048 .bf16) (ix3 0 k q) = inW m c (ix3 0 k q) := by
  have key (A : FVec Ideal S4x2048x2048 .bf16) : A ((win0_3.blk t).view.emb (ix3 0 k q)) = A (ix3 0 k q) := by
    blk_ext [idx t]
  unfold iblk
  rw [View.read_apply]
  exact (key _).trans (congrFun (weight_entry m c) _)

/-- The residual stream's block at an entry. -/
theorem r_at (t : Fin cfg0.N) (r : Fin 512) (j : Fin 2048) : (iblk m c 4 t : FVec Ideal S512x2048 .f32) (ix2 r j) = inR m c (ix2 (row t r) j) := by
  blk_point [iblk, V, idx t, row]

/-- The scales' block at an entry. -/
theorem g_at (t : Fin cfg0.N) (q : Fin 2048) : (iblk m c 5 t : FVec Ideal S1x2048 .f32) (ix2 0 q) = inG m c (ix2 0 q) := by
  have key (A : FVec Ideal S1x2048 .f32) : A ((win0_5.blk t).view.emb (ix2 0 q)) = A (ix2 0 q) := by
    blk_ext [idx t]
  unfold iblk
  rw [View.read_apply]
  exact (key _).trans (scale_entry m c _)

/-- The shifts' block at an entry. -/
theorem b_at (t : Fin cfg0.N) (q : Fin 2048) : (iblk m c 6 t : FVec Ideal S1x2048 .f32) (ix2 0 q) = inB m c (ix2 0 q) := by
  have key (A : FVec Ideal S1x2048 .f32) : A ((win0_6.blk t).view.emb (ix2 0 q)) = A (ix2 0 q) := by
    blk_ext [idx t]
  unfold iblk
  rw [View.read_apply]
  exact (key _).trans (shift_entry m c _)

/-- A point's product is the rows the next point stores. -/
theorem product_block (s t : Fin cfg0.N) (hs : s.val + 1 = t.val) (r : Fin 512) (j : Fin 2048) :
    product (beside_blocks m c s) (iblk m c 3 s) (ix2 r j) = prod (inM m c) (inC m c) (inA m c) (inW m c) (row t r) j := by
  unfold product prod
  refine Finset.sum_congr rfl fun k _ => ?_
  exact congrArg₂ (· * ·) (x_at m c s t hs r k) (w_at m c s k j)

/-- The layer norm a point stores, where the point before left the product. -/
theorem stored_at (t : Fin cfg0.N) (A : FVec Ideal S512x2048 .f32) (r : Fin 512) (q : Fin 2048)
    (h : ∀ j, A (ix2 r j) = prod (inM m c) (inC m c) (inA m c) (inW m c) (row t r) j) :
    stored m c t A (ix2 r q) = entry (inM m c) (inC m c) (inA m c) (inR m c) (inW m c) (inG m c) (inB m c) (row t r) q := by
  have e0 : (fun j => A (ix2 r j)) = fun j => prod (inM m c) (inC m c) (inA m c) (inW m c) (row t r) j := funext h
  have e1 : (fun j => (iblk m c 4 t : FVec Ideal S512x2048 .f32) (ix2 r j)) = fun j => inR m c (ix2 (row t r) j) := funext (r_at m c t r)
  have e2 : (fun j => (iblk m c 5 t : FVec Ideal S1x2048 .f32) (ix2 0 j)) = fun j => inG m c (ix2 0 j) := funext (g_at m c t)
  have e3 : (fun j => (iblk m c 6 t : FVec Ideal S1x2048 .f32) (ix2 0 j)) = fun j => inB m c (ix2 0 j) := funext (b_at m c t)
  show normed (added (fun j => (iblk m c 4 t : FVec Ideal S512x2048 .f32) (ix2 r j)) (fun j => A (ix2 r j)))
    (fun j => (iblk m c 5 t : FVec Ideal S1x2048 .f32) (ix2 0 j)) (fun j => (iblk m c 6 t : FVec Ideal S1x2048 .f32) (ix2 0 j)) q = _
  rw [e0, e1, e2, e3]
  rfl

/-- The point before a point. -/
def prior (t : Fin cfg0.N) : Fin cfg0.N := ⟨t.val - 1, Nat.lt_of_le_of_lt (Nat.sub_le _ _) t.isLt⟩

/-- Before an odd point the first buffer holds the product. -/
theorem held_odd (t : Fin cfg0.N) (h : t.val % 2 = 1) (y : S512x2048.Idx) :
    (outsAt0 m c (prior t).val (prior t).isLt).2.2.1 y = product (beside_blocks m c (prior t)) (iblk m c 3 (prior t)) y := by
  have hc := count t
  have hp : (prior t).val = t.val - 1 := rfl
  by_cases h0 : (prior t).val % 65 = 0
  · exact first_left m c (prior t) h0 (by omega) (by omega) y
  · exact even_left m c (prior t) h0 (by omega) (by omega) y

/-- Before an even point after the first the second buffer holds the product. -/
theorem held_even (t : Fin cfg0.N) (h1 : 1 ≤ t.val) (h : t.val % 2 = 0) (y : S512x2048.Idx) :
    (outsAt0 m c (prior t).val (prior t).isLt).2.2.2 y = product (beside_blocks m c (prior t)) (iblk m c 3 (prior t)) y := by
  have hc := count t
  have hp : (prior t).val = t.val - 1 := rfl
  exact odd_left m c (prior t) (by omega) (by omega) (by omega) y

/-- What a grid point after the first leaves in its block of the result. -/
theorem point (t : Fin cfg0.N) (h1 : 1 ≤ t.val) (r : Fin 512) (q : Fin 2048) :
    (outsAt0 m c t.val t.isLt).1 (ix2 r q) = entry (inM m c) (inC m c) (inA m c) (inR m c) (inW m c) (inG m c) (inB m c) (row t r) q := by
  have hc := count t
  have hs : (prior t).val + 1 = t.val := (show t.val - 1 + 1 = t.val by omega)
  by_cases h : t.val % 2 = 1
  · rw [odd_stored m c t (by omega) (by omega) h]
    exact stored_at m c t _ r q fun j => (held_odd m c t h _).trans (product_block m c _ t hs r j)
  · rw [even_stored m c t (by omega) (by omega) h]
    exact stored_at m c t _ r q fun j => (held_even m c t h1 (by omega) _).trans (product_block m c _ t hs r j)

/-- The same of the result in half the width. -/
theorem point_narrow (t : Fin cfg0.N) (h1 : 1 ≤ t.val) (r : Fin 512) (q : Fin 2048) :
    (outsAt0 m c t.val t.isLt).2.1 (ix2 r q) = entry (inM m c) (inC m c) (inA m c) (inR m c) (inW m c) (inG m c) (inB m c) (row t r) q := by
  have hc := count t
  have hs : (prior t).val + 1 = t.val := (show t.val - 1 + 1 = t.val by omega)
  by_cases h : t.val % 2 = 1
  · rw [odd_narrow m c t (by omega) (by omega) h]
    exact stored_at m c t _ r q fun j => (held_odd m c t h _).trans (product_block m c _ t hs r j)
  · rw [even_narrow m c t (by omega) (by omega) h]
    exact stored_at m c t _ r q fun j => (held_even m c t h1 (by omega) _).trans (product_block m c _ t hs r j)

/-- The result array after the run is the reference's result. -/
theorem final : (dats m 0 c).arrAt 7 cfg0.N = result (inM m c) (inC m c) (inA m c) (inR m c) (inW m c) (inG m c) (inB m c) := by
  refine (dats m 0 c).arrAt_eq_of_covers 7 _ (by decide +kernel) fun t hf y => ?_
  blk_simp
  rw [after0_7]
  have ey : ((cfg0.win 7).blk t).view.emb y = ix2 (row t (y 0)) (y 1) := by
    blk_ext [idx t, row]
  refine ((congrArg _ (eq_ix2 y)).trans (point m c t (later t hf) (y 0) (y 1))).trans ?_
  exact (result_at (inM m c) (inC m c) (inA m c) (inR m c) (inW m c) (inG m c) (inB m c) _ _).symm.trans (congrArg (result (inM m c) (inC m c) (inA m c) (inR m c) (inW m c) (inG m c) (inB m c)) ey.symm)

/-- The second result array after the run is the reference's. -/
theorem final_narrow : (dats m 0 c).arrAt 8 cfg0.N = narrow (inM m c) (inC m c) (inA m c) (inR m c) (inW m c) (inG m c) (inB m c) := by
  refine (dats m 0 c).arrAt_eq_of_covers 8 _ (by decide +kernel) fun t hf y => ?_
  blk_simp
  rw [after0_8]
  have ey : ((cfg0.win 8).blk t).view.emb y = ix2 (row t (y 0)) (y 1) := by
    blk_ext [idx t, row]
  refine ((congrArg _ (eq_ix2 y)).trans (point_narrow m c t (later_narrow t hf) (y 0) (y 1))).trans ?_
  exact (result_at (inM m c) (inC m c) (inA m c) (inR m c) (inW m c) (inG m c) (inB m c) _ _).symm.trans (congrArg (result (inM m c) (inC m c) (inA m c) (inR m c) (inW m c) (inG m c) (inB m c)) ey.symm)

end Cert.MixOut

end
-- ==== Proof.DownChunk.lean ====
/- The feed-forward's down projection: one chunk of the layer norm and one column group of a block of the product. -/
module

public import proofs.«01_k».proof.Proof.Gen.Kernel9Ideal.Skeleton
public import proofs.«01_k».proof.Proof.Normed
public import Idealize.ShloMosaic.Lib.WritesUnit
public import Idealize.ShloMosaic.Lib.Pipeline.ValueKit

@[expose] public section

set_option maxRecDepth 16384

noncomputable section

namespace Cert.Down

open Idealize.ShloMosaic Idealize.ShloMosaic.TcCoe Idealize.SL.Sem
open Cert.Kernel9Ideal Cert.Kernel9Ideal.Gen
open Cert.Normed

/-- The row of a buffer that a row of the point's block of the result is. -/
def rowOf (i : grid0.Coords) (r : Fin 256) : Fin 1024 := ⟨256 * (i 1).val + r.val, by have h : (i 1).val < 4 := (i 1).isLt; omega⟩

/-- The layer norm of a block of the residual stream with the matching rows of the product added. -/
def lined (i : grid0.Coords) (A : FVec Ideal S1024x2048 .f32) (R : FVec Ideal S256x2048 .f32) (g b : FVec Ideal S1x2048 .f32) : FVec Ideal S256x2048 .f32 := fun y =>
  normed (added (fun j => R (ix2 (y 0) j)) (fun j => A (ix2 (rowOf i (y 0)) j))) (fun j => g (ix2 0 j)) (fun j => b (ix2 0 j)) (y 1)

/-- The first row a chunk reads, over the second grid coordinate and the chunks. -/
theorem start : ∀ (j : Fin 4) (r : Fin 32),
    (Scalar.indexCast (Scalar.addi (Scalar.muli (BitVec.ofNat 32 j.val) 256#32) (BitVec.ofNat 32 (8 * r.val)))).toNat = 256 * j.val + 8 * r.val := by
  decide +kernel

/-- Where a chunk reads the product. -/
theorem off_eq (i : grid0.Coords) (r : Fin 32) : k0_off1 i (BitVec.ofNat 32 (8 * r.val)) = ![256 * (i 1).val + 8 * r.val, 0] :=
  congrArg (fun a => ![a, 0]) (start ⟨(i 1).val, (i 1).isLt⟩ r)

@[inherit_doc off_eq] theorem off_at (i : grid0.Coords) (o : ℕ) (h : o < 256 ∧ o % 8 = 0) :
    k0_off1 i (BitVec.ofNat 32 o) = ![256 * (i 1).val + o, 0] := by
  obtain ⟨r, rfl⟩ : ∃ r, o = 8 * r := ⟨o / 8, by omega⟩
  exact off_eq i ⟨r, by omega⟩

/-- The chunk of eight rows lies in the buffer. -/
theorem off_in (i : grid0.Coords) (o : ℕ) (h : o < 256 ∧ o % 8 = 0) : ∀ a : Fin S1024x2048.rank, k0_off1 i (BitVec.ofNat 32 o) a + ![8, 2048] a ≤ S1024x2048.size a := by
  rw [off_at i o h]
  have hi : (i 1).val < 4 := (i 1).isLt
  exact fun
    | ⟨0, _⟩ => (show 256 * (i 1).val + o + 8 ≤ 1024 by omega)
    | ⟨1, _⟩ => (show 0 + 2048 ≤ 2048 by omega)

/-- One chunk of eight rows is the layer norm at those rows. -/
theorem chunk_at (i : grid0.Coords) (A : FVec Ideal S1024x2048 .f32) (R : FVec Ideal S256x2048 .f32) (g b : FVec Ideal S1x2048 .f32) (o : ℕ)
    (off : Fin 2 → ℕ) (ho : off = ![256 * (i 1).val + o, 0]) (h h')
    (x : S8x2048.Idx) (y : S256x2048.Idx) (hy0 : (y 0).val = o + (x 0).val) (hy1 : (y 1).val = (x 1).val) :
    k0_pay5 (View.ld (Val := Elt Ideal) (e' := .f32) A (Rect.unit off ![8, 2048] h))
      (View.ld (Val := Elt Ideal) (e' := .f32) R (Rect.unit ![o, 0] ![8, 2048] h')) g b x = lined i A R g b y := by
  subst ho
  have hi : (i 1).val < 4 := (i 1).isLt
  have hx : (x 0).val < 8 := (x 0).isLt
  have hy : (y 0).val < 256 := (y 0).isLt
  have e0 : y 0 = ⟨o + (x 0).val, by omega⟩ := Fin.ext hy0
  have e1 : y 1 = x 1 := Fin.ext hy1
  have e2 : rowOf i (y 0) = ⟨256 * (i 1).val + o + (x 0).val, by omega⟩ := Fin.ext (show 256 * (i 1).val + (y 0).val = 256 * (i 1).val + o + (x 0).val by omega)
  unfold lined
  rw [e2]
  pointwise [k0_pay5]
  unfold normed mean added
  simp only [e0, e1]
  rfl

/-- The chunk of eight rows from row `o` lies in the block. -/
theorem window_in (o : ℕ) (h : o + 8 ≤ 256) : ∀ a : Fin S256x2048.rank, ![o, 0] a + ![8, 2048] a ≤ S256x2048.size a
  | ⟨0, _⟩ => h
  | ⟨1, _⟩ => (show 0 + 2048 ≤ 2048 by omega)

/-- The chunk of eight rows from row `o`. -/
abbrev chunk (i : grid0.Coords) (A : FVec Ideal S1024x2048 .f32) (R : FVec Ideal S256x2048 .f32) (g b : FVec Ideal S1x2048 .f32) (o : ℕ) (h : o < 256 ∧ o % 8 = 0) :
    FVec Ideal S8x2048 .f32 :=
  k0_pay5 (View.ld (Val := Elt Ideal) (e' := .f32) A (Rect.unit (k0_off1 i (BitVec.ofNat 32 o)) ![8, 2048] (off_in i o h)))
    (View.ld (Val := Elt Ideal) (e' := .f32) R (Rect.unit ![o, 0] ![8, 2048] (window_in o (by omega)))) g b

/-- A chunk is the layer norm at its rows. -/
theorem chunk_eq (i : grid0.Coords) (A : FVec Ideal S1024x2048 .f32) (R : FVec Ideal S256x2048 .f32) (g b : FVec Ideal S1x2048 .f32) {o : ℕ}
    {x : S8x2048.Idx} {y : S256x2048.Idx} (hy0 : (y 0).val = o + (x 0).val) (hy1 : (y 1).val = (x 1).val) (h : o < 256 ∧ o % 8 = 0) :
    chunk i A R g b o h x = lined i A R g b y :=
  chunk_at i A R g b o _ (off_at i o h) _ _ x y hy0 hy1

/-- A chunk in half the width. -/
theorem narrow_eq (i : grid0.Coords) (A : FVec Ideal S1024x2048 .f32) (R : FVec Ideal S256x2048 .f32) (g b : FVec Ideal S1x2048 .f32) {o : ℕ}
    {x : S8x2048.Idx} {y : S256x2048.Idx} (hy0 : (y 0).val = o + (x 0).val) (hy1 : (y 1).val = (x 1).val) (h : o < 256 ∧ o % 8 = 0) :
    (truncf .bf16 (chunk i A R g b o h) bitsLt_bf16_f32 : FVec Ideal S8x2048 .bf16) x = lined i A R g b y :=
  chunk_at i A R g b o _ (off_at i o h) _ _ x y hy0 hy1

/-- The product of a block with a block of the weights. -/
def product (X : FVec Ideal S1024x1408 .bf16) (W : FVec Ideal S1x1408x2048 .bf16) : FVec Ideal S1024x2048 .f32 := fun y =>
  ∑ k : Fin 1408, X (ix2 (y 0) k) * W (ix3 0 k (y 1))

/-- What a point leaves over what it found: its product, added except at the first block. -/
def grown (i : grid0.Coords) (A : FVec Ideal S1024x2048 .f32) (X : FVec Ideal S1024x1408 .bf16) (W : FVec Ideal S1x1408x2048 .bf16) : FVec Ideal S1024x2048 .f32 := fun y =>
  (if (i 1).val = 0 then 0 else A y) + product X W y

/-- Whether the second grid coordinate is the first. -/
theorem first_iff : ∀ j : Fin 4, (Scalar.cmpi .eq (BitVec.ofNat 32 j.val) 0#32 = 1#1) ↔ j.val = 0 := by decide

/-- One column group is the product at those columns, added to what was there. -/
theorem group_at (i : grid0.Coords) (cur : FVec Ideal S1024x512 .f32) (X : FVec Ideal S1024x1408 .bf16) (W : FVec Ideal S1x1408x2048 .bf16) (o : ℕ) (h)
    (x : S1024x512.Idx) (y : S1024x2048.Idx) (hy0 : (y 0).val = (x 0).val) (hy1 : (y 1).val = o + (x 1).val) :
    k0_pay3 i X (View.ld (Val := Elt Ideal) (e' := .bf16) W (Rect.unit ![0, 0, o] ![1, 1408, 512] h)) cur x
      = (if (i 1).val = 0 then 0 else cur x) + product X W y := by
  have hx : (x 1).val < 512 := (x 1).isLt
  have hy : (y 1).val < 2048 := (y 1).isLt
  have e0 : y 0 = x 0 := Fin.ext hy0
  have e1 : y 1 = ⟨o + (x 1).val, by omega⟩ := Fin.ext hy1
  have hf := first_iff ⟨(i 1).val, (i 1).isLt⟩
  pointwise [k0_pay3, product]
  rw [e0, e1]
  refine congrArg (· + _) ?_
  unfold Scalar.select
  by_cases hz : (i 1).val = 0
  · rw [if_pos hz]
    exact if_pos (hf.mpr hz)
  · rw [if_neg hz]
    exact if_neg fun hc => hz (hf.mp hc)

/-- One column group is what the point leaves at those columns. -/
theorem grown_at (i : grid0.Coords) (A : FVec Ideal S1024x2048 .f32) (X : FVec Ideal S1024x1408 .bf16) (W : FVec Ideal S1x1408x2048 .bf16) (o : ℕ) (h) (h')
    (x : S1024x512.Idx) (y : S1024x2048.Idx) (hy0 : (y 0).val = (x 0).val) (hy1 : (y 1).val = o + (x 1).val) :
    k0_pay3 i X (View.ld (Val := Elt Ideal) (e' := .bf16) W (Rect.unit ![0, 0, o] ![1, 1408, 512] h))
      (View.ld (Val := Elt Ideal) (e' := .f32) A (Rect.unit ![0, o] ![1024, 512] h')) x = grown i A X W y := by
  refine (group_at i _ X W o h x y hy0 hy1).trans ?_
  have e : View.ld (Val := Elt Ideal) (e' := .f32) A (Rect.unit ![0, o] ![1024, 512] h') x = A y := by
    rw [View.ld_apply]
    refine congrArg A (funext fun a => Fin.ext ?_)
    match a with
    | ⟨0, _⟩ => exact (show 0 + 1 * (x 0).val = (y 0).val by omega)
    | ⟨1, _⟩ => exact (show o + 1 * (x 1).val = (y 1).val by omega)
  unfold grown
  rw [e]

/-- One column group at the first block of the inner dimension is the product at those columns. -/
theorem fresh_at (i : grid0.Coords) (hi : (i 1).val = 0) (cur : FVec Ideal S1024x512 .f32) (X : FVec Ideal S1024x1408 .bf16) (W : FVec Ideal S1x1408x2048 .bf16) (o : ℕ) (h)
    (x : S1024x512.Idx) (y : S1024x2048.Idx) (hy0 : (y 0).val = (x 0).val) (hy1 : (y 1).val = o + (x 1).val) :
    k0_pay3 i X (View.ld (Val := Elt Ideal) (e' := .bf16) W (Rect.unit ![0, 0, o] ![1, 1408, 512] h)) cur x = product X W y := by
  refine (group_at i cur X W o h x y hy0 hy1).trans ?_
  rw [if_pos hi, zero_add]

/-- The newest column group decides its own columns, the older pieces the others. -/
theorem group_first (w : FVec Ideal S1024x512 .f32) (o : ℕ) (h) (L : List (View.Piece (Elt Ideal) S1024x2048 .f32)) (y : S1024x2048.Idx) (v : EReal)
    (hin : ∀ x : S1024x512.Idx, (y 0).val = (x 0).val → (y 1).val = o + (x 1).val → w x = v)
    (hout : ¬(o ≤ (y 1).val ∧ (y 1).val < o + 512) → View.canon L y = v) :
    View.canon ((⟨Rect.unit ![0, o] ![1024, 512] h, w⟩ : View.Piece (Elt Ideal) S1024x2048 .f32) :: L) y = v := by
  by_cases hy : o ≤ (y 1).val ∧ (y 1).val < o + 512
  · have e : y = (Rect.unit (s := S1024x2048) ![0, o] ![1024, 512] h).emb (ix2 ⟨(y 0).val, (y 0).isLt⟩ ⟨(y 1).val - o, by omega⟩) := by
      funext a
      refine Fin.ext ?_
      match a with
      | ⟨0, _⟩ => exact (show (y 0).val = 0 + 1 * (y 0).val by omega)
      | ⟨1, _⟩ => exact (show (y 1).val = o + 1 * ((y 1).val - o) by omega)
    refine (congrArg (View.canon _) e).trans ((View.canon_cons_emb _ _ _ _).trans (hin _ rfl ?_))
    show (y 1).val = o + ((y 1).val - o)
    omega
  · refine Eq.trans (View.canon_cons_of_not_mem (⟨Rect.unit (s := S1024x2048) ![0, o] ![1024, 512] h, w⟩ : View.Piece (Elt Ideal) S1024x2048 .f32) L ?_) (hout hy)
    dsimp only
    rw [Rect.mem_set_unit]
    intro hall
    exact hy (hall 1)

end Cert.Down

end
-- ==== Proof.DownRuns.lean ====
/- The feed-forward's down projection: what the launch finds, and the branch conditions in closed form over the 132 grid points. -/
module

public import proofs.«01_k».proof.Proof.Gen.Kernel9Ideal.Launch
public import proofs.«01_k».proof.Proof.Gen.Kernel9Ideal.Skeleton
public import proofs.«01_k».proof.Proof.Gen.Kernel9Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 132 = 0 :=
  (fun t => by
    have ht : t.val < 132 := Nat.lt_of_lt_of_eq t.isLt N_0
    have e0 : (grid0.coords t 0).val = t.val / 4 % 33 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 132 = 0)

/-- The condition of the body's `scf.if` 1. -/
abbrev cond0_1 (i : grid0.Coords) : Prop := k0_cond2 i = 1#1
/-- It holds at the points ≡ 0, 1, 2 or 3 modulo 8. -/
theorem hcond0_1 : ∀ t : Fin cfg0.N, cond0_1 (grid0.coords t) ↔ (t.val % 8 = 0 ∨ t.val % 8 = 1 ∨ t.val % 8 = 2 ∨ t.val % 8 = 3) :=
  (by decide +kernel : ∀ t : Fin grid0.N, cond0_1 (grid0.coords t) ↔ (t.val % 8 = 0 ∨ t.val % 8 = 1 ∨ t.val % 8 = 2 ∨ t.val % 8 = 3))

/-- The condition of the body's `scf.if` 2. -/
abbrev cond0_2 (i : grid0.Coords) : Prop := k0_cond3 i = 1#1
/-- It holds at the points ≡ 4, 5, 6 or 7 modulo 8. -/
theorem hcond0_2 : ∀ t : Fin cfg0.N, cond0_2 (grid0.coords t) ↔ (t.val % 8 = 4 ∨ t.val % 8 = 5 ∨ t.val % 8 = 6 ∨ t.val % 8 = 7) :=
  (by decide +kernel : ∀ t : Fin grid0.N, cond0_2 (grid0.coords t) ↔ (t.val % 8 = 4 ∨ t.val % 8 = 5 ∨ t.val % 8 = 6 ∨ t.val % 8 = 7))

/-! ## Where the windows are idle (the printed configuration's table `Cfg.idle`) -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- At the points of case A the output window is live. -/
theorem liveAt0_5_A : ∀ t : Fin cfg0.N, cond0_0 (grid0.coords t) → cond0_1 (grid0.coords t) → ¬cond0_2 (grid0.coords t) → cfg0.idle 5 (grid0.coords t) = false := by decide +kernel
/-- At the points of case B the output window is live. -/
theorem liveAt0_5_B : ∀ t : Fin cfg0.N, ¬cond0_0 (grid0.coords t) → cond0_1 (grid0.coords t) → ¬cond0_2 (grid0.coords t) → cfg0.idle 5 (grid0.coords t) = false := by decide +kernel
/-- At the points of case C the output window is live. -/
theorem liveAt0_5_C : ∀ t : Fin cfg0.N, ¬cond0_0 (grid0.coords t) → ¬cond0_1 (grid0.coords t) → cond0_2 (grid0.coords t) → cfg0.idle 5 (grid0.coords t) = false := by decide +kernel
/-- At the points of case A the output window is live. -/
theorem liveAt0_6_A : ∀ t : Fin cfg0.N, cond0_0 (grid0.coords t) → cond0_1 (grid0.coords t) → ¬cond0_2 (grid0.coords t) → cfg0.idle 6 (grid0.coords t) = false := by decide +kernel
/-- At the points of case B the output window is live. -/
theorem liveAt0_6_B : ∀ t : Fin cfg0.N, ¬cond0_0 (grid0.coords t) → cond0_1 (grid0.coords t) → ¬cond0_2 (grid0.coords t) → cfg0.idle 6 (grid0.coords t) = false := by decide +kernel
/-- At the points of case C the output window is live. -/
theorem liveAt0_6_C : ∀ t : Fin cfg0.N, ¬cond0_0 (grid0.coords t) → ¬cond0_1 (grid0.coords t) → cond0_2 (grid0.coords t) → cfg0.idle 6 (grid0.coords t) = false := by decide +kernel

/-! ## The kernel body on any staging memrefs: a subtype the run finds -/

/-- One staging buffer of output window 5, through which its contents are stated. -/
abbrev VO0_5 : View sig .tc .vmem S256x2048 .f32 := (Memref.whole cc0_stg5_0 : Memref sig .tc .vmem S256x2048 .f32).view
/-- One staging buffer of output window 6, through which its contents are stated. -/
abbrev VO0_6 : View sig .tc .vmem S256x2048 .bf16 := (Memref.whole cc0_stg6_0 : Memref sig .tc .vmem S256x2048 .bf16).view
/-- Each window's current staging memref at point `t`, spelled as the pipeline passes it. -/
abbrev ms0_0 (t : Fin cfg0.N) : Memref sig .tc .vmem S1024x1408 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1408x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .bf16 := win0_6.stage (cfg0.slots t 6)
abbrev hs0_6 (t : Fin cfg0.N) : (ms0_6 t).IsWhole := hstage0_6 ((cfg0.slots t 6).cast nbuf0_6)
/-- The scratch operands. -/
abbrev scM0_0 : Memref sig .tc .vmem S1024x2048 .f32 := Memref.whole cc0_scratch0
abbrev scM0_1 : Memref sig .tc .vmem S1024x2048 .f32 := Memref.whole cc0_scratch1
/-- The scratch `arg9` the kernel carries between points, as a view. -/
abbrev VS0_0 : View sig .tc .vmem S1024x2048 .f32 := scM0_0.view
/-- The scratch `arg10` the kernel carries between points, as a view. -/
abbrev VS0_1 : View sig .tc .vmem S1024x2048 .f32 := scM0_1.view

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel9Ideal.Gen

end
-- ==== Proof.DownRunA.lean ====
/- The feed-forward's down projection: the body's run at the first grid point. -/
module

public import proofs.«01_k».proof.Proof.DownRuns

@[expose] public section

set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2072000 in
/-- What the body's stores leave in each output's staging memref, as pieces. -/
noncomputable def kernelRun0_A (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) :
    Σ' (L5 : List (View.Piece (Elt F) S256x2048 .f32)), Σ' (L6 : List (View.Piece (Elt F) S256x2048 .bf16)), Σ' (LS0 : List (View.Piece (Elt F) S1024x2048 .f32)), { LS1 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_ffn_down_ln i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_ffn_down_ln_eq_skeleton]; unfold cc0_ffn_down_ln_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.Kernel9Ideal.Gen

end
-- ==== Proof.DownRunB.lean ====
/- The feed-forward's down projection: the body's run at the points of an even block of rows, after the first point. -/
module

public import proofs.«01_k».proof.Proof.DownRunA

@[expose] public section

set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2048000 in
/-- What the body's stores leave in each output's staging memref, as pieces. -/
noncomputable def kernelRun0_B (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) :
    Σ' (L5 : List (View.Piece (Elt F) S256x2048 .f32)), Σ' (L6 : List (View.Piece (Elt F) S256x2048 .bf16)), Σ' (LS0 : List (View.Piece (Elt F) S1024x2048 .f32)), { LS1 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0_ffn_down_ln i arg2 harg2 arg3 harg3 arg4 harg4 arg5 harg5 arg6 harg6 arg7 harg7 arg8 harg8 arg9 harg9 arg10 harg10) K } := by
  refine ⟨?_, ?_, ?_, [], fun E K => ?run⟩
  case run =>
    simp only [cc0_ffn_down_ln_eq_skeleton]; unfold cc0_ffn_down_ln_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; isplitr; · ipureintro; exact harg10.read_unread _
    iexact HS1

end Cert.Kernel9Ideal.Gen

end
-- ==== Proof.DownRunC.lean ====
/- The feed-forward's down projection: the body's run at the points of an odd block of rows. -/
module

public import proofs.«01_k».proof.Proof.DownRunB

@[expose] public section

set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2048000 in
/-- What the body's stores leave in each output's staging memref, as pieces. -/
noncomputable def kernelRun0_C (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : ¬cond0_1 i) (hc2 : cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) :
    Σ' (L5 : List (View.Piece (Elt F) S256x2048 .f32)), Σ' (L6 : List (View.Piece (Elt F) S256x2048 .bf16)), Σ' (LS0 : List (View.Piece (Elt F) S1024x2048 .f32)), { LS1 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc0_ffn_down_ln i arg2 harg2 arg3 harg3 arg4 harg4 arg5 harg5 arg6 harg6 arg7 harg7 arg8 harg8 arg9 harg9 arg10 harg10) K } := by
  refine ⟨?_, ?_, [], ?_, fun E K => ?run⟩
  case run =>
    simp only [cc0_ffn_down_ln_eq_skeleton]; unfold cc0_ffn_down_ln_skel
    simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]
    · iexists _; isplitr; · ipureintro; exact harg9.read_unread _
      iexact HS0
    iexists _; iexact HS1

end Cert.Kernel9Ideal.Gen

end
-- ==== Proof.DownFrame.lean ====
/- The feed-forward's down projection: what each grid point leaves in the outputs and in the two buffers, and the frame. -/
module

public import proofs.«01_k».proof.Proof.DownRunC
public import Idealize.ShloMosaic.Lib.Claim

@[expose] public section

set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block. -/
theorem cover0_A_5 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) (y : S256x2048.Idx) :
    ∃ pc ∈ (kernelRun0_A c i arg2 harg2 arg3 harg3 arg4 harg4 arg5 harg5 arg6 harg6 arg7 harg7 arg8 harg8 arg9 harg9 arg10 harg10 hc0 hc1 hc2 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1 x2 x3 x4).1 S8x2048.size (by sl_kernel_rfl) y

/-- What case A leaves in output 5's staging buffer. -/
def out0_A_5 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) : Vec F S256x2048 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 hc2 x0 x1 x2 x3 x4).1)

/-- Case A's pieces for output 6 tile its block. -/
theorem cover0_A_6 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) (y : S256x2048.Idx) :
    ∃ pc ∈ (kernelRun0_A c i arg2 harg2 arg3 harg3 arg4 harg4 arg5 harg5 arg6 harg6 arg7 harg7 arg8 harg8 arg9 harg9 arg10 harg10 hc0 hc1 hc2 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1 x2 x3 x4).2.1 S8x2048.size (by sl_kernel_rfl) y

/-- What case A leaves in output 6's staging buffer. -/
def out0_A_6 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) : Vec F S256x2048 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 hc2 x0 x1 x2 x3 x4).2.1)

/-- Case A's pieces for scratch `arg9`. -/
theorem scover0_A_0 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) (y : S1024x2048.Idx) :
    ∃ pc ∈ (kernelRun0_A c i arg2 harg2 arg3 harg3 arg4 harg4 arg5 harg5 arg6 harg6 arg7 harg7 arg8 harg8 arg9 harg9 arg10 harg10 hc0 hc1 hc2 x0 x1 x2 x3 x4).2.2.1, y ∈ pc.1.set :=
  View.cover_of_wholeMem (kernelRun0_A c i arg2 harg2 arg3 harg3 arg4 harg4 arg5 harg5 arg6 harg6 arg7 harg7 arg8 harg8 arg9 harg9 arg10 harg10 hc0 hc1 hc2 x0 x1 x2 x3 x4).2.2.1 (by sl_whole_mem) y

/-- What case A leaves in scratch `arg9`. -/
def sout0_A_0 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) : Vec F S1024x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 hc2 x0 x1 x2 x3 x4).2.2.1)

/-- Case A's pieces for scratch `arg10`. -/
theorem scover0_A_1 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) (y : S1024x2048.Idx) :
    ∃ pc ∈ (kernelRun0_A c i arg2 harg2 arg3 harg3 arg4 harg4 arg5 harg5 arg6 harg6 arg7 harg7 arg8 harg8 arg9 harg9 arg10 harg10 hc0 hc1 hc2 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1 x2 x3 x4).2.2.2.1 S1024x2048.size (by sl_kernel_rfl) y

/-- What case A leaves in scratch `arg10`. -/
def sout0_A_1 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) : Vec F S1024x2048 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 hc2 x0 x1 x2 x3 x4).2.2.2.1)

/-- Case B's pieces for output 5 tile its block. -/
theorem cover0_B_5 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) (y : S256x2048.Idx) :
    ∃ pc ∈ (kernelRun0_B c i arg2 harg2 arg3 harg3 arg4 harg4 arg5 harg5 arg6 harg6 arg7 harg7 arg8 harg8 arg9 harg9 arg10 harg10 hc0 hc1 hc2 x0 x1 x2 x3 x4 xs0 xs1).1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 x1 x2 x3 x4 xs0 xs1).1 S8x2048.size (by sl_kernel_rfl) y

/-- What case B leaves in output 5's staging buffer. -/
def out0_B_5 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) : Vec F S256x2048 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 hc2 x0 x1 x2 x3 x4 xs0 xs1).1)

/-- Case B's pieces for output 6 tile its block. -/
theorem cover0_B_6 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) (y : S256x2048.Idx) :
    ∃ pc ∈ (kernelRun0_B c i arg2 harg2 arg3 harg3 arg4 harg4 arg5 harg5 arg6 harg6 arg7 harg7 arg8 harg8 arg9 harg9 arg10 harg10 hc0 hc1 hc2 x0 x1 x2 x3 x4 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 x1 x2 x3 x4 xs0 xs1).2.1 S8x2048.size (by sl_kernel_rfl) y

/-- What case B leaves in output 6's staging buffer. -/
def out0_B_6 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) : Vec F S256x2048 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 hc2 x0 x1 x2 x3 x4 xs0 xs1).2.1)

/-- Case B's pieces for scratch `arg9`. -/
theorem scover0_B_0 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) (y : S1024x2048.Idx) :
    ∃ pc ∈ (kernelRun0_B c i arg2 harg2 arg3 harg3 arg4 harg4 arg5 harg5 arg6 harg6 arg7 harg7 arg8 harg8 arg9 harg9 arg10 harg10 hc0 hc1 hc2 x0 x1 x2 x3 x4 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 x1 x2 x3 x4 xs0 xs1).2.2.1 S1024x512.size (by sl_kernel_rfl) y

/-- What case B leaves in scratch `arg9`. -/
def sout0_B_0 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) : Vec F S1024x2048 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 hc2 x0 x1 x2 x3 x4 xs0 xs1).2.2.1)

/-- Case B stores nothing into scratch `arg10`. -/
def sout0_B_1 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : cond0_1 i) (hc2 : ¬cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) : Vec F S1024x2048 .f32 := xs1

/-- Case C's pieces for output 5 tile its block. -/
theorem cover0_C_5 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : ¬cond0_1 i) (hc2 : cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) (y : S256x2048.Idx) :
    ∃ pc ∈ (kernelRun0_C c i arg2 harg2 arg3 harg3 arg4 harg4 arg5 harg5 arg6 harg6 arg7 harg7 arg8 harg8 arg9 harg9 arg10 harg10 hc0 hc1 hc2 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 x3 x4 xs0 xs1).1 S8x2048.size (by sl_kernel_rfl) y

/-- What case C leaves in output 5's staging buffer. -/
def out0_C_5 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : ¬cond0_1 i) (hc2 : cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) : Vec F S256x2048 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 hc2 x0 x1 x2 x3 x4 xs0 xs1).1)

/-- Case C's pieces for output 6 tile its block. -/
theorem cover0_C_6 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : ¬cond0_1 i) (hc2 : cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) (y : S256x2048.Idx) :
    ∃ pc ∈ (kernelRun0_C c i arg2 harg2 arg3 harg3 arg4 harg4 arg5 harg5 arg6 harg6 arg7 harg7 arg8 harg8 arg9 harg9 arg10 harg10 hc0 hc1 hc2 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 x3 x4 xs0 xs1).2.1 S8x2048.size (by sl_kernel_rfl) y

/-- What case C leaves in output 6's staging buffer. -/
def out0_C_6 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : ¬cond0_1 i) (hc2 : cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) : Vec F S256x2048 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 hc2 x0 x1 x2 x3 x4 xs0 xs1).2.1)

/-- Case C stores nothing into scratch `arg9`. -/
def sout0_C_0 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : ¬cond0_1 i) (hc2 : cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) : Vec F S1024x2048 .f32 := xs0

/-- Case C's pieces for scratch `arg10`. -/
theorem scover0_C_1 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : ¬cond0_1 i) (hc2 : cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) (y : S1024x2048.Idx) :
    ∃ pc ∈ (kernelRun0_C c i arg2 harg2 arg3 harg3 arg4 harg4 arg5 harg5 arg6 harg6 arg7 harg7 arg8 harg8 arg9 harg9 arg10 harg10 hc0 hc1 hc2 x0 x1 x2 x3 x4 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 x3 x4 xs0 xs1).2.2.2.1 S1024x512.size (by sl_kernel_rfl) y

/-- What case C leaves in scratch `arg10`. -/
def sout0_C_1 (c : Dev nD) (i : grid0.Coords) (arg2 : Memref sig .tc .vmem S1024x1408 .bf16) (harg2 : arg2.IsWhole) (arg3 : Memref sig .tc .vmem S1x1408x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1024x2048 .f32) (harg9 : arg9.IsWhole) (arg10 : Memref sig .tc .vmem S1024x2048 .f32) (harg10 : arg10.IsWhole) (hc0 : ¬cond0_0 i) (hc1 : ¬cond0_1 i) (hc2 : cond0_2 i)
    (x0 : Vec F S1024x1408 .bf16) (x1 : Vec F S1x1408x2048 .bf16) (x2 : Vec F S256x2048 .f32) (x3 : Vec F S1x2048 .f32) (x4 : Vec F S1x2048 .f32) (xs0 : Vec F S1024x2048 .f32) (xs1 : Vec F S1024x2048 .f32) : Vec F S1024x2048 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 hc2 x0 x1 x2 x3 x4 xs0 xs1).2.2.2.1)

/-! ## What the outputs hold after each point -/

/-- What the outputs and the two buffers hold after each point. -/
def outsAt0 (c : Dev nD) : (n : ℕ) → n < cfg0.N → Vec F S256x2048 .f32 × Vec F S256x2048 .bf16 × Vec F S1024x2048 .f32 × Vec F S1024x2048 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 132 = 0 then
      if h1 : ((n + 1) % 8 = 0 ∨ (n + 1) % 8 = 1 ∨ (n + 1) % 8 = 2 ∨ (n + 1) % 8 = 3) then
        if h2 : ((n + 1) % 8 = 4 ∨ (n + 1) % 8 = 5 ∨ (n + 1) % 8 = 6 ∨ (n + 1) % 8 = 7) then
          False.elim (by have hN : n + 1 < 132 := lt_of_lt_of_eq hn (show cfg0.N = 132 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 132 := lt_of_lt_of_eq hn (show cfg0.N = 132 from N_0); omega)
    else
      if h1 : ((n + 1) % 8 = 0 ∨ (n + 1) % 8 = 1 ∨ (n + 1) % 8 = 2 ∨ (n + 1) % 8 = 3) then
        if h2 : ((n + 1) % 8 = 4 ∨ (n + 1) % 8 = 5 ∨ (n + 1) % 8 = 6 ∨ (n + 1) % 8 = 7) then
          False.elim (by have hN : n + 1 < 132 := lt_of_lt_of_eq hn (show cfg0.N = 132 from N_0); omega)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        if h2 : ((n + 1) % 8 = 4 ∨ (n + 1) % 8 = 5 ∨ (n + 1) % 8 = 6 ∨ (n + 1) % 8 = 7) then
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
        else
          False.elim (by have hN : n + 1 < 132 := lt_of_lt_of_eq hn (show cfg0.N = 132 from N_0); omega)

/-- `outsAt0` at a point of case A. -/
theorem outsAt0_A (c : Dev nD) (t : Fin cfg0.N) (h0 : t.val % 132 = 0) (h1 : (t.val % 8 = 0 ∨ t.val % 8 = 1 ∨ t.val % 8 = 2 ∨ t.val % 8 = 3)) (h2 : ¬(t.val % 8 = 4 ∨ t.val % 8 = 5 ∨ t.val % 8 = 6 ∨ t.val % 8 = 7)) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans ((dif_neg h2).trans rfl))

/-- `outsAt0` at a point of case B. -/
theorem outsAt0_B (c : Dev nD) (t : Fin cfg0.N) (h0 : ¬t.val % 132 = 0) (h1 : (t.val % 8 = 0 ∨ t.val % 8 = 1 ∨ t.val % 8 = 2 ∨ t.val % 8 = 3)) (h2 : ¬(t.val % 8 = 4 ∨ t.val % 8 = 5 ∨ t.val % 8 = 6 ∨ t.val % 8 = 7)) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C. -/
theorem outsAt0_C (c : Dev nD) (t : Fin cfg0.N) (h0 : ¬t.val % 132 = 0) (h1 : ¬(t.val % 8 = 0 ∨ t.val % 8 = 1 ∨ t.val % 8 = 2 ∨ t.val % 8 = 3)) (h2 : (t.val % 8 = 4 ∨ t.val % 8 = 5 ∨ t.val % 8 = 6 ∨ t.val % 8 = 7)) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel carries between points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 132 := lt_of_lt_of_eq t.isLt (show cfg0.N = 132 from N_0)
  by_cases h0 : t.val % 132 = 0
  · by_cases h1 : (t.val % 8 = 0 ∨ t.val % 8 = 1 ∨ t.val % 8 = 2 ∨ t.val % 8 = 3)
    · by_cases h2 : (t.val % 8 = 4 ∨ t.val % 8 = 5 ∨ t.val % 8 = 6 ∨ t.val % 8 = 7)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_A t ((hcond0_0 t).mpr h0) ((hcond0_1 t).mpr h1) (fun h => h2 ((hcond0_2 t).mp h))], after0_5]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        by_cases hz : t.val = 0
        · rw [PhiS_castSucc m c t, PhiS_zero m c _ _ hz, PhiA0_eq]
          rw [outsAt0_A m c t h0 h1 h2]
          unfold out0_A_5 out0_A_6 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexact HS0
          isplitl [HS1]; · iexact HS1
          iintro ⟨H0, H1, H2, H3, H4, ⟨%e5, H5⟩, ⟨%e6, H6⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_A_5 c _ _ _ _ _ _ _ _ _ _ _ _ _ _ _ _ _ _ _ _ _ _ _ _ _ _ _)
          unfold owns; iexists _; isplitr
          swap; · iexact H6
          ipureintro; exact View.read_writes_of_cover _ _ _ _ _ (cover0_A_6 c _ _ _ _ _ _ _ _ _ _ _ _ _ _ _ _ _ _ _ _ _ _ _ _ _ _ _)
        · exfalso; have hN : t.val < 132 := lt_of_lt_of_eq t.isLt (show cfg0.N = 132 from N_0); omega
    · exfalso; omega
  · by_cases h1 : (t.val % 8 = 0 ∨ t.val % 8 = 1 ∨ t.val % 8 = 2 ∨ t.val % 8 = 3)
    · by_cases h2 : (t.val % 8 = 4 ∨ t.val % 8 = 5 ∨ t.val % 8 = 6 ∨ t.val % 8 = 7)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h))], after0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h))], after0_6]
        by_cases hz : t.val = 0
        · exfalso; have hN : t.val < 132 := lt_of_lt_of_eq t.isLt (show cfg0.N = 132 from N_0); omega
        · rw [PhiS_castSucc m c t, PhiS_pos m c _ _ hz]
          rw [outsAt0_B m c t h0 h1 h2]
          unfold out0_B_5 out0_B_6 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _ _).2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexact HS0
          isplitl [HS1]; · iexact HS1
          iintro ⟨H0, H1, H2, H3, H4, ⟨%e5, H5⟩, ⟨%e6, H6⟩, ⟨%es0, HS0⟩, HS1⟩
          isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _)
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_B_5 c _ _ _ _ _ _ _ _ _ _ _ _ _ _ _ _ _ _ _ _ _ _ _ _ _ _ _ _ _)
          unfold owns; iexists _; isplitr
          swap; · iexact H6
          ipureintro; exact View.read_writes_of_cover _ _ _ _ _ (cover0_B_6 c _ _ _ _ _ _ _ _ _ _ _ _ _ _ _ _ _ _ _ _ _ _ _ _ _ _ _ _ _)
    · by_cases h2 : (t.val % 8 = 4 ∨ t.val % 8 = 5 ∨ t.val % 8 = 6 ∨ t.val % 8 = 7)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) ((hcond0_2 t).mpr h2)], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) ((hcond0_2 t).mpr h2)], after0_6]
        by_cases hz : t.val = 0
        · exfalso; have hN : t.val < 132 := lt_of_lt_of_eq t.isLt (show cfg0.N = 132 from N_0); omega
        · rw [PhiS_castSucc m c t, PhiS_pos m c _ _ hz]
          rw [outsAt0_C m c t h0 h1 h2]
          unfold out0_C_5 out0_C_6 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_C c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _ _).2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexact HS0
          isplitl [HS1]; · iexact HS1
          iintro ⟨H0, H1, H2, H3, H4, ⟨%e5, H5⟩, ⟨%e6, H6⟩, HS0, ⟨%es1, HS1⟩⟩
          isplitl [HS0 HS1 Hg]
          · isplitl [HS0 HS1]
            · isplitl [HS0]
              · iexact HS0
              unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_C_5 c _ _ _ _ _ _ _ _ _ _ _ _ _ _ _ _ _ _ _ _ _ _ _ _ _ _ _ _ _)
          unfold owns; iexists _; isplitr
          swap; · iexact H6
          ipureintro; exact View.read_writes_of_cover _ _ _ _ _ (cover0_C_6 c _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 132 := N_0; omega)

/-! ## The run and the frame -/

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel9Ideal.Gen

end
-- ==== Proof.DownRun.lean ====
/- The feed-forward's down projection: the launch's run, and what it leaves in the two result arrays. -/
module

public import proofs.«01_k».proof.Proof.DownFrame
public import Idealize.ShloMosaic.Lib.Pipeline.Value

@[expose] public section

noncomputable section

namespace Cert.Kernel9Ideal.Value

open Cert.Kernel9Ideal Cert.Kernel9Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output window 5's array. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's named term for the window. -/
theorem flushed5_A (c : Dev nD) (t : Fin cfg0.N) (h0 : t.val % 132 = 0) (h1 : (t.val % 8 = 0 ∨ t.val % 8 = 1 ∨ t.val % 8 = 2 ∨ t.val % 8 = 3)) (h2 : ¬(t.val % 8 = 4 ∨ t.val % 8 = 5 ∨ t.val % 8 = 6 ∨ t.val % 8 = 7)) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  simp only [flushed5, outsAt0_A m c t h0 h1 h2]

/-- … so at a point where case B runs, what its write-back would write is that case's named term for the window. -/
theorem flushed5_B (c : Dev nD) (t : Fin cfg0.N) (h0 : ¬t.val % 132 = 0) (h1 : (t.val % 8 = 0 ∨ t.val % 8 = 1 ∨ t.val % 8 = 2 ∨ t.val % 8 = 3)) (h2 : ¬(t.val % 8 = 4 ∨ t.val % 8 = 5 ∨ t.val % 8 = 6 ∨ t.val % 8 = 7)) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed5, outsAt0_B m c t h0 h1 h2]

/-- … so at a point where case C runs, what its write-back would write is that case's named term for the window. -/
theorem flushed5_C (c : Dev nD) (t : Fin cfg0.N) (h0 : ¬t.val % 132 = 0) (h1 : ¬(t.val % 8 = 0 ∨ t.val % 8 = 1 ∨ t.val % 8 = 2 ∨ t.val % 8 = 3)) (h2 : (t.val % 8 = 4 ∨ t.val % 8 = 5 ∨ t.val % 8 = 6 ∨ t.val % 8 = 7)) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed5, outsAt0_C m c t h0 h1 h2]

/-- An index that no flushing point's block covers keeps output window 5's array contents at region entry. -/
theorem entry5 (c : Dev nD) (i : S32768x2048.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- What point `t` writes back to output window 6's array. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's named term for the window. -/
theorem flushed6_A (c : Dev nD) (t : Fin cfg0.N) (h0 : t.val % 132 = 0) (h1 : (t.val % 8 = 0 ∨ t.val % 8 = 1 ∨ t.val % 8 = 2 ∨ t.val % 8 = 3)) (h2 : ¬(t.val % 8 = 4 ∨ t.val % 8 = 5 ∨ t.val % 8 = 6 ∨ t.val % 8 = 7)) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  simp only [flushed6, outsAt0_A m c t h0 h1 h2]

/-- … so at a point where case B runs, what its write-back would write is that case's named term for the window. -/
theorem flushed6_B (c : Dev nD) (t : Fin cfg0.N) (h0 : ¬t.val % 132 = 0) (h1 : (t.val % 8 = 0 ∨ t.val % 8 = 1 ∨ t.val % 8 = 2 ∨ t.val % 8 = 3)) (h2 : ¬(t.val % 8 = 4 ∨ t.val % 8 = 5 ∨ t.val % 8 = 6 ∨ t.val % 8 = 7)) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed6, outsAt0_B m c t h0 h1 h2]

/-- … so at a point where case C runs, what its write-back would write is that case's named term for the window. -/
theorem flushed6_C (c : Dev nD) (t : Fin cfg0.N) (h0 : ¬t.val % 132 = 0) (h1 : ¬(t.val % 8 = 0 ∨ t.val % 8 = 1 ∨ t.val % 8 = 2 ∨ t.val % 8 = 3)) (h2 : (t.val % 8 = 4 ∨ t.val % 8 = 5 ∨ t.val % 8 = 6 ∨ t.val % 8 = 7)) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed6, outsAt0_C m c t h0 h1 h2]

/-- An index that no flushing point's block covers keeps output window 6's array contents at region entry. -/
theorem entry6 (c : Dev nD) (i : S32768x2048.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v7_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v7_1) = (dats m 0 c).arrAt 6 cfg0.N :=
  (h c).1 6

/-- After the frame run, argument `main_arg0` is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run named. -/
theorem run_blocks : θ_run defs (onTc (τ := τ) (main (F := F))) ⟨m, fun _ => 0, ρ⟩ fun r => ∀ c : Dev nD,
      r.2.mem ((c : Thread nD τ).loc main_v7_0) = (dats m 0 c).arrAt 5 cfg0.N
      ∧ r.2.mem ((c : Thread nD τ).loc main_v7_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it. -/
def scAt0_0 (c : Dev nD) (n : ℕ) (hb : n < cfg0.N) (acc : Vec F S1024x2048 .f32) : Vec F S1024x2048 .f32 :=
  if h0 : n % 132 = 0 then
    if h1 : (n % 8 = 0 ∨ n % 8 = 1 ∨ n % 8 = 2 ∨ n % 8 = 3) then
      if h2 : (n % 8 = 4 ∨ n % 8 = 5 ∨ n % 8 = 6 ∨ n % 8 = 7) then
        acc
      else
        sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
    else
      acc
  else
    if h1 : (n % 8 = 0 ∨ n % 8 = 1 ∨ n % 8 = 2 ∨ n % 8 = 3) then
      if h2 : (n % 8 = 4 ∨ n % 8 = 5 ∨ n % 8 = 6 ∨ n % 8 = 7) then
        acc
      else
        sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2
    else
      if h2 : (n % 8 = 4 ∨ n % 8 = 5 ∨ n % 8 = 6 ∨ n % 8 = 7) then
        sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2
      else
        acc

/-- What carried scratch 0 holds after point `t`. -/
theorem soutsAt0_0_eq (c : Dev nD) (t : Fin cfg0.N) :
    (outsAt0 m c t.val t.isLt).2.2.1 = Pipeline.accAt (fun n h => scAt0_0 m c n h (VS0_0.read (Elt F) VS0_0.junk)) (scAt0_0 m c) (132 * (t.val / 132)) (t.val % 132)
      (by have h1 := t.isLt; have h2 := Nat.div_add_mod t.val 132; omega) :=
  Pipeline.eq_accAt_of_mod (fun n h => (outsAt0 m c n h).2.2.1) 132 (fun n h => scAt0_0 m c n h (VS0_0.read (Elt F) VS0_0.junk)) (scAt0_0 m c)
    (fun n h hn => by
      have hN := lt_of_lt_of_eq h (show cfg0.N = 132 from N_0)
      by_cases h0 : n % 132 = 0 <;> by_cases h1 : (n % 8 = 0 ∨ n % 8 = 1 ∨ n % 8 = 2 ∨ n % 8 = 3) <;> by_cases h2 : (n % 8 = 4 ∨ n % 8 = 5 ∨ n % 8 = 6 ∨ n % 8 = 7)
      all_goals first | (exfalso; omega) | (rw [outsAt0_A m c ⟨n, h⟩ h0 h1 h2]; dsimp only; unfold scAt0_0; rw [dif_pos h0, dif_pos h1, dif_neg h2] <;> try rfl) | (rw [outsAt0_B m c ⟨n, h⟩ h0 h1 h2]; dsimp only; unfold scAt0_0; rw [dif_neg h0, dif_pos h1, dif_neg h2] <;> try rfl) | (rw [outsAt0_C m c ⟨n, h⟩ h0 h1 h2]; dsimp only; unfold scAt0_0; rw [dif_neg h0, dif_neg h1, dif_pos h2] <;> try rfl))
    (fun n h hn => by
      have hN := lt_of_lt_of_eq h (show cfg0.N = 132 from N_0)
      by_cases h0 : (n + 1) % 132 = 0 <;> by_cases h1 : ((n + 1) % 8 = 0 ∨ (n + 1) % 8 = 1 ∨ (n + 1) % 8 = 2 ∨ (n + 1) % 8 = 3) <;> by_cases h2 : ((n + 1) % 8 = 4 ∨ (n + 1) % 8 = 5 ∨ (n + 1) % 8 = 6 ∨ (n + 1) % 8 = 7)
      all_goals first | (exfalso; omega) | (rw [outsAt0_A m c ⟨n + 1, h⟩ h0 h1 h2]; dsimp only; unfold scAt0_0; rw [dif_pos h0, dif_pos h1, dif_neg h2] <;> try rfl) | (rw [outsAt0_B m c ⟨n + 1, h⟩ h0 h1 h2]; dsimp only; unfold scAt0_0; rw [dif_neg h0, dif_pos h1, dif_neg h2] <;> try rfl) | (rw [outsAt0_C m c ⟨n + 1, h⟩ h0 h1 h2]; dsimp only; unfold scAt0_0; rw [dif_neg h0, dif_neg h1, dif_pos h2] <;> try rfl))
    (by decide) t.val t.isLt _

/-- One run spans the grid. -/
theorem soutsAt0_0_sweep (c : Dev nD) (n : ℕ) (hn : n < cfg0.N) :
    (outsAt0 m c n hn).2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 132 from N_0)
  have hd : n / 132 = 0 := Nat.div_eq_of_lt hN
  have hm : n % 132 = n := Nat.mod_eq_of_lt hN
  simpa only [hd, hm, Nat.mul_zero] using e

/-! ## Carried scratch 1: what each point leaves in it, and its fold -/

/-- What point `n` leaves in carried scratch 1, over what the point before left in it. -/
def scAt0_1 (c : Dev nD) (n : ℕ) (hb : n < cfg0.N) (acc : Vec F S1024x2048 .f32) : Vec F S1024x2048 .f32 :=
  if h0 : n % 132 = 0 then
    if h1 : (n % 8 = 0 ∨ n % 8 = 1 ∨ n % 8 = 2 ∨ n % 8 = 3) then
      if h2 : (n % 8 = 4 ∨ n % 8 = 5 ∨ n % 8 = 6 ∨ n % 8 = 7) then
        acc
      else
        sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
    else
      acc
  else
    if h1 : (n % 8 = 0 ∨ n % 8 = 1 ∨ n % 8 = 2 ∨ n % 8 = 3) then
      if h2 : (n % 8 = 4 ∨ n % 8 = 5 ∨ n % 8 = 6 ∨ n % 8 = 7) then
        acc
      else
        sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc
    else
      if h2 : (n % 8 = 4 ∨ n % 8 = 5 ∨ n % 8 = 6 ∨ n % 8 = 7) then
        sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc
      else
        acc

/-- What carried scratch 1 holds after point `t`. -/
theorem soutsAt0_1_eq (c : Dev nD) (t : Fin cfg0.N) :
    (outsAt0 m c t.val t.isLt).2.2.2 = Pipeline.accAt (fun n h => scAt0_1 m c n h (VS0_1.read (Elt F) VS0_1.junk)) (scAt0_1 m c) (132 * (t.val / 132)) (t.val % 132)
      (by have h1 := t.isLt; have h2 := Nat.div_add_mod t.val 132; omega) :=
  Pipeline.eq_accAt_of_mod (fun n h => (outsAt0 m c n h).2.2.2) 132 (fun n h => scAt0_1 m c n h (VS0_1.read (Elt F) VS0_1.junk)) (scAt0_1 m c)
    (fun n h hn => by
      have hN := lt_of_lt_of_eq h (show cfg0.N = 132 from N_0)
      by_cases h0 : n % 132 = 0 <;> by_cases h1 : (n % 8 = 0 ∨ n % 8 = 1 ∨ n % 8 = 2 ∨ n % 8 = 3) <;> by_cases h2 : (n % 8 = 4 ∨ n % 8 = 5 ∨ n % 8 = 6 ∨ n % 8 = 7)
      all_goals first | (exfalso; omega) | (rw [outsAt0_A m c ⟨n, h⟩ h0 h1 h2]; dsimp only; unfold scAt0_1; rw [dif_pos h0, dif_pos h1, dif_neg h2] <;> try rfl) | (rw [outsAt0_B m c ⟨n, h⟩ h0 h1 h2]; dsimp only; unfold scAt0_1; rw [dif_neg h0, dif_pos h1, dif_neg h2] <;> try rfl) | (rw [outsAt0_C m c ⟨n, h⟩ h0 h1 h2]; dsimp only; unfold scAt0_1; rw [dif_neg h0, dif_neg h1, dif_pos h2] <;> try rfl))
    (fun n h hn => by
      have hN := lt_of_lt_of_eq h (show cfg0.N = 132 from N_0)
      by_cases h0 : (n + 1) % 132 = 0 <;> by_cases h1 : ((n + 1) % 8 = 0 ∨ (n + 1) % 8 = 1 ∨ (n + 1) % 8 = 2 ∨ (n + 1) % 8 = 3) <;> by_cases h2 : ((n + 1) % 8 = 4 ∨ (n + 1) % 8 = 5 ∨ (n + 1) % 8 = 6 ∨ (n + 1) % 8 = 7)
      all_goals first | (exfalso; omega) | (rw [outsAt0_A m c ⟨n + 1, h⟩ h0 h1 h2]; dsimp only; unfold scAt0_1; rw [dif_pos h0, dif_pos h1, dif_neg h2] <;> try rfl) | (rw [outsAt0_B m c ⟨n + 1, h⟩ h0 h1 h2]; dsimp only; unfold scAt0_1; rw [dif_neg h0, dif_pos h1, dif_neg h2] <;> try rfl) | (rw [outsAt0_C m c ⟨n + 1, h⟩ h0 h1 h2]; dsimp only; unfold scAt0_1; rw [dif_neg h0, dif_neg h1, dif_pos h2] <;> try rfl))
    (by decide) t.val t.isLt _

/-- One run spans the grid. -/
theorem soutsAt0_1_sweep (c : Dev nD) (n : ℕ) (hn : n < cfg0.N) :
    (outsAt0 m c n hn).2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 132 from N_0)
  have hd : n / 132 = 0 := Nat.div_eq_of_lt hN
  have hm : n % 132 = n := Nat.mod_eq_of_lt hN
  simpa only [hd, hm, Nat.mul_zero] using e

end Cert.Kernel9Ideal.Value

end
-- ==== Proof.DownCases.lean ====
/- The feed-forward's down projection: what a grid point stores. -/
module

public import proofs.«01_k».proof.Proof.DownChunk
public import proofs.«01_k».proof.Proof.Canon
public import proofs.«01_k».proof.Proof.DownRun

@[expose] public section

set_option maxRecDepth 16384
set_option maxHeartbeats 1000000

noncomputable section

namespace Cert.Down

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ) (c : Dev nD)

/-- The layer norm a grid point stores, of the product `A` the points before left. -/
abbrev stored (t : Fin cfg0.N) (A : FVec Ideal S1024x2048 .f32) : FVec Ideal S256x2048 .f32 :=
  lined (grid0.coords t) A (iblk m c 2 t) (iblk m c 3 t) (iblk m c 4 t)

/-- What a point of an even block stores. -/
theorem even_stored (t : Fin cfg0.N) (h0 : ¬t.val % 132 = 0) (h1 : (t.val % 8 = 0 ∨ t.val % 8 = 1 ∨ t.val % 8 = 2 ∨ t.val % 8 = 3)) (h2 : ¬(t.val % 8 = 4 ∨ t.val % 8 = 5 ∨ t.val % 8 = 6 ∨ t.val % 8 = 7)) (y : S256x2048.Idx) :
    (outsAt0 m c t.val t.isLt).1 y = stored m c t (outsAt0 m c (t.val - 1) (Nat.lt_of_le_of_lt (Nat.sub_le _ _) t.isLt)).2.2.2 y := by
  rw [outsAt0_B m c t h0 h1 h2]
  dsimp only
  unfold out0_B_5
  generalize (outsAt0 m c (t.val - 1) (Nat.lt_of_le_of_lt (Nat.sub_le _ _) t.isLt)).2.2.2 = A
  refine Eq.trans (b := stored m c t (View.read (Elt Ideal) (View.whole cc0_scratch1) ((Memref.isWhole_whole cc0_scratch1).unread (Val := Elt Ideal) A)) y) ?_
    (congrArg (stored m c t · y) ((Memref.isWhole_whole cc0_scratch1).read_unread (Val := Elt Ideal) A))
  frame_out
  canon_tiles y h
  all_goals first
    | exact (chunk_eq (grid0.coords t) _ (iblk m c 2 t) (iblk m c 3 t) (iblk m c 4 t) h0 h1 (by decide))
    | exact (chunk_eq (grid0.coords t) _ (iblk m c 2 t) (iblk m c 3 t) (iblk m c 4 t) (h0.trans (Nat.zero_add _).symm) h1 (by decide))

/-- What a point of an even block stores in half the width. -/
theorem even_narrow (t : Fin cfg0.N) (h0 : ¬t.val % 132 = 0) (h1 : (t.val % 8 = 0 ∨ t.val % 8 = 1 ∨ t.val % 8 = 2 ∨ t.val % 8 = 3)) (h2 : ¬(t.val % 8 = 4 ∨ t.val % 8 = 5 ∨ t.val % 8 = 6 ∨ t.val % 8 = 7)) (y : S256x2048.Idx) :
    (outsAt0 m c t.val t.isLt).2.1 y = stored m c t (outsAt0 m c (t.val - 1) (Nat.lt_of_le_of_lt (Nat.sub_le _ _) t.isLt)).2.2.2 y := by
  rw [outsAt0_B m c t h0 h1 h2]
  dsimp only
  unfold out0_B_6
  generalize (outsAt0 m c (t.val - 1) (Nat.lt_of_le_of_lt (Nat.sub_le _ _) t.isLt)).2.2.2 = A
  refine Eq.trans (b := stored m c t (View.read (Elt Ideal) (View.whole cc0_scratch1) ((Memref.isWhole_whole cc0_scratch1).unread (Val := Elt Ideal) A)) y) ?_
    (congrArg (stored m c t · y) ((Memref.isWhole_whole cc0_scratch1).read_unread (Val := Elt Ideal) A))
  frame_out
  canon_tiles y h
  all_goals first
    | exact (narrow_eq (grid0.coords t) _ (iblk m c 2 t) (iblk m c 3 t) (iblk m c 4 t) h0 h1 (by decide))
    | exact (narrow_eq (grid0.coords t) _ (iblk m c 2 t) (iblk m c 3 t) (iblk m c 4 t) (h0.trans (Nat.zero_add _).symm) h1 (by decide))

/-- What a point of an odd block stores. -/
theorem odd_stored (t : Fin cfg0.N) (h0 : ¬t.val % 132 = 0) (h1 : ¬(t.val % 8 = 0 ∨ t.val % 8 = 1 ∨ t.val % 8 = 2 ∨ t.val % 8 = 3)) (h2 : (t.val % 8 = 4 ∨ t.val % 8 = 5 ∨ t.val % 8 = 6 ∨ t.val % 8 = 7)) (y : S256x2048.Idx) :
    (outsAt0 m c t.val t.isLt).1 y = stored m c t (outsAt0 m c (t.val - 1) (Nat.lt_of_le_of_lt (Nat.sub_le _ _) t.isLt)).2.2.1 y := by
  rw [outsAt0_C m c t h0 h1 h2]
  dsimp only
  unfold out0_C_5
  generalize (outsAt0 m c (t.val - 1) (Nat.lt_of_le_of_lt (Nat.sub_le _ _) t.isLt)).2.2.1 = A
  refine Eq.trans (b := stored m c t (View.read (Elt Ideal) (View.whole cc0_scratch0) ((Memref.isWhole_whole cc0_scratch0).unread (Val := Elt Ideal) A)) y) ?_
    (congrArg (stored m c t · y) ((Memref.isWhole_whole cc0_scratch0).read_unread (Val := Elt Ideal) A))
  frame_out
  canon_tiles y h
  all_goals first
    | exact (chunk_eq (grid0.coords t) _ (iblk m c 2 t) (iblk m c 3 t) (iblk m c 4 t) h0 h1 (by decide))
    | exact (chunk_eq (grid0.coords t) _ (iblk m c 2 t) (iblk m c 3 t) (iblk m c 4 t) (h0.trans (Nat.zero_add _).symm) h1 (by decide))

/-- What a point of an odd block stores in half the width. -/
theorem odd_narrow (t : Fin cfg0.N) (h0 : ¬t.val % 132 = 0) (h1 : ¬(t.val % 8 = 0 ∨ t.val % 8 = 1 ∨ t.val % 8 = 2 ∨ t.val % 8 = 3)) (h2 : (t.val % 8 = 4 ∨ t.val % 8 = 5 ∨ t.val % 8 = 6 ∨ t.val % 8 = 7)) (y : S256x2048.Idx) :
    (outsAt0 m c t.val t.isLt).2.1 y = stored m c t (outsAt0 m c (t.val - 1) (Nat.lt_of_le_of_lt (Nat.sub_le _ _) t.isLt)).2.2.1 y := by
  rw [outsAt0_C m c t h0 h1 h2]
  dsimp only
  unfold out0_C_6
  generalize (outsAt0 m c (t.val - 1) (Nat.lt_of_le_of_lt (Nat.sub_le _ _) t.isLt)).2.2.1 = A
  refine Eq.trans (b := stored m c t (View.read (Elt Ideal) (View.whole cc0_scratch0) ((Memref.isWhole_whole cc0_scratch0).unread (Val := Elt Ideal) A)) y) ?_
    (congrArg (stored m c t · y) ((Memref.isWhole_whole cc0_scratch0).read_unread (Val := Elt Ideal) A))
  frame_out
  canon_tiles y h
  all_goals first
    | exact (narrow_eq (grid0.coords t) _ (iblk m c 2 t) (iblk m c 3 t) (iblk m c 4 t) h0 h1 (by decide))
    | exact (narrow_eq (grid0.coords t) _ (iblk m c 2 t) (iblk m c 3 t) (iblk m c 4 t) (h0.trans (Nat.zero_add _).symm) h1 (by decide))

end Cert.Down

end
-- ==== Proof.DownLeft.lean ====
/- The feed-forward's down projection: what a grid point leaves for the next. -/
module

public import proofs.«01_k».proof.Proof.DownChunk
public import proofs.«01_k».proof.Proof.Canon
public import proofs.«01_k».proof.Proof.DownRun

@[expose] public section

set_option maxRecDepth 16384
set_option maxHeartbeats 1000000

noncomputable section

namespace Cert.Down

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ) (c : Dev nD)

/-- A point of an even block leaves the second buffer. -/
theorem even_kept (t : Fin cfg0.N) (h0 : ¬t.val % 132 = 0) (h1 : (t.val % 8 = 0 ∨ t.val % 8 = 1 ∨ t.val % 8 = 2 ∨ t.val % 8 = 3)) (h2 : ¬(t.val % 8 = 4 ∨ t.val % 8 = 5 ∨ t.val % 8 = 6 ∨ t.val % 8 = 7)) :
    (outsAt0 m c t.val t.isLt).2.2.2 = (outsAt0 m c (t.val - 1) (Nat.lt_of_le_of_lt (Nat.sub_le _ _) t.isLt)).2.2.2 := by
  rw [outsAt0_B m c t h0 h1 h2]
  rfl

/-- A point of an odd block leaves the first buffer. -/
theorem odd_kept (t : Fin cfg0.N) (h0 : ¬t.val % 132 = 0) (h1 : ¬(t.val % 8 = 0 ∨ t.val % 8 = 1 ∨ t.val % 8 = 2 ∨ t.val % 8 = 3)) (h2 : (t.val % 8 = 4 ∨ t.val % 8 = 5 ∨ t.val % 8 = 6 ∨ t.val % 8 = 7)) :
    (outsAt0 m c t.val t.isLt).2.2.1 = (outsAt0 m c (t.val - 1) (Nat.lt_of_le_of_lt (Nat.sub_le _ _) t.isLt)).2.2.1 := by
  rw [outsAt0_C m c t h0 h1 h2]
  rfl

/-- What a point of an even block leaves in the first buffer. -/
theorem even_left (t : Fin cfg0.N) (h0 : ¬t.val % 132 = 0) (h1 : (t.val % 8 = 0 ∨ t.val % 8 = 1 ∨ t.val % 8 = 2 ∨ t.val % 8 = 3)) (h2 : ¬(t.val % 8 = 4 ∨ t.val % 8 = 5 ∨ t.val % 8 = 6 ∨ t.val % 8 = 7)) (y : S1024x2048.Idx) :
    (outsAt0 m c t.val t.isLt).2.2.1 y = grown (grid0.coords t) (outsAt0 m c (t.val - 1) (Nat.lt_of_le_of_lt (Nat.sub_le _ _) t.isLt)).2.2.1 (iblk m c 0 t) (iblk m c 1 t) y := by
  rw [outsAt0_B m c t h0 h1 h2]
  dsimp only
  unfold sout0_B_0
  generalize (outsAt0 m c (t.val - 1) (Nat.lt_of_le_of_lt (Nat.sub_le _ _) t.isLt)).2.2.1 = A
  refine Eq.trans (b := grown (grid0.coords t) (View.read (Elt Ideal) (View.whole cc0_scratch0) ((Memref.isWhole_whole cc0_scratch0).unread (Val := Elt Ideal) A)) (iblk m c 0 t) (iblk m c 1 t) y) ?_
    (congrArg (grown (grid0.coords t) · (iblk m c 0 t) (iblk m c 1 t) y) ((Memref.isWhole_whole cc0_scratch0).read_unread (Val := Elt Ideal) A))
  frame_out
  canon_tiles y h
  all_goals first
    | exact (grown_at (grid0.coords t) _ (iblk m c 0 t) (iblk m c 1 t) _ _ _ _ _ h0 h1)
    | exact (grown_at (grid0.coords t) _ (iblk m c 0 t) (iblk m c 1 t) _ _ _ _ _ h0 (h1.trans (Nat.zero_add _).symm))

/-- What a point of an odd block leaves in the second buffer. -/
theorem odd_left (t : Fin cfg0.N) (h0 : ¬t.val % 132 = 0) (h1 : ¬(t.val % 8 = 0 ∨ t.val % 8 = 1 ∨ t.val % 8 = 2 ∨ t.val % 8 = 3)) (h2 : (t.val % 8 = 4 ∨ t.val % 8 = 5 ∨ t.val % 8 = 6 ∨ t.val % 8 = 7)) (y : S1024x2048.Idx) :
    (outsAt0 m c t.val t.isLt).2.2.2 y = grown (grid0.coords t) (outsAt0 m c (t.val - 1) (Nat.lt_of_le_of_lt (Nat.sub_le _ _) t.isLt)).2.2.2 (iblk m c 0 t) (iblk m c 1 t) y := by
  rw [outsAt0_C m c t h0 h1 h2]
  dsimp only
  unfold sout0_C_1
  generalize (outsAt0 m c (t.val - 1) (Nat.lt_of_le_of_lt (Nat.sub_le _ _) t.isLt)).2.2.2 = A
  refine Eq.trans (b := grown (grid0.coords t) (View.read (Elt Ideal) (View.whole cc0_scratch1) ((Memref.isWhole_whole cc0_scratch1).unread (Val := Elt Ideal) A)) (iblk m c 0 t) (iblk m c 1 t) y) ?_
    (congrArg (grown (grid0.coords t) · (iblk m c 0 t) (iblk m c 1 t) y) ((Memref.isWhole_whole cc0_scratch1).read_unread (Val := Elt Ideal) A))
  frame_out
  canon_tiles y h
  all_goals first
    | exact (grown_at (grid0.coords t) _ (iblk m c 0 t) (iblk m c 1 t) _ _ _ _ _ h0 h1)
    | exact (grown_at (grid0.coords t) _ (iblk m c 0 t) (iblk m c 1 t) _ _ _ _ _ h0 (h1.trans (Nat.zero_add _).symm))

/-- What the first point leaves in the first buffer. -/
theorem first_left (t : Fin cfg0.N) (hi : ((grid0.coords t) 1).val = 0) (h0 : t.val % 132 = 0) (h1 : (t.val % 8 = 0 ∨ t.val % 8 = 1 ∨ t.val % 8 = 2 ∨ t.val % 8 = 3)) (h2 : ¬(t.val % 8 = 4 ∨ t.val % 8 = 5 ∨ t.val % 8 = 6 ∨ t.val % 8 = 7)) (y : S1024x2048.Idx) :
    (outsAt0 m c t.val t.isLt).2.2.1 y = product (iblk m c 0 t) (iblk m c 1 t) y := by
  rw [outsAt0_A m c t h0 h1 h2]
  dsimp only
  unfold sout0_A_0
  frame_out
  refine group_first _ _ _ _ y _ (fun x hy0 hy1 => fresh_at (grid0.coords t) hi _ (iblk m c 0 t) (iblk m c 1 t) _ _ x y hy0 hy1) fun n3 => ?_
  refine group_first _ _ _ _ y _ (fun x hy0 hy1 => fresh_at (grid0.coords t) hi _ (iblk m c 0 t) (iblk m c 1 t) _ _ x y hy0 hy1) fun n2 => ?_
  refine group_first _ _ _ _ y _ (fun x hy0 hy1 => fresh_at (grid0.coords t) hi _ (iblk m c 0 t) (iblk m c 1 t) _ _ x y hy0 hy1) fun n1 => ?_
  refine group_first _ _ _ _ y _ (fun x hy0 hy1 => fresh_at (grid0.coords t) hi _ (iblk m c 0 t) (iblk m c 1 t) _ _ x y hy0 hy1) fun n0 => ?_
  have := (y 1).isLt
  have : (y 1).val < 2048 := this
  omega

end Cert.Down

end
-- ==== Proof.DownSpec.lean ====
/- The feed-forward's down projection: the reference's results at an entry. -/
module

public import proofs.«01_k».proof.Proof.Gen.Reference9Ideal.Run
public import proofs.«01_k».proof.Proof.Normed
public import Idealize.ShloMosaic.Lib.Pipeline.ValueKit

@[expose] public section

set_option maxRecDepth 16384

noncomputable section

namespace Cert.Down

open Idealize.ShloMosaic Idealize.ShloMosaic.TcCoe Idealize.SL.Sem
open Cert.Reference9Ideal Cert.Reference9Ideal.Gen
open Cert.Normed

variable (X : FVec Ideal S32768x5632 .bf16) (res : FVec Ideal S32768x2048 .f32) (W : FVec Ideal S4x5632x2048 .f32) (g : FVec Ideal S4x2048 .f32) (b : FVec Ideal S4x2048 .f32)

/-- The reference's residual stream with the product added. -/
def summed : FVec Ideal S16x2048x2048 .f32 :=
  addf (mulf (broadcastInDim S16x2048x2048 ![] bcast_S_S16x2048x2048 (constant S_ .f32 0x3FD744FD#32)) (shapeCast _ res shapeCasts_S32768x2048_S16x2048x2048)) (Host.dotGeneral dot_S16x2048x5632_S5632x2048_S16x2048x2048_2_0_01_1_n_n none (shapeCast _ (extf .f32 X bitsLt_bf16_f32) shapeCasts_S32768x5632_S16x2048x5632) (shapeCast _ (extractStridedSlice S1x5632x2048 ![3, 0, 0] W slices_S4x5632x2048_S1x5632x2048_3_0_0) shapeCasts_S1x5632x2048_S5632x2048))

/-- The reference's mean of every row. -/
def means (Y : FVec Ideal S16x2048x2048 .f32) : FVec Ideal S16x2048x1 .f32 :=
  Host.divf (broadcastInDim S16x2048x1 ![0, 1] bcast_S16x2048_S16x2048x1_0_1 (Host.reduceAdd Y (constant S_ .f32 0x00000000#32) reducesTo_S16x2048x2048_S16x2048_d2 h_S_)) (broadcastInDim S16x2048x1 ![] bcast_S_S16x2048x1 (constant S_ .f32 0x45000000#32))

/-- The reference's rows less their means. -/
def centred (Y : FVec Ideal S16x2048x2048 .f32) : FVec Ideal S16x2048x2048 .f32 :=
  subf Y (broadcastInDim S16x2048x2048 ![0, 1, 2] bcast_S16x2048x1_S16x2048x2048_0_1_2 (means Y))

/-- The reference's layer norm. -/
def scaled (Y : FVec Ideal S16x2048x2048 .f32) : FVec Ideal S32768x2048 .f32 :=
  shapeCast _ (addf (mulf (mulf (centred Y) (broadcastInDim S16x2048x2048 ![0, 1, 2] bcast_S16x2048x1_S16x2048x2048_0_1_2 (Host.rsqrt (addf (means (mulf (centred Y) (centred Y))) (broadcastInDim S16x2048x1 ![] bcast_S_S16x2048x1 (constant S_ .f32 0x3727C5AC#32)))))) (broadcastInDim S16x2048x2048 ![0, 1, 2] bcast_S1x1x2048_S16x2048x2048_0_1_2 (broadcastInDim S1x1x2048 ![2] bcast_S2048_S1x1x2048_2 (shapeCast _ (extractStridedSlice S1x2048 ![3, 0] g slices_S4x2048_S1x2048_3_0) shapeCasts_S1x2048_S2048)))) (broadcastInDim S16x2048x2048 ![0, 1, 2] bcast_S1x1x2048_S16x2048x2048_0_1_2 (broadcastInDim S1x1x2048 ![2] bcast_S2048_S1x1x2048_2 (shapeCast _ (extractStridedSlice S1x2048 ![3, 0] b slices_S4x2048_S1x2048_3_0) shapeCasts_S1x2048_S2048)))) shapeCasts_S16x2048x2048_S32768x2048

/-- The reference's result. -/
def result : FVec Ideal S32768x2048 .f32 := scaled g b (summed X res W)

/-- The reference's result in half the width. -/
def narrow : FVec Ideal S32768x2048 .bf16 := truncf .bf16 (result X res W g b) bitsLt_bf16_f32

/-- The reference's run leaves this result. -/
theorem run_result (m : (ℓ : Loc nD τ sig) → Buf (Elt Ideal) ℓ) (c : Dev nD) :
    Cert.Reference9Ideal.Value.res_out0 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The reference's run leaves the same result in half the width. -/
theorem run_narrow (m : (ℓ : Loc nD τ sig) → Buf (Elt Ideal) ℓ) (c : Dev nD) :
    Cert.Reference9Ideal.Value.res_out1 m c = narrow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- A row of the gated activations against a column of the down projection. -/
def prod (X : FVec Ideal S32768x5632 .bf16) (W : FVec Ideal S4x5632x2048 .f32) (R : Fin 32768) (Q : Fin 2048) : EReal := ∑ k : Fin 5632, X (ix2 R k) * W (ix3 3 k Q)

/-- A row of the residual stream with its product added. -/
def line (R : Fin 32768) : Fin 2048 → EReal := added (fun j => res (ix2 R j)) (fun j => prod X W R j)

/-- An entry of the result. -/
def entry (R : Fin 32768) (Q : Fin 2048) : EReal := normed (line X res W R) (fun j => g (ix2 3 j)) (fun j => b (ix2 3 j)) Q

/-- The reference's sum at an entry. -/
theorem summed_at (s : Fin 16) (r j : Fin 2048) : summed X res W (ix3 s r j) = line X res W ⟨s.val * 2048 + r.val, by omega⟩ j := by
  pointwise [summed, line, added, prod]

/-- The reference's means. -/
theorem means_at (Y : FVec Ideal S16x2048x2048 .f32) (s : Fin 16) (r : Fin 2048) : means Y (ix3 s r 0) = mean fun j => Y (ix3 s r j) := by
  pointwise [means]
  unfold mean
  simp [Ideal.ofBits]

/-- The reference's rows less their means. -/
theorem centred_at (Y : FVec Ideal S16x2048x2048 .f32) (s : Fin 16) (r j : Fin 2048) :
    centred Y (ix3 s r j) = Y (ix3 s r j) - mean fun j => Y (ix3 s r j) := by
  pointwise [centred]
  rw [means_at]

/-- The reference's layer norm at an entry. -/
theorem scaled_at (Y : FVec Ideal S16x2048x2048 .f32) (R : Fin 32768) (Q : Fin 2048) :
    scaled g b Y (ix2 R Q) = normed (fun j => Y (ix3 ⟨R.val / 2048, by omega⟩ ⟨R.val % 2048, by omega⟩ j)) (fun j => g (ix2 3 j)) (fun j => b (ix2 3 j)) Q := by
  pointwise [scaled]
  rw [means_at, centred_at]
  pointwise
  simp only [centred_at]
  rfl

/-- The reference's result at an entry. -/
theorem result_at (R : Fin 32768) (Q : Fin 2048) : result X res W g b (ix2 R Q) = entry X res W g b R Q := by
  unfold result
  rw [scaled_at]
  unfold entry
  refine congrArg (normed · _ _ Q) (funext fun j => ?_)
  rw [summed_at]
  refine congrArg (line X res W · j) (Fin.ext ?_)
  show R.val / 2048 * 2048 + R.val % 2048 = R.val
  omega

/-- One product of a row of the activations with a column of the down projection, nothing past the last. -/
def term (R : Fin 32768) (Q : Fin 2048) (k : ℕ) : EReal := if h : k < 5632 then X (ix2 R ⟨k, h⟩) * W (ix3 3 ⟨k, h⟩ Q) else 0

/-- The products of the first `n` blocks of 1408. -/
def upto (R : Fin 32768) (Q : Fin 2048) (n : ℕ) : EReal := ∑ k ∈ Finset.range (n * 1408), term X W R Q k

/-- No block yet. -/
theorem upto_zero (R : Fin 32768) (Q : Fin 2048) : upto X W R Q 0 = 0 := by
  unfold upto
  rw [Nat.zero_mul, Finset.range_zero, Finset.sum_empty]

/-- One block more. -/
theorem upto_succ (R : Fin 32768) (Q : Fin 2048) (n : ℕ) :
    upto X W R Q (n + 1) = upto X W R Q n + ∑ k : Fin 1408, term X W R Q (n * 1408 + k.val) := by
  unfold upto
  rw [Nat.succ_mul, Finset.sum_range_add, Finset.sum_range (fun x => term X W R Q (n * 1408 + x))]

/-- Four blocks are the whole product. -/
theorem upto_four (R : Fin 32768) (Q : Fin 2048) : upto X W R Q 4 = prod X W R Q := by
  unfold upto prod
  rw [show 4 * 1408 = 5632 from rfl, Finset.sum_range]
  refine Finset.sum_congr rfl fun k _ => ?_
  unfold term
  rw [dif_pos k.isLt]

end Cert.Down

end
-- ==== Proof.DownValue.lean ====
/- The feed-forward's down projection: the kernel's result arrays. -/
module

public import proofs.«01_k».proof.Proof.DownCases
public import proofs.«01_k».proof.Proof.DownLeft
public import proofs.«01_k».proof.Proof.DownSpec

@[expose] public section

set_option maxRecDepth 16384

noncomputable section

namespace Cert.Down

open Idealize.ShloMosaic Idealize.ShloMosaic.TcCoe Idealize.SL.Sem
open Idealize.ShloMosaic.Pipeline (Dat)
open Cert.Kernel9Ideal Cert.Kernel9Ideal.Gen
open Cert.Normed

variable (m : (ℓ : Loc nD τ sig) → Buf (Elt Ideal) ℓ) (c : Dev nD)

/-- The gated activations, the residual stream, the weights, the scales and the shifts. -/
abbrev inX : FVec Ideal Cert.Reference9Ideal.S32768x5632 .bf16 := m ((c : Thread nD τ).loc main_arg0)
@[inherit_doc inX] abbrev inR : FVec Ideal Cert.Reference9Ideal.S32768x2048 .f32 := m ((c : Thread nD τ).loc main_arg1)
@[inherit_doc inX] abbrev inW : FVec Ideal Cert.Reference9Ideal.S4x5632x2048 .f32 := m ((c : Thread nD τ).loc main_arg2)
@[inherit_doc inX] abbrev inG : FVec Ideal Cert.Reference9Ideal.S4x2048 .f32 := m ((c : Thread nD τ).loc main_arg3)
@[inherit_doc inX] abbrev inB : FVec Ideal Cert.Reference9Ideal.S4x2048 .f32 := m ((c : Thread nD τ).loc main_arg4)

/-- The blocks each grid point reads and writes, and its second coordinate. -/
theorem idx : ∀ t : Fin cfg0.N, win0_0.index t = ![min (t.val / 4) 31, t.val % 4] ∧ win0_1.index t = ![3, t.val % 4, 0] ∧ win0_2.index t = ![t.val - 4, 0]
    ∧ win0_3.index t = ![0, 0] ∧ win0_4.index t = ![0, 0] ∧ win0_5.index t = ![t.val - 4, 0] ∧ win0_6.index t = ![t.val - 4, 0] ∧ t.val < 132
    ∧ ((grid0.coords t) 1).val = t.val % 4 :=
  (by decide +kernel : ∀ t : Fin grid0.N, _)

/-- There are 132 grid points. -/
theorem count (t : Fin cfg0.N) : t.val < 132 := (idx t).2.2.2.2.2.2.2.1

/-- A point's second coordinate is its block of the inner dimension. -/
theorem coord (t : Fin cfg0.N) : ((grid0.coords t) 1).val = t.val % 4 := (idx t).2.2.2.2.2.2.2.2

/-- The first four points write nothing back. -/
theorem later : ∀ t : Fin cfg0.N, (cfg0.win 5).flush t = true → 4 ≤ t.val :=
  (by decide +kernel : ∀ t : Fin grid0.N, _)

@[inherit_doc later] theorem later_narrow : ∀ t : Fin cfg0.N, (cfg0.win 6).flush t = true → 4 ≤ t.val :=
  (by decide +kernel : ∀ t : Fin grid0.N, _)

/-- The row of the result a row of a point's block is. -/
def row (t : Fin cfg0.N) (r : Fin 256) : Fin 32768 := ⟨(t.val - 4) * 256 + r.val, by have := count t; omega⟩

/-- The row of the activations a row of a block of 1024 is. -/
def rowX (b : ℕ) (r : Fin 1024) : Fin 32768 := ⟨min b 31 * 1024 + r.val, by omega⟩

/-- A place in the inner dimension, from a point's block of it. -/
def inner (t : Fin cfg0.N) (k : Fin 1408) : Fin 5632 := ⟨t.val % 4 * 1408 + k.val, by omega⟩

/-- The kernel's copy of the weights. -/
theorem weight_entry : (V m c main_v0 : FVec Ideal S4x5632x2048 .bf16) = m ((c : Thread nD τ).loc main_arg2) := by
  entry_read
  rfl

/-- The kernel's scales. -/
theorem scale_entry (Q : Fin 2048) : (V m c main_v5 : FVec Ideal S1x2048 .f32) (ix2 0 Q) = inG m c (ix2 3 Q) := by
  entry_read
  pointwise

/-- The kernel's shifts. -/
theorem shift_entry (Q : Fin 2048) : (V m c main_v6 : FVec Ideal S1x2048 .f32) (ix2 0 Q) = inB m c (ix2 3 Q) := by
  entry_read
  pointwise

/-- The activations' block at an entry. -/
theorem x_at (t : Fin cfg0.N) (r : Fin 1024) (k : Fin 1408) : (iblk m c 0 t : FVec Ideal S1024x1408 .bf16) (ix2 r k) = inX m c (ix2 (rowX (t.val / 4) r) (inner t k)) := by
  blk_point [iblk, V, idx t, rowX, inner]

/-- The weights' block at an entry. -/
theorem w_at (t : Fin cfg0.N) (k : Fin 1408) (q : Fin 2048) : (iblk m c 1 t : FVec Ideal S1x1408x2048 .bf16) (ix3 0 k q) = inW m c (ix3 3 (inner t k) q) := by
  have key (A : FVec Ideal S4x5632x2048 .bf16) : A ((win0_1.blk t).view.emb (ix3 0 k q)) = A (ix3 3 (inner t k) q) := by
    blk_ext [idx t, inner]
  unfold iblk
  rw [View.read_apply]
  exact (key _).trans (congrFun (weight_entry m c) _)

/-- The residual stream's block at an entry. -/
theorem r_at (t : Fin cfg0.N) (r : Fin 256) (j : Fin 2048) : (iblk m c 2 t : FVec Ideal S256x2048 .f32) (ix2 r j) = inR m c (ix2 (row t r) j) := by
  blk_point [iblk, V, idx t, row]

/-- The scales' block at an entry. -/
theorem g_at (t : Fin cfg0.N) (q : Fin 2048) : (iblk m c 3 t : FVec Ideal S1x2048 .f32) (ix2 0 q) = inG m c (ix2 3 q) := by
  have key (A : FVec Ideal S1x2048 .f32) : A ((win0_3.blk t).view.emb (ix2 0 q)) = A (ix2 0 q) := by
    blk_ext [idx t]
  unfold iblk
  rw [View.read_apply]
  exact (key _).trans (scale_entry m c _)

/-- The shifts' block at an entry. -/
theorem b_at (t : Fin cfg0.N) (q : Fin 2048) : (iblk m c 4 t : FVec Ideal S1x2048 .f32) (ix2 0 q) = inB m c (ix2 3 q) := by
  have key (A : FVec Ideal S1x2048 .f32) : A ((win0_4.blk t).view.emb (ix2 0 q)) = A (ix2 0 q) := by
    blk_ext [idx t]
  unfold iblk
  rw [View.read_apply]
  exact (key _).trans (shift_entry m c _)

/-- A point's product is one block of the rows' products. -/
theorem product_at (t : Fin cfg0.N) (r : Fin 1024) (j : Fin 2048) :
    product (iblk m c 0 t) (iblk m c 1 t) (ix2 r j) = ∑ k : Fin 1408, term (inX m c) (inW m c) (rowX (t.val / 4) r) j (t.val % 4 * 1408 + k.val) := by
  unfold product term
  refine Finset.sum_congr rfl fun k _ => ?_
  rw [dif_pos (show t.val % 4 * 1408 + k.val < 5632 by omega)]
  exact congrArg₂ (· * ·) (x_at m c t r k) (w_at m c t k j)

/-- Where a buffer held the blocks before a point's, what it then holds is one block more. -/
theorem step (t : Fin cfg0.N) (A : FVec Ideal S1024x2048 .f32) (r : Fin 1024) (j : Fin 2048)
    (hA : t.val % 4 ≠ 0 → A (ix2 r j) = upto (inX m c) (inW m c) (rowX (t.val / 4) r) j (t.val % 4)) :
    grown (grid0.coords t) A (iblk m c 0 t) (iblk m c 1 t) (ix2 r j) = upto (inX m c) (inW m c) (rowX (t.val / 4) r) j (t.val % 4 + 1) := by
  unfold grown
  rw [product_at, coord, upto_succ]
  refine congrArg (· + _) ?_
  by_cases hz : t.val % 4 = 0
  · rw [if_pos hz, hz, upto_zero]
  · rw [if_neg hz]
    exact hA hz

/-- After each point the block's buffer holds the blocks of the product so far. -/
theorem grows (n : ℕ) (hn : n < cfg0.N) (r : Fin 1024) (j : Fin 2048) :
    (n % 8 < 4 → (outsAt0 m c n hn).2.2.1 (ix2 r j) = upto (inX m c) (inW m c) (rowX (n / 4) r) j (n % 4 + 1))
      ∧ (¬n % 8 < 4 → (outsAt0 m c n hn).2.2.2 (ix2 r j) = upto (inX m c) (inW m c) (rowX (n / 4) r) j (n % 4 + 1)) := by
  induction n with
  | zero =>
    refine ⟨fun _ => ?_, fun h => absurd (show 0 % 8 < 4 by decide) h⟩
    refine (first_left m c ⟨0, hn⟩ ((coord ⟨0, hn⟩).trans rfl) rfl (Or.inl rfl) (show ¬(0 % 8 = 4 ∨ 0 % 8 = 5 ∨ 0 % 8 = 6 ∨ 0 % 8 = 7) by decide) (ix2 r j)).trans ?_
    refine Eq.trans ?_ (step m c ⟨0, hn⟩ (fun _ => 0) r j fun h => absurd rfl h)
    have h0 : ((grid0.coords ⟨0, hn⟩ 1 : Fin _) : ℕ) = 0 := (coord ⟨0, hn⟩).trans rfl
    unfold grown
    rw [if_pos h0, zero_add]
  | succ n ih =>
    have hc : n + 1 < 132 := count ⟨n + 1, hn⟩
    have hi := ih (Nat.lt_of_succ_lt hn)
    refine ⟨fun h => ?_, fun h => ?_⟩
    · refine (even_left m c ⟨n + 1, hn⟩ (show ¬(n + 1) % 132 = 0 by omega) (show (n + 1) % 8 = 0 ∨ (n + 1) % 8 = 1 ∨ (n + 1) % 8 = 2 ∨ (n + 1) % 8 = 3 by omega)
        (show ¬((n + 1) % 8 = 4 ∨ (n + 1) % 8 = 5 ∨ (n + 1) % 8 = 6 ∨ (n + 1) % 8 = 7) by omega) (ix2 r j)).trans ?_
      refine step m c ⟨n + 1, hn⟩ _ r j fun hz => ?_
      replace hz : (n + 1) % 4 ≠ 0 := hz
      refine (hi.1 (by omega)).trans ?_
      show upto (inX m c) (inW m c) (rowX (n / 4) r) j (n % 4 + 1) = upto (inX m c) (inW m c) (rowX ((n + 1) / 4) r) j ((n + 1) % 4)
      rw [show (n + 1) / 4 = n / 4 by omega, show (n + 1) % 4 = n % 4 + 1 by omega]
    · refine (odd_left m c ⟨n + 1, hn⟩ (show ¬(n + 1) % 132 = 0 by omega) (show ¬((n + 1) % 8 = 0 ∨ (n + 1) % 8 = 1 ∨ (n + 1) % 8 = 2 ∨ (n + 1) % 8 = 3) by omega)
        (show (n + 1) % 8 = 4 ∨ (n + 1) % 8 = 5 ∨ (n + 1) % 8 = 6 ∨ (n + 1) % 8 = 7 by omega) (ix2 r j)).trans ?_
      refine step m c ⟨n + 1, hn⟩ _ r j fun hz => ?_
      replace hz : (n + 1) % 4 ≠ 0 := hz
      refine (hi.2 (by omega)).trans ?_
      show upto (inX m c) (inW m c) (rowX (n / 4) r) j (n % 4 + 1) = upto (inX m c) (inW m c) (rowX ((n + 1) / 4) r) j ((n + 1) % 4)
      rw [show (n + 1) / 4 = n / 4 by omega, show (n + 1) % 4 = n % 4 + 1 by omega]

/-- Before each point after the first four the other buffer holds the whole product of the block before. -/
theorem whole (n : ℕ) (hn : n + 1 < cfg0.N) (h4 : 4 ≤ n + 1) (r : Fin 1024) (j : Fin 2048) :
    ((n + 1) % 8 < 4 → (outsAt0 m c n (Nat.lt_of_succ_lt hn)).2.2.2 (ix2 r j) = prod (inX m c) (inW m c) (rowX ((n + 1) / 4 - 1) r) j)
      ∧ (¬(n + 1) % 8 < 4 → (outsAt0 m c n (Nat.lt_of_succ_lt hn)).2.2.1 (ix2 r j) = prod (inX m c) (inW m c) (rowX ((n + 1) / 4 - 1) r) j) := by
  induction n with
  | zero => omega
  | succ n ih =>
    have hn' : n + 1 < cfg0.N := Nat.lt_of_succ_lt hn
    have hc : n + 1 < 132 := count ⟨n + 1, hn'⟩
    by_cases hz : (n + 1 + 1) % 4 = 0
    · have hg := grows m c (n + 1) hn' r j
      rw [show (n + 1) / 4 = (n + 1 + 1) / 4 - 1 by omega, show (n + 1) % 4 + 1 = 4 by omega, upto_four] at hg
      exact ⟨fun h => hg.2 (by omega), fun h => hg.1 (by omega)⟩
    · have hi := ih hn' (by omega)
      rw [show (n + 1) / 4 = (n + 1 + 1) / 4 by omega] at hi
      refine ⟨fun h => ?_, fun h => ?_⟩
      · refine Eq.trans (congrFun (even_kept m c ⟨n + 1, hn'⟩ (show ¬(n + 1) % 132 = 0 by omega) (show (n + 1) % 8 = 0 ∨ (n + 1) % 8 = 1 ∨ (n + 1) % 8 = 2 ∨ (n + 1) % 8 = 3 by omega)
          (show ¬((n + 1) % 8 = 4 ∨ (n + 1) % 8 = 5 ∨ (n + 1) % 8 = 6 ∨ (n + 1) % 8 = 7) by omega)) (ix2 r j)) (hi.1 (by omega))
      · refine Eq.trans (congrFun (odd_kept m c ⟨n + 1, hn'⟩ (show ¬(n + 1) % 132 = 0 by omega) (show ¬((n + 1) % 8 = 0 ∨ (n + 1) % 8 = 1 ∨ (n + 1) % 8 = 2 ∨ (n + 1) % 8 = 3) by omega)
          (show (n + 1) % 8 = 4 ∨ (n + 1) % 8 = 5 ∨ (n + 1) % 8 = 6 ∨ (n + 1) % 8 = 7 by omega)) (ix2 r j)) (hi.2 (by omega))

/-- The rows a point reads of the other buffer are the rows it stores. -/
theorem row_eq (t : Fin cfg0.N) (h4 : 4 ≤ t.val) (r : Fin 256) : rowX (t.val / 4 - 1) (rowOf (grid0.coords t) r) = row t r := by
  have hc := count t
  refine Fin.ext ?_
  show min (t.val / 4 - 1) 31 * 1024 + (256 * ((grid0.coords t) 1).val + r.val) = (t.val - 4) * 256 + r.val
  rw [coord t]
  omega

/-- The layer norm a point stores, where the points before left the product. -/
theorem stored_at (t : Fin cfg0.N) (A : FVec Ideal S1024x2048 .f32) (r : Fin 256) (q : Fin 2048)
    (h : ∀ j, A (ix2 (rowOf (grid0.coords t) r) j) = prod (inX m c) (inW m c) (row t r) j) :
    stored m c t A (ix2 r q) = entry (inX m c) (inR m c) (inW m c) (inG m c) (inB m c) (row t r) q := by
  have e0 : (fun j => A (ix2 (rowOf (grid0.coords t) r) j)) = fun j => prod (inX m c) (inW m c) (row t r) j := funext h
  have e1 : (fun j => (iblk m c 2 t : FVec Ideal S256x2048 .f32) (ix2 r j)) = fun j => inR m c (ix2 (row t r) j) := funext (r_at m c t r)
  have e2 : (fun j => (iblk m c 3 t : FVec Ideal S1x2048 .f32) (ix2 0 j)) = fun j => inG m c (ix2 3 j) := funext (g_at m c t)
  have e3 : (fun j => (iblk m c 4 t : FVec Ideal S1x2048 .f32) (ix2 0 j)) = fun j => inB m c (ix2 3 j) := funext (b_at m c t)
  show normed (added (fun j => (iblk m c 2 t : FVec Ideal S256x2048 .f32) (ix2 r j)) (fun j => A (ix2 (rowOf (grid0.coords t) r) j)))
    (fun j => (iblk m c 3 t : FVec Ideal S1x2048 .f32) (ix2 0 j)) (fun j => (iblk m c 4 t : FVec Ideal S1x2048 .f32) (ix2 0 j)) q = _
  rw [e0, e1, e2, e3]
  rfl

/-- Before a point of an even block the second buffer holds the rows' product. -/
theorem held_even (t : Fin cfg0.N) (h4 : 4 ≤ t.val) (h : t.val % 8 < 4) (r : Fin 256) (j : Fin 2048) :
    (outsAt0 m c (t.val - 1) (Nat.lt_of_le_of_lt (Nat.sub_le _ _) t.isLt)).2.2.2 (ix2 (rowOf (grid0.coords t) r) j) = prod (inX m c) (inW m c) (row t r) j := by
  rw [← row_eq t h4 r]
  obtain ⟨_ | n, hn⟩ := t
  · exact absurd h4 (show ¬4 ≤ 0 by decide)
  · exact (whole m c n hn h4 _ j).1 h

/-- Before a point of an odd block the first buffer holds the rows' product. -/
theorem held_odd (t : Fin cfg0.N) (h4 : 4 ≤ t.val) (h : ¬t.val % 8 < 4) (r : Fin 256) (j : Fin 2048) :
    (outsAt0 m c (t.val - 1) (Nat.lt_of_le_of_lt (Nat.sub_le _ _) t.isLt)).2.2.1 (ix2 (rowOf (grid0.coords t) r) j) = prod (inX m c) (inW m c) (row t r) j := by
  rw [← row_eq t h4 r]
  obtain ⟨_ | n, hn⟩ := t
  · exact absurd h4 (show ¬4 ≤ 0 by decide)
  · exact (whole m c n hn h4 _ j).2 h

/-- What a grid point after the first four leaves in its block of the result. -/
theorem point (t : Fin cfg0.N) (h4 : 4 ≤ t.val) (r : Fin 256) (q : Fin 2048) :
    (outsAt0 m c t.val t.isLt).1 (ix2 r q) = entry (inX m c) (inR m c) (inW m c) (inG m c) (inB m c) (row t r) q := by
  have hc := count t
  by_cases h : t.val % 8 < 4
  · rw [even_stored m c t (by omega) (by omega) (by omega)]
    exact stored_at m c t _ r q fun j => held_even m c t h4 h r j
  · rw [odd_stored m c t (by omega) (by omega) (by omega)]
    exact stored_at m c t _ r q fun j => held_odd m c t h4 h r j

/-- The same of the result in half the width. -/
theorem point_narrow (t : Fin cfg0.N) (h4 : 4 ≤ t.val) (r : Fin 256) (q : Fin 2048) :
    (outsAt0 m c t.val t.isLt).2.1 (ix2 r q) = entry (inX m c) (inR m c) (inW m c) (inG m c) (inB m c) (row t r) q := by
  have hc := count t
  by_cases h : t.val % 8 < 4
  · rw [even_narrow m c t (by omega) (by omega) (by omega)]
    exact stored_at m c t _ r q fun j => held_even m c t h4 h r j
  · rw [odd_narrow m c t (by omega) (by omega) (by omega)]
    exact stored_at m c t _ r q fun j => held_odd m c t h4 h r j

/-- The result array after the run is the reference's result. -/
theorem final : (dats m 0 c).arrAt 5 cfg0.N = result (inX m c) (inR m c) (inW m c) (inG m c) (inB m c) := by
  refine (dats m 0 c).arrAt_eq_of_covers 5 _ (by decide +kernel) fun t hf y => ?_
  blk_simp
  rw [after0_5]
  have ey : ((cfg0.win 5).blk t).view.emb y = ix2 (row t (y 0)) (y 1) := by
    blk_ext [idx t, row]
  refine ((congrArg _ (eq_ix2 y)).trans (point m c t (later t hf) (y 0) (y 1))).trans ?_
  exact (result_at (inX m c) (inR m c) (inW m c) (inG m c) (inB m c) _ _).symm.trans (congrArg (result (inX m c) (inR m c) (inW m c) (inG m c) (inB m c)) ey.symm)

/-- The second result array after the run is the reference's. -/
theorem final_narrow : (dats m 0 c).arrAt 6 cfg0.N = narrow (inX m c) (inR m c) (inW m c) (inG m c) (inB m c) := by
  refine (dats m 0 c).arrAt_eq_of_covers 6 _ (by decide +kernel) fun t hf y => ?_
  blk_simp
  rw [after0_6]
  have ey : ((cfg0.win 6).blk t).view.emb y = ix2 (row t (y 0)) (y 1) := by
    blk_ext [idx t, row]
  refine ((congrArg _ (eq_ix2 y)).trans (point_narrow m c t (later_narrow t hf) (y 0) (y 1))).trans ?_
  exact (result_at (inX m c) (inR m c) (inW m c) (inG m c) (inB m c) _ _).symm.trans (congrArg (result (inX m c) (inR m c) (inW m c) (inG m c) (inB m c)) ey.symm)

end Cert.Down

end
-- ==== Proof.DownWords.lean ====
/- The feed-forward's down projection: the frame of the program on words. -/
module

public import proofs.«01_k».proof.Defs
public import proofs.«01_k».proof.Proof.Gen.Kernel9
public import proofs.«01_k».proof.Proof.DownFrame

@[expose] public section

set_option maxRecDepth 65536
set_option maxHeartbeats 4000000

noncomputable section

namespace Cert.Down

open Idealize.ShloMosaic Idealize.SL.Sem

/-- The two programs' bodies are one function of the grid point and the buffers. -/
theorem bodies : @Cert.Kernel9.defs₀ Bits _ Cert.Kernel9.Gen.facts
    = @Cert.Kernel9Ideal.defs₀ Bits _ Cert.Kernel9Ideal.Gen.facts := by
  unfold Cert.Kernel9.defs₀ Cert.Kernel9Ideal.defs₀
  refine congrArg Defs.onTc ?_
  funext l a
  match l, a with
  | ⟨0, _⟩, _ => rfl
  | ⟨_ + 1, h⟩, _ => exact absurd h (Nat.not_lt.2 (Nat.le_add_left _ _))

/-- So are their body tables, the launch's pipeline included. -/
theorem table : @Cert.Kernel9.defs Bits _ Cert.Kernel9.Gen.facts
    = @Cert.Kernel9Ideal.defs Bits _ Cert.Kernel9Ideal.Gen.facts :=
  congrArg (Pipeline.defs (Cert.Kernel9Ideal.pcfgs (F := Bits))) bodies

/-- And their main functions. -/
theorem mains : @Cert.Kernel9.main Bits _ Cert.Kernel9.Gen.facts
    = @Cert.Kernel9Ideal.main Bits _ Cert.Kernel9Ideal.Gen.facts := rfl

/-- The program on words runs, leaves its arguments unchanged and every counter at zero: its text is the ideal program's,
    whose run is written for any floats. -/
theorem frame_words : Cert.quiescent_Kernel9 (hKernel9 := Cert.Kernel9.Gen.facts) := by
  intro m g _
  rw [table, mains]
  exact Cert.Kernel9Ideal.Gen.frame (F := Bits) m g

end Cert.Down

end
-- ==== Proof.lean ====
module

public import proofs.«01_k».proof.Defs
public import proofs.«01_k».proof.Proof.Gen.Kernel.Frame
public import proofs.«01_k».proof.Proof.Gen.KernelIdeal.Value
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal.Run
public import proofs.«01_k».proof.Proof.KernelValue
public import proofs.«01_k».proof.Proof.RefLoop
public import proofs.«01_k».proof.Proof.GateValue
public import proofs.«01_k».proof.Proof.MlstmProj
public import proofs.«01_k».proof.Proof.ConvProj
public import proofs.«01_k».proof.Proof.QueryProj
public import proofs.«01_k».proof.Proof.MemoryProj
public import proofs.«01_k».proof.Proof.CrossValue
public import proofs.«01_k».proof.Proof.MixValue
public import proofs.«01_k».proof.Proof.DownValue
public import proofs.«01_k».proof.Proof.DownWords
public import Idealize.ShloMosaic.Adequacy
public import Idealize.ShloMosaic.Init

@[expose] public section

noncomputable section

namespace Cert.Proof

open Idealize.ShloMosaic Idealize.SL.Sem

/-- The reference runs, leaves its arguments unchanged and every counter at zero (it declares none). -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, Idealize.ShloMosaic.sem_eq_zero_of_no_sems (by decide) r.2⟩)
    (Cert.RefLoop.run m g)

/-- Both programs end with the attention of the specification. -/
theorem equal : Cert.algebraic_KernelIdeal_ReferenceIdeal_pre_finite_scores (hKernelIdeal := Cert.KernelIdeal.Gen.facts)
    (hReferenceIdeal := Cert.ReferenceIdeal.Gen.facts) (hPre_finite_scores := Cert.KernelValue.facts) := by
  intro m g m' g' hpre hargs
  refine ⟨fun c => Cert.Spec.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run _ _ _).mono (fun r h c => ⟨(h c).1.trans ?_, (h c).2⟩) (Cert.KernelIdeal.Value.run_blocks m g)
    exact Cert.KernelValue.final m c (Cert.KernelValue.finite _ _ (hpre c))
  · refine (θ_run _ _ _).mono (fun r h c => ⟨(h c).1.trans ?_, (h c).2⟩) (Cert.RefLoop.run m' g')
    rw [(hargs c).1, (hargs c).2]

/-- The reference of the feed-forward's gated activations runs, leaves its arguments unchanged and every counter at zero. -/
theorem reference2_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
        ∧ r.2.sem = fun _ => 0) :=
  (θ_run _ _ _).mono (fun r h => ⟨fun c => (h c).2, Idealize.ShloMosaic.sem_eq_zero_of_no_sems (by decide) r.2⟩)
    (Cert.Reference2Ideal.Value.run m g)

/-- Both programs end with the feed-forward's gated activations. -/
theorem equal2 : Cert.algebraic_Kernel2Ideal_Reference2Ideal (hKernel2Ideal := Cert.Kernel2Ideal.Gen.facts) (hReference2Ideal := Cert.Reference2Ideal.Gen.facts) := by
  intro m g m' g' _ hargs
  refine ⟨fun c => Cert.Gate.result (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), ?_, ?_⟩
  · exact (θ_run _ _ _).mono (fun r h c => ⟨(h c).1.trans (Cert.Gate.final m c), (h c).2⟩) (Cert.Kernel2Ideal.Value.run_blocks m g)
  · refine (θ_run _ _ _).mono (fun r h c => ⟨(h c).1.trans ?_, (h c).2⟩) (Cert.Reference2Ideal.Value.run m' g')
    refine (Cert.Gate.run_result m' c).trans ?_
    rw [(hargs c).1, (hargs c).2.1, (hargs c).2.2.1, (hargs c).2.2.2]

/-- The reference of the mLSTM projection runs, leaves its arguments unchanged and every counter at zero. -/
theorem reference3_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
        ∧ r.2.sem = fun _ => 0) :=
  (θ_run _ _ _).mono (fun r h => ⟨fun c => (h c).2, Idealize.ShloMosaic.sem_eq_zero_of_no_sems (by decide) r.2⟩)
    (Cert.Reference3Ideal.Value.run m g)

/-- Both programs end with the mLSTM projection. -/
theorem equal3 : Cert.algebraic_Kernel3Ideal_Reference3Ideal (hKernel3Ideal := Cert.Kernel3Ideal.Gen.facts) (hReference3Ideal := Cert.Reference3Ideal.Gen.facts) := by
  intro m g m' g' _ hargs
  refine ⟨fun c => Cert.MlstmProj.result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact (θ_run _ _ _).mono (fun r h c => ⟨(h c).1.trans (Cert.MlstmProj.final m c), (h c).2⟩) (Cert.Kernel3Ideal.Value.run_blocks m g)
  · refine (θ_run _ _ _).mono (fun r h c => ⟨(h c).1.trans ?_, (h c).2⟩) (Cert.Reference3Ideal.Value.run m' g')
    rw [(hargs c).1, (hargs c).2]

/-- The reference of the causal convolution's projection runs, leaves its arguments unchanged and every counter at zero. -/
theorem reference4_frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
        ∧ r.2.sem = fun _ => 0) :=
  (θ_run _ _ _).mono (fun r h => ⟨fun c => (h c).2, Idealize.ShloMosaic.sem_eq_zero_of_no_sems (by decide) r.2⟩)
    (Cert.Reference4Ideal.Value.run m g)

/-- Both programs end with the causal convolution's projection. -/
theorem equal4 : Cert.algebraic_Kernel4Ideal_Reference4Ideal (hKernel4Ideal := Cert.Kernel4Ideal.Gen.facts) (hReference4Ideal := Cert.Reference4Ideal.Gen.facts) := by
  intro m g m' g' _ hargs
  refine ⟨fun c => Cert.ConvProj.result (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run _ _ _).mono (fun r h c => ⟨(h c).1.trans (Cert.ConvProj.final m c), (h c).2⟩) (Cert.Kernel4Ideal.Value.run_blocks m g)
  · refine (θ_run _ _ _).mono (fun r h c => ⟨(h c).1.trans ?_, (h c).2⟩) (Cert.Reference4Ideal.Value.run m' g')
    rw [(hargs c).1, (hargs c).2]

/-- The reference of the cross attention's queries runs, leaves its arguments unchanged and every counter at zero. -/
theorem reference5_frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
        ∧ r.2.sem = fun _ => 0) :=
  (θ_run _ _ _).mono (fun r h => ⟨fun c => (h c).2, Idealize.ShloMosaic.sem_eq_zero_of_no_sems (by decide) r.2⟩)
    (Cert.Reference5Ideal.Value.run m g)

/-- Both programs end with the cross attention's queries. -/
theorem equal5 : Cert.algebraic_Kernel5Ideal_Reference5Ideal (hKernel5Ideal := Cert.Kernel5Ideal.Gen.facts) (hReference5Ideal := Cert.Reference5Ideal.Gen.facts) := by
  intro m g m' g' _ hargs
  refine ⟨fun c => Cert.QueryProj.result (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · exact (θ_run _ _ _).mono (fun r h c => ⟨(h c).1.trans (Cert.QueryProj.final m c), (h c).2⟩) (Cert.Kernel5Ideal.Value.run_blocks m g)
  · refine (θ_run _ _ _).mono (fun r h c => ⟨(h c).1.trans ?_, (h c).2⟩) (Cert.Reference5Ideal.Value.run m' g')
    rw [(hargs c).1, (hargs c).2]

/-- The reference of the cross attention's keys and values runs, leaves its arguments unchanged and every counter at zero. -/
theorem reference6_frame (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
        ∧ r.2.sem = fun _ => 0) :=
  (θ_run _ _ _).mono (fun r h => ⟨fun c => (h c).2, Idealize.ShloMosaic.sem_eq_zero_of_no_sems (by decide) r.2⟩)
    (Cert.Reference6Ideal.Value.run m g)

/-- Both programs end with the cross attention's keys and values. -/
theorem equal6 : Cert.algebraic_Kernel6Ideal_Reference6Ideal (hKernel6Ideal := Cert.Kernel6Ideal.Gen.facts) (hReference6Ideal := Cert.Reference6Ideal.Gen.facts) := by
  intro m g m' g' _ hargs
  refine ⟨fun c => Cert.MemoryProj.result (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · exact (θ_run _ _ _).mono (fun r h c => ⟨(h c).1.trans (Cert.MemoryProj.final m c), (h c).2⟩) (Cert.Kernel6Ideal.Value.run_blocks m g)
  · refine (θ_run _ _ _).mono (fun r h c => ⟨(h c).1.trans ?_, (h c).2⟩) (Cert.Reference6Ideal.Value.run m' g')
    rw [(hargs c).1, (hargs c).2]

/-- The reference of the cross attention's output projection runs, leaves its arguments unchanged and every counter at zero. -/
theorem reference7_frame (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩
      (fun r => (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
        ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
        ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
        ∧ r.2.sem = fun _ => 0) :=
  (θ_run _ _ _).mono (fun r h => ⟨fun c => (h c).2.2, Idealize.ShloMosaic.sem_eq_zero_of_no_sems (by decide) r.2⟩)
    (Cert.Reference7Ideal.Value.run m g)

/-- Both programs end with the residual stream after the cross attention, in both widths. -/
theorem equal7 : Cert.algebraic_Kernel7Ideal_Reference7Ideal (hKernel7Ideal := Cert.Kernel7Ideal.Gen.facts) (hReference7Ideal := Cert.Reference7Ideal.Gen.facts) := by
  intro m g m' g' _ hargs
  refine ⟨fun c => Cert.CrossOut.result (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)),
    fun c => Cert.CrossOut.narrow (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), ?_, ?_⟩
  · exact (θ_run _ _ _).mono (fun r h c => ⟨(h c).1.trans (Cert.CrossOut.final m c), (h c).2.1.trans (Cert.CrossOut.final_narrow m c), (h c).2.2⟩)
      (Cert.Kernel7Ideal.Value.run_blocks m g)
  · refine (θ_run _ _ _).mono (fun r h c => ⟨(h c).1.trans ?_, (h c).2.1.trans ?_, (h c).2.2⟩) (Cert.Reference7Ideal.Value.run m' g')
    · refine (Cert.CrossOut.run_result m' c).trans ?_
      rw [(hargs c).1, (hargs c).2.1, (hargs c).2.2.1, (hargs c).2.2.2.1, (hargs c).2.2.2.2]
    · refine (Cert.CrossOut.run_narrow m' c).trans ?_
      rw [(hargs c).1, (hargs c).2.1, (hargs c).2.2.1, (hargs c).2.2.2.1, (hargs c).2.2.2.2]

/-- The reference of the mixer's output projection runs, leaves its arguments unchanged and every counter at zero. -/
theorem reference8_frame (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩
      (fun r => (∀ c : Dev Cert.Reference8Ideal.nD,
        r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
        ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
        ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
        ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
        ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
        ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
        ∧ r.2.sem = fun _ => 0) :=
  (θ_run _ _ _).mono (fun r h => ⟨fun c => (h c).2.2, Idealize.ShloMosaic.sem_eq_zero_of_no_sems (by decide) r.2⟩)
    (Cert.Reference8Ideal.Value.run m g)

/-- Both programs end with the residual stream after the mixer, in both widths. -/
theorem equal8 : Cert.algebraic_Kernel8Ideal_Reference8Ideal (hKernel8Ideal := Cert.Kernel8Ideal.Gen.facts) (hReference8Ideal := Cert.Reference8Ideal.Gen.facts) := by
  intro m g m' g' _ hargs
  refine ⟨fun c => Cert.MixOut.result (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)),
    fun c => Cert.MixOut.narrow (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)), ?_, ?_⟩
  · exact (θ_run _ _ _).mono (fun r h c => ⟨(h c).1.trans (Cert.MixOut.final m c), (h c).2.1.trans (Cert.MixOut.final_narrow m c), (h c).2.2⟩)
      (Cert.Kernel8Ideal.Value.run_blocks m g)
  · refine (θ_run _ _ _).mono (fun r h c => ⟨(h c).1.trans ?_, (h c).2.1.trans ?_, (h c).2.2⟩) (Cert.Reference8Ideal.Value.run m' g')
    · refine (Cert.MixOut.run_result m' c).trans ?_
      rw [(hargs c).1, (hargs c).2.1, (hargs c).2.2.1, (hargs c).2.2.2.1, (hargs c).2.2.2.2.1, (hargs c).2.2.2.2.2.1, (hargs c).2.2.2.2.2.2]
    · refine (Cert.MixOut.run_narrow m' c).trans ?_
      rw [(hargs c).1, (hargs c).2.1, (hargs c).2.2.1, (hargs c).2.2.2.1, (hargs c).2.2.2.2.1, (hargs c).2.2.2.2.2.1, (hargs c).2.2.2.2.2.2]

/-- The reference of the feed-forward's down projection runs, leaves its arguments unchanged and every counter at zero. -/
theorem reference9_frame (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩
      (fun r => (∀ c : Dev Cert.Reference9Ideal.nD,
        r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
        ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
        ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
        ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
        ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
        ∧ r.2.sem = fun _ => 0) :=
  (θ_run _ _ _).mono (fun r h => ⟨fun c => (h c).2.2, Idealize.ShloMosaic.sem_eq_zero_of_no_sems (by decide) r.2⟩)
    (Cert.Reference9Ideal.Value.run m g)

/-- Both programs end with the residual stream after the feed-forward, in both widths. -/
theorem equal9 : Cert.algebraic_Kernel9Ideal_Reference9Ideal (hKernel9Ideal := Cert.Kernel9Ideal.Gen.facts) (hReference9Ideal := Cert.Reference9Ideal.Gen.facts) := by
  intro m g m' g' _ hargs
  refine ⟨fun c => Cert.Down.result (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)),
    fun c => Cert.Down.narrow (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)), ?_, ?_⟩
  · exact (θ_run _ _ _).mono (fun r h c => ⟨(h c).1.trans (Cert.Down.final m c), (h c).2.1.trans (Cert.Down.final_narrow m c), (h c).2.2⟩)
      (Cert.Kernel9Ideal.Value.run_blocks m g)
  · refine (θ_run _ _ _).mono (fun r h c => ⟨(h c).1.trans ?_, (h c).2.1.trans ?_, (h c).2.2⟩) (Cert.Reference9Ideal.Value.run m' g')
    · refine (Cert.Down.run_result m' c).trans ?_
      rw [(hargs c).1, (hargs c).2.1, (hargs c).2.2.1, (hargs c).2.2.2.1, (hargs c).2.2.2.2]
    · refine (Cert.Down.run_narrow m' c).trans ?_
      rw [(hargs c).1, (hargs c).2.1, (hargs c).2.2.1, (hargs c).2.2.2.1, (hargs c).2.2.2.2]

/-- The whole claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.KernelValue.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.Kernel2.Gen.frame m g, fun m g _ => Cert.Kernel2Ideal.Gen.frame m g, fun m g _ => reference2_frame m g,
    fun m g _ => Cert.Kernel3.Gen.frame m g, fun m g _ => Cert.Kernel3Ideal.Gen.frame m g, fun m g _ => reference3_frame m g,
    fun m g _ => Cert.Kernel4.Gen.frame m g, fun m g _ => Cert.Kernel4Ideal.Gen.frame m g, fun m g _ => reference4_frame m g,
    fun m g _ => Cert.Kernel5.Gen.frame m g, fun m g _ => Cert.Kernel5Ideal.Gen.frame m g, fun m g _ => reference5_frame m g,
    fun m g _ => Cert.Kernel6.Gen.frame m g, fun m g _ => Cert.Kernel6Ideal.Gen.frame m g, fun m g _ => reference6_frame m g,
    fun m g _ => Cert.Kernel7.Gen.frame m g, fun m g _ => Cert.Kernel7Ideal.Gen.frame m g, fun m g _ => reference7_frame m g,
    fun m g _ => Cert.Kernel8.Gen.frame m g, fun m g _ => Cert.Kernel8Ideal.Gen.frame m g, fun m g _ => reference8_frame m g,
    Cert.Down.frame_words, fun m g _ => Cert.Kernel9Ideal.Gen.frame m g, fun m g _ => reference9_frame m g,
    trivial, equal,
    trivial, equal2,
    trivial, equal3,
    trivial, equal4,
    trivial, equal5,
    trivial, equal6,
    trivial, equal7,
    trivial, equal8,
    trivial, equal9⟩

end Cert.Proof

end
